-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v68) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v49) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v28) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v90)) (v1 : (c : Dev Cert.Kernel5Ideal.nD) → Buf (Elt Ideal) ((c.tc : Thread Cert.Kernel5Ideal.nD Cert.Kernel5Ideal.τ).loc Cert.Kernel5Ideal.main_v92)) (v2 : (c : Dev Cert.Kernel5Ideal.nD) → Buf (Elt Ideal) ((c.tc : Thread Cert.Kernel5Ideal.nD Cert.Kernel5Ideal.τ).loc Cert.Kernel5Ideal.main_v95)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v90) = v0 c
          ∧ r.2.mem ((c.tc : Thread Cert.Kernel5Ideal.nD Cert.Kernel5Ideal.τ).loc Cert.Kernel5Ideal.main_v92) = v1 c
          ∧ r.2.mem ((c.tc : Thread Cert.Kernel5Ideal.nD Cert.Kernel5Ideal.τ).loc Cert.Kernel5Ideal.main_v95) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v109) = v0 c
          ∧ r.2.mem ((c.tc : Thread Cert.Reference5Ideal.nD Cert.Reference5Ideal.τ).loc Cert.Reference5Ideal.main_v157) = v1 c
          ∧ r.2.mem ((c.tc : Thread Cert.Reference5Ideal.nD Cert.Reference5Ideal.τ).loc Cert.Reference5Ideal.main_v159) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v9)) (v1 : (c : Dev Cert.Kernel6Ideal.nD) → Buf (Elt Ideal) ((c.tc : Thread Cert.Kernel6Ideal.nD Cert.Kernel6Ideal.τ).loc Cert.Kernel6Ideal.main_v11)) (v2 : (c : Dev Cert.Kernel6Ideal.nD) → Buf (Elt Ideal) ((c.tc : Thread Cert.Kernel6Ideal.nD Cert.Kernel6Ideal.τ).loc Cert.Kernel6Ideal.main_v13)) (v3 : (c : Dev Cert.Kernel6Ideal.nD) → Buf (Elt Ideal) ((c.tc : Thread Cert.Kernel6Ideal.nD Cert.Kernel6Ideal.τ).loc Cert.Kernel6Ideal.main_v15)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v9) = v0 c
          ∧ r.2.mem ((c.tc : Thread Cert.Kernel6Ideal.nD Cert.Kernel6Ideal.τ).loc Cert.Kernel6Ideal.main_v11) = v1 c
          ∧ r.2.mem ((c.tc : Thread Cert.Kernel6Ideal.nD Cert.Kernel6Ideal.τ).loc Cert.Kernel6Ideal.main_v13) = v2 c
          ∧ r.2.mem ((c.tc : Thread Cert.Kernel6Ideal.nD Cert.Kernel6Ideal.τ).loc Cert.Kernel6Ideal.main_v15) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v7) = v0 c
          ∧ r.2.mem ((c.tc : Thread Cert.Reference6Ideal.nD Cert.Reference6Ideal.τ).loc Cert.Reference6Ideal.main_v14) = v1 c
          ∧ r.2.mem ((c.tc : Thread Cert.Reference6Ideal.nD Cert.Reference6Ideal.τ).loc Cert.Reference6Ideal.main_v22) = v2 c
          ∧ r.2.mem ((c.tc : Thread Cert.Reference6Ideal.nD Cert.Reference6Ideal.τ).loc Cert.Reference6Ideal.main_v29) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts) (hPre_finite5 : Cert.Pre_finite5.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal (hKernel6Ideal := hKernel6Ideal) (hReference6Ideal := hReference6Ideal)
-- ==== Pre_finite.lean ====
abbrev S16384x1024 : Shape := ⟨2, ![16384, 1024]⟩
abbrev S256x256 : Shape := ⟨2, ![256, 256]⟩
abbrev S16384x256 : Shape := ⟨2, ![16384, 256]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S16384x256 : S_.BroadcastsInDim S16384x256 (![] : Fin 0 → Fin S16384x256.rank)
  reducesTo_S16384x256_S_d0_1 : S16384x256.ReducesTo [0, 1] S_

variable [Facts]

def fn {F : FTy → Type} [FloatOps F] (main_arg0 : FVec F S16384x1024 .f32) (main_arg1 : FVec F S256x256 .f32) (main_arg2 : FVec F S256x256 .f32) (main_arg3 : FVec F S16384x256 .f32) (main_arg4 : FVec F S16384x256 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S16384x256 .f32 := Host.absf main_arg3
  let main_cst_2 : FVec F S_ .f32 := constant S_ .f32 0x7F800000#32
  let main_v10 : FVec F S16384x256 .f32 := broadcastInDim S16384x256 ![] bcast_S_S16384x256 main_cst_2
  let main_v11 : IVec S16384x256 1 := cmpf .olt main_v9 main_v10
  let main_c_3 : IVec S_ 1 := constantI S_ 1 1#1
  let main_v12 : IVec S_ 1 := (fun x v => Host.reduce IntOp.andi x v reducesTo_S16384x256_S_d0_1 h_S_) main_v11 main_c_3
  let main_v13 : IVec S_ 1 := andi main_v8 main_v12
  main_v13
-- ==== Pre_finite5.lean ====
abbrev S16384x1024 : Shape := ⟨2, ![16384, 1024]⟩
abbrev S6144 : Shape := ⟨1, ![6144]⟩
abbrev S4x1024 : Shape := ⟨2, ![4, 1024]⟩
abbrev S1024x1536 : Shape := ⟨2, ![1024, 1536]⟩
abbrev S64 : Shape := ⟨1, ![64]⟩
abbrev S2048 : Shape := ⟨1, ![2048]⟩
abbrev S_ : Shape := ⟨0, ![]⟩
abbrev S1x1024 : Shape := ⟨2, ![1, 1024]⟩
abbrev S1024 : Shape := ⟨1, ![1024]⟩
abbrev S1024x1280 : Shape := ⟨2, ![1024, 1280]⟩

class Facts : Prop where
  slices_S6144_S2048_0 : S6144.Slices ![0] S2048
  bcast_S_S2048 : S_.BroadcastsInDim S2048 (![] : Fin 0 → Fin S2048.rank)
  reducesTo_S2048_S_d0 : S2048.ReducesTo [0] S_
  h_S_ : 0 < S_.numel
  slices_S4x1024_S1x1024_0_0 : S4x1024.Slices ![0, 0] S1x1024
  shapeCasts_S1x1024_S1024 : S1x1024.ShapeCasts S1024
  bcast_S_S1024 : S_.BroadcastsInDim S1024 (![] : Fin 0 → Fin S1024.rank)
  reducesTo_S1024_S_d0 : S1024.ReducesTo [0] S_
  slices_S1024x1536_S1024x1280_0_0 : S1024x1536.Slices ![0, 0] S1024x1280
  bcast_S_S1024x1280 : S_.BroadcastsInDim S1024x1280 (![] : Fin 0 → Fin S1024x1280.rank)
  reducesTo_S1024x1280_S_d0_1 : S1024x1280.ReducesTo [0, 1] S_

variable [Facts]

def fn {F : FTy → Type} [FloatOps F] (main_arg0 : FVec F S16384x1024 .f32) (main_arg1 : FVec F S6144 .f32) (main_arg2 : FVec F S4x1024 .f32) (main_arg3 : FVec F S1024x1536 .f32) (main_arg4 : FVec F S64 .f32) (main_arg5 : FVec F S64 .f32) : IVec S_ 1 :=
  let main_v0 : FVec F S2048 .f32 := (extractStridedSlice S2048 ![0] · slices_S6144_S2048_0) main_arg1
  let main_v1 : FVec F S2048 .f32 := Host.absf main_v0
  let main_cst : FVec F S_ .f32 := constant S_ .f32 0x7F800000#32
  let main_v2 : FVec F S2048 .f32 := broadcastInDim S2048 ![] bcast_S_S2048 main_cst
  let main_v3 : IVec S2048 1 := cmpf .olt main_v1 main_v2
  let main_c : IVec S_ 1 := constantI S_ 1 1#1
  let main_v4 : IVec S_ 1 := (fun x v => Host.reduce IntOp.andi x v reducesTo_S2048_S_d0 h_S_) main_v3 main_c
  let main_v5 : FVec F S1x1024 .f32 := (extractStridedSlice S1x1024 ![0, 0] · slices_S4x1024_S1x1024_0_0) main_arg2
  let main_v6 : FVec F S1024 .f32 := shapeCast S1024 main_v5 shapeCasts_S1x1024_S1024
  let main_v7 : FVec F S1024 .f32 := Host.absf main_v6
  let main_cst_0 : FVec F S_ .f32 := constant S_ .f32 0x7F800000#32
  let main_v8 : FVec F S1024 .f32 := broadcastInDim S1024 ![] bcast_S_S1024 main_cst_0
  let main_v9 : IVec S1024 1 := cmpf .olt main_v7 main_v8
  let main_c_1 : IVec S_ 1 := constantI S_ 1 1#1
  let main_v10 : IVec S_ 1 := (fun x v => Host.reduce IntOp.andi x v reducesTo_S1024_S_d0 h_S_) main_v9 main_c_1
  let main_v11 : IVec S_ 1 := andi main_v4 main_v10
  let main_v12 : FVec F S1024x1280 .f32 := (extractStridedSlice S1024x1280 ![0, 0] · slices_S1024x1536_S1024x1280_0_0) main_arg3
  let main_v13 : FVec F S1024x1280 .f32 := Host.absf main_v12
  let main_cst_2 : FVec F S_ .f32 := constant S_ .f32 0x7F800000#32
  let main_v14 : FVec F S1024x1280 .f32 := broadcastInDim S1024x1280 ![] bcast_S_S1024x1280 main_cst_2
  let main_v15 : IVec S1024x1280 1 := cmpf .olt main_v13 main_v14
  let main_c_3 : IVec S_ 1 := constantI S_ 1 1#1
  let main_v16 : IVec S_ 1 := (fun x v => Host.reduce IntOp.andi x v reducesTo_S1024x1280_S_d0_1 h_S_) main_v15 main_c_3
  let main_v17 : IVec S_ 1 := andi main_v11 main_v16
  main_v17
-- ==== Kernel.lean ====
abbrev S16384x1024 : Shape := ⟨2, ![16384, 1024]⟩
abbrev S256x256 : Shape := ⟨2, ![256, 256]⟩
abbrev S16384x256 : Shape := ⟨2, ![16384, 256]⟩
abbrev S_ : Shape := ⟨0, ![]⟩
abbrev S1024x16384 : Shape := ⟨2, ![1024, 16384]⟩
abbrev S256x4x64 : Shape := ⟨3, ![256, 4, 64]⟩
abbrev S4x256x64 : Shape := ⟨3, ![4, 256, 64]⟩
abbrev S4x64x256 : Shape := ⟨3, ![4, 64, 256]⟩
abbrev S4x1x256 : Shape := ⟨3, ![4, 1, 256]⟩
abbrev S4x15x256 : Shape := ⟨3, ![4, 15, 256]⟩
abbrev S4x80x256 : Shape := ⟨3, ![4, 80, 256]⟩
abbrev S16384x4x64 : Shape := ⟨3, ![16384, 4, 64]⟩
abbrev S4x16384x64 : Shape := ⟨3, ![4, 16384, 64]⟩
abbrev S4x64x16384 : Shape := ⟨3, ![4, 64, 16384]⟩
abbrev S4x1x16384 : Shape := ⟨3, ![4, 1, 16384]⟩
abbrev S4x15x16384 : Shape := ⟨3, ![4, 15, 16384]⟩
abbrev S4x80x16384 : Shape := ⟨3, ![4, 80, 16384]⟩
abbrev S256x512 : Shape := ⟨2, ![256, 512]⟩
abbrev S1x256x64 : Shape := ⟨3, ![1, 256, 64]⟩
abbrev S1x80x256 : Shape := ⟨3, ![1, 80, 256]⟩
abbrev S1x16384x64 : Shape := ⟨3, ![1, 16384, 64]⟩
abbrev S1x80x16384 : Shape := ⟨3, ![1, 80, 16384]⟩
abbrev S512x256 : Shape := ⟨2, ![512, 256]⟩
abbrev S4x1024x512 : Shape := ⟨3, ![4, 1024, 512]⟩
abbrev S2x4x1x512 : Shape := ⟨4, ![2, 4, 1, 512]⟩
abbrev S4x1x512 : Shape := ⟨3, ![4, 1, 512]⟩
abbrev S4x80x512 : Shape := ⟨3, ![4, 80, 512]⟩
abbrev S256x64 : Shape := ⟨2, ![256, 64]⟩
abbrev S64x512 : Shape := ⟨2, ![64, 512]⟩
abbrev S80x256 : Shape := ⟨2, ![80, 256]⟩
abbrev S80x512 : Shape := ⟨2, ![80, 512]⟩
abbrev S1x80x512 : Shape := ⟨3, ![1, 80, 512]⟩
abbrev S1x1024x64 : Shape := ⟨3, ![1, 1024, 64]⟩
abbrev S1024x64 : Shape := ⟨2, ![1024, 64]⟩
abbrev S1024x512 : Shape := ⟨2, ![1024, 512]⟩
abbrev S1x1024x512 : Shape := ⟨3, ![1, 1024, 512]⟩
abbrev S1x80x1024 : Shape := ⟨3, ![1, 80, 1024]⟩
abbrev S80x1024 : Shape := ⟨2, ![80, 1024]⟩
abbrev S1x64x512 : Shape := ⟨3, ![1, 64, 512]⟩
abbrev S1x1x512 : Shape := ⟨3, ![1, 1, 512]⟩
abbrev S1x512 : Shape := ⟨2, ![1, 512]⟩

abbrev nBuf : Space → Nat
  | .hbm => 36
  | .vmem => 15
  | .smem => 0
  | _ => 0

abbrev bufTy : (tb : Table) → Fin (tcTables nBuf tb) → BufTy
  | .hbm, ⟨0, _⟩ => ⟨S16384x1024, .f32⟩
  | .hbm, ⟨1, _⟩ => ⟨S256x256, .f32⟩
  | .hbm, ⟨2, _⟩ => ⟨S256x256, .f32⟩
  | .hbm, ⟨3, _⟩ => ⟨S16384x256, .f32⟩
  | .hbm, ⟨4, _⟩ => ⟨S16384x256, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S16384x1024, .f32⟩
  | .hbm, ⟨10, _⟩ => ⟨S16384x1024, .f32⟩
  | .hbm, ⟨11, _⟩ => ⟨S1024x16384, .f32⟩
  | .hbm, ⟨12, _⟩ => ⟨S1024x16384, .bf16⟩
  | .hbm, ⟨13, _⟩ => ⟨S256x4x64, .f32⟩
  | .hbm, ⟨14, _⟩ => ⟨S4x256x64, .f32⟩
  | .hbm, ⟨15, _⟩ => ⟨S4x256x64, .bf16⟩
  | .hbm, ⟨16, _⟩ => ⟨S256x4x64, .f32⟩
  | .hbm, ⟨17, _⟩ => ⟨S4x64x256, .f32⟩
  | .hbm, ⟨18, _⟩ => ⟨S_, .f32⟩
  | .hbm, ⟨19, _⟩ => ⟨S4x1x256, .f32⟩
  | .hbm, ⟨20, _⟩ => ⟨S_, .f32⟩
  | .hbm, ⟨21, _⟩ => ⟨S4x15x256, .f32⟩
  | .hbm, ⟨22, _⟩ => ⟨S4x80x256, .f32⟩
  | .hbm, ⟨23, _⟩ => ⟨S4x80x256, .bf16⟩
  | .hbm, ⟨24, _⟩ => ⟨S16384x4x64, .f32⟩
  | .hbm, ⟨25, _⟩ => ⟨S4x16384x64, .f32⟩
  | .hbm, ⟨26, _⟩ => ⟨S4x16384x64, .bf16⟩
  | .hbm, ⟨27, _⟩ => ⟨S16384x4x64, .f32⟩
  | .hbm, ⟨28, _⟩ => ⟨S4x64x16384, .f32⟩
  | .hbm, ⟨29, _⟩ => ⟨S_, .f32⟩
  | .hbm, ⟨30, _⟩ => ⟨S4x1x16384, .f32⟩
  | .hbm, ⟨31, _⟩ => ⟨S_, .f32⟩
  | .hbm, ⟨32, _⟩ => ⟨S4x15x16384, .f32⟩
  | .hbm, ⟨33, _⟩ => ⟨S4x80x16384, .f32⟩
  | .hbm, ⟨34, _⟩ => ⟨S4x80x16384, .bf16⟩
  | .hbm, ⟨35, _⟩ => ⟨S16384x1024, .bf16⟩
  | .local _ .vmem, ⟨0, _⟩ => ⟨S256x512, .bf16⟩
  | .local _ .vmem, ⟨1, _⟩ => ⟨S256x512, .bf16⟩
  | .local _ .vmem, ⟨2, _⟩ => ⟨S1x256x64, .bf16⟩
  | .local _ .vmem, ⟨3, _⟩ => ⟨S1x256x64, .bf16⟩
  | .local _ .vmem, ⟨4, _⟩ => ⟨S1x80x256, .bf16⟩
  | .local _ .vmem, ⟨5, _⟩ => ⟨S1x80x256, .bf16⟩
  | .local _ .vmem, ⟨6, _⟩ => ⟨S1x16384x64, .bf16⟩
  | .local _ .vmem, ⟨7, _⟩ => ⟨S1x80x16384, .bf16⟩
  | .local _ .vmem, ⟨8, _⟩ => ⟨S512x256, .bf16⟩
  | .local _ .vmem, ⟨9, _⟩ => ⟨S512x256, .bf16⟩
  | .local _ .vmem, ⟨10, _⟩ => ⟨S4x1024x512, .bf16⟩
  | .local _ .vmem, ⟨11, _⟩ => ⟨S4x1024x512, .bf16⟩
  | .local _ .vmem, ⟨12, _⟩ => ⟨S2x4x1x512, .f32⟩
  | .local _ .vmem, ⟨13, _⟩ => ⟨S4x1x512, .f32⟩
  | .local _ .vmem, ⟨14, _⟩ => ⟨S4x80x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 32], ![false, false]⟩

def k0_mult1 : BitVec 32 :=
  let c0_i32 : BitVec 32 := 0#32
  c0_i32
@[reducible] def k0_t1_loop : Scf.Loop 32 :=
  let c0_i32_68 : BitVec 32 := 0#32
  let c7_i32 : BitVec 32 := 7#32
  let v92 : BitVec 32 := Scalar.addi c0_i32_68 c7_i32
  let c1_i32 : BitVec 32 := 1#32
  ⟨c0_i32_68, v92, c1_i32⟩
def k0_mult2 (k0_t1 : Fin k0_t1_loop.trips) : BitVec 32 :=
  let c2_i32 : BitVec 32 := 2#32
  let c0_i32_68 : BitVec 32 := 0#32
  let c1_i32 : BitVec 32 := 1#32
  let arg13 : BitVec 32 := Scf.iv c0_i32_68 c1_i32 k0_t1
  let v237 : BitVec 32 := Scalar.muli c2_i32 arg13
  let c1_i32_207 : BitVec 32 := 1#32
  let v238 : BitVec 32 := Scalar.addi v237 c1_i32_207
  let c1024_i32 : BitVec 32 := 1024#32
  let v239 : BitVec 32 := Scalar.muli v238 c1024_i32
  v239
def k0_off1 (k0_t1 : Fin k0_t1_loop.trips) (c1_i32_207 : BitVec 32) : Fin 3 → Nat :=
  let c0_208 : Index := 0#32
  let c2_i32 : BitVec 32 := 2#32
  let c0_i32_68 : BitVec 32 := 0#32
  let c1_i32 : BitVec 32 := 1#32
  let arg13 : BitVec 32 := Scf.iv c0_i32_68 c1_i32 k0_t1
  let v237 : BitVec 32 := Scalar.muli c2_i32 arg13
  let v238 : BitVec 32 := Scalar.addi v237 c1_i32_207
  let c1024_i32 : BitVec 32 := 1024#32
  let v239 : BitVec 32 := Scalar.muli v238 c1024_i32
  let v240 : BitVec 32 := v239
  let v241 : Index := Scalar.indexCast v240
  let c0_209 : Index := 0#32
  ![0, v241.toNat, 0]
def k0_mult3 (k0_t1 : Fin k0_t1_loop.trips) : BitVec 32 :=
  let c2_i32_234 : BitVec 32 := 2#32
  let c0_i32_68 : BitVec 32 := 0#32
  let c1_i32 : BitVec 32 := 1#32
  let arg13 : BitVec 32 := Scf.iv c0_i32_68 c1_i32 k0_t1
  let v276 : BitVec 32 := Scalar.muli c2_i32_234 arg13
  let c1024_i32_235 : BitVec 32 := 1024#32
  let v277 : BitVec 32 := Scalar.muli v276 c1024_i32_235
  v277
def k0_off2 (k0_t1 : Fin k0_t1_loop.trips) : Fin 3 → Nat :=
  let c0_236 : Index := 0#32
  let c0_237 : Index := 0#32
  let c2_i32_234 : BitVec 32 := 2#32
  let c0_i32_68 : BitVec 32 := 0#32
  let c1_i32 : BitVec 32 := 1#32
  let arg13 : BitVec 32 := Scf.iv c0_i32_68 c1_i32 k0_t1
  let v276 : BitVec 32 := Scalar.muli c2_i32_234 arg13
  let c1024_i32_235 : BitVec 32 := 1024#32
  let v277 : BitVec 32 := Scalar.muli v276 c1024_i32_235
  let v278 : BitVec 32 := v277
  let v279 : Index := Scalar.indexCast v278
  ![0, 0, v279.toNat]
def k0_mult4 (k0_t1 : Fin k0_t1_loop.trips) : BitVec 32 :=
  let c2_i32_278 : BitVec 32 := 2#32
  let c0_i32_68 : BitVec 32 := 0#32
  let c1_i32 : BitVec 32 := 1#32
  let arg13 : BitVec 32 := Scf.iv c0_i32_68 c1_i32 k0_t1
  let v318 : BitVec 32 := Scalar.muli c2_i32_278 arg13
  let c2_i32_279 : BitVec 32 := 2#32
  let v319 : BitVec 32 := Scalar.addi v318 c2_i32_279
  let c1024_i32_280 : BitVec 32 := 1024#32
  let v320 : BitVec 32 := Scalar.muli v319 c1024_i32_280
  v320
def k0_mult5 (k0_t1 : Fin k0_t1_loop.trips) : BitVec 32 :=
  let c2_i32_307 : BitVec 32 := 2#32
  let c0_i32_68 : BitVec 32 := 0#32
  let c1_i32 : BitVec 32 := 1#32
  let arg13 : BitVec 32 := Scf.iv c0_i32_68 c1_i32 k0_t1
  let v357 : BitVec 32 := Scalar.muli c2_i32_307 arg13
  let c1_i32_308 : BitVec 32 := 1#32
  let v358 : BitVec 32 := Scalar.addi v357 c1_i32_308
  let c1024_i32_309 : BitVec 32 := 1024#32
  let v359 : BitVec 32 := Scalar.muli v358 c1024_i32_309
  v359
def k0_off3 (k0_t1 : Fin k0_t1_loop.trips) : Fin 3 → Nat :=
  let c0_310 : Index := 0#32
  let c0_311 : Index := 0#32
  let c2_i32_307 : BitVec 32 := 2#32
  let c0_i32_68 : BitVec 32 := 0#32
  let c1_i32 : BitVec 32 := 1#32
  let arg13 : BitVec 32 := Scf.iv c0_i32_68 c1_i32 k0_t1
  let v357 : BitVec 32 := Scalar.muli c2_i32_307 arg13
  let c1_i32_308 : BitVec 32 := 1#32
  let v358 : BitVec 32 := Scalar.addi v357 c1_i32_308
  let c1024_i32_309 : BitVec 32 := 1024#32
  let v359 : BitVec 32 := Scalar.muli v358 c1024_i32_309
  let v360 : BitVec 32 := v359
  let v361 : Index := Scalar.indexCast v360
  ![0, 0, v361.toNat]
def k0_mult6 : BitVec 32 :=
  let c15360_i32 : BitVec 32 := 15360#32
  c15360_i32
def k0_mult7 : BitVec 32 :=
  let c14336_i32 : BitVec 32 := 14336#32
  c14336_i32
def k0_mult8 : BitVec 32 :=
  let c15360_i32_138 : BitVec 32 := 15360#32
  c15360_i32_138
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x80x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x16384x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1x80x16384 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S16384x1024 : Shape := ⟨2, ![16384, 1024]⟩
abbrev S256x256 : Shape := ⟨2, ![256, 256]⟩
abbrev S16384x256 : Shape := ⟨2, ![16384, 256]⟩
abbrev S16640x256 : Shape := ⟨2, ![16640, 256]⟩
abbrev S16640x4x64 : Shape := ⟨3, ![16640, 4, 64]⟩
abbrev S16384x4x4x64 : Shape := ⟨4, ![16384, 4, 4, 64]⟩
abbrev S4x16640x16384x4 : Shape := ⟨4, ![4, 16640, 16384, 4]⟩
abbrev S4x4x16384x16640 : Shape := ⟨4, ![4, 4, 16384, 16640]⟩
abbrev S_ : Shape := ⟨0, ![]⟩
abbrev S4x4x16384 : Shape := ⟨3, ![4, 4, 16384]⟩
abbrev S4x4x16384x1 : Shape := ⟨4, ![4, 4, 16384, 1]⟩
abbrev S4x64x4x16384 : Shape := ⟨4, ![4, 64, 4, 16384]⟩

abbrev nBuf : Space → Nat
  | .hbm => 33
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S256x256, .f32⟩
  | .hbm, ⟨2, _⟩ => ⟨S256x256, .f32⟩
  | .hbm, ⟨3, _⟩ => ⟨S16384x256, .f32⟩
  | .hbm, ⟨4, _⟩ => ⟨S16384x256, .f32⟩
  | .hbm, ⟨5, _⟩ => ⟨S16640x256, .f32⟩
  | .hbm, ⟨6, _⟩ => ⟨S16640x4x64, .f32⟩
  | .hbm, ⟨7, _⟩ => ⟨S16640x256, .f32⟩
  | .hbm, ⟨8, _⟩ => ⟨S16640x4x64, .f32⟩
  | .hbm, ⟨9, _⟩ => ⟨S16384x4x4x64, .f32⟩
  | .hbm, ⟨10, _⟩ => ⟨S4x16640x16384x4, .f32⟩
  | .hbm, ⟨11, _⟩ => ⟨S4x4x16384x16640, .f32⟩
  | .hbm, ⟨12, _⟩ => ⟨S_, .f32⟩
  | .hbm, ⟨13, _⟩ => ⟨S4x4x16384x16640, .f32⟩
  | .hbm, ⟨14, _⟩ => ⟨S4x4x16384x16640, .f32⟩
  | .hbm, ⟨15, _⟩ => ⟨S_, .f32⟩
  | .hbm, ⟨16, _⟩ => ⟨S4x4x16384, .f32⟩
  | .hbm, ⟨17, _⟩ => ⟨S_, .f32⟩
  | .hbm, ⟨18, _⟩ => ⟨S4x4x16384, .f32⟩
  | .hbm, ⟨19, _⟩ => ⟨S4x4x16384, .f32⟩
  | .hbm, ⟨20, _⟩ => ⟨S4x4x16384x1, .f32⟩
  | .hbm, ⟨21, _⟩ => ⟨S4x4x16384x16640, .f32⟩
  | .hbm, ⟨22, _⟩ => ⟨S4x4x16384x16640, .f32⟩
  | .hbm, ⟨23, _⟩ => ⟨S4x4x16384x16640, .f32⟩
  | .hbm, ⟨24, _⟩ => ⟨S_, .f32⟩
  | .hbm, ⟨25, _⟩ => ⟨S4x4x16384, .f32⟩
  | .hbm, ⟨26, _⟩ => ⟨S4x4x16384x1, .f32⟩
  | .hbm, ⟨27, _⟩ => ⟨S4x4x16384x16640, .f32⟩
  | .hbm, ⟨28, _⟩ => ⟨S4x4x16384x16640, .f32⟩
  | .hbm, ⟨29, _⟩ => ⟨S4x64x4x16384, .f32⟩
  | .hbm, ⟨30, _⟩ => ⟨S16384x4x4x64, .f32⟩
  | .hbm, ⟨31, _⟩ => ⟨S16384x1024, .f32⟩
  | .hbm, ⟨32, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== Kernel2.lean ====
abbrev S16384x1024 : Shape := ⟨2, ![16384, 1024]⟩
abbrev S1024x1024 : Shape := ⟨2, ![1024, 1024]⟩
abbrev S6144 : Shape := ⟨1, ![6144]⟩
abbrev S4x1024 : Shape := ⟨2, ![4, 1024]⟩
abbrev S1024x4096 : Shape := ⟨2, ![1024, 4096]⟩
abbrev S4096x1024 : Shape := ⟨2, ![4096, 1024]⟩
abbrev S6x1024 : Shape := ⟨2, ![6, 1024]⟩
abbrev S_ : Shape := ⟨0, ![]⟩
abbrev S8x1024 : Shape := ⟨2, ![8, 1024]⟩
abbrev S512x1024 : Shape := ⟨2, ![512, 1024]⟩
abbrev S1x1024 : Shape := ⟨2, ![1, 1024]⟩
abbrev S512 : Shape := ⟨1, ![512]⟩
abbrev S512x1 : Shape := ⟨2, ![512, 1]⟩

abbrev nBuf : Space → Nat
  | .hbm => 16
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024x1024, .f32⟩
  | .hbm, ⟨3, _⟩ => ⟨S6144, .f32⟩
  | .hbm, ⟨4, _⟩ => ⟨S4x1024, .f32⟩
  | .hbm, ⟨5, _⟩ => ⟨S1024x4096, .f32⟩
  | .hbm, ⟨6, _⟩ => ⟨S4096x1024, .f32⟩
  | .hbm, ⟨7, _⟩ => ⟨S6x1024, .f32⟩
  | .hbm, ⟨8, _⟩ => ⟨S_, .i32⟩
  | .hbm, ⟨9, _⟩ => ⟨S_, .f32⟩
  | .hbm, ⟨10, _⟩ => ⟨S8x1024, .f32⟩
  | .hbm, ⟨11, _⟩ => ⟨S1024x4096, .bf16⟩
  | .hbm, ⟨12, _⟩ => ⟨S4096x1024, .bf16⟩
  | .hbm, ⟨13, _⟩ => ⟨S16384x1024, .bf16⟩
  | .hbm, ⟨14, _⟩ => ⟨S1024x1024, .bf16⟩
  | .hbm, ⟨15, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S8x1024, .f32⟩
  | .local _ .vmem, ⟨6, _⟩ => ⟨S4x1024, .f32⟩
  | .local _ .vmem, ⟨7, _⟩ => ⟨S1024x4096, .bf16⟩
  | .local _ .vmem, ⟨8, _⟩ => ⟨S4096x1024, .bf16⟩
  | .local _ .vmem, ⟨9, _⟩ => ⟨S512x1024, .f32⟩
  | .local _ .vmem, ⟨10, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4096x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference2Ideal.lean ====
abbrev S16384x1024 : Shape := ⟨2, ![16384, 1024]⟩
abbrev S1024x1024 : Shape := ⟨2, ![1024, 1024]⟩
abbrev S6144 : Shape := ⟨1, ![6144]⟩
abbrev S4x1024 : Shape := ⟨2, ![4, 1024]⟩
abbrev S1024x4096 : Shape := ⟨2, ![1024, 4096]⟩
abbrev S4096x1024 : Shape := ⟨2, ![4096, 1024]⟩
abbrev S1x6144 : Shape := ⟨2, ![1, 6144]⟩
abbrev S1x1024 : Shape := ⟨2, ![1, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S16384x4096 : Shape := ⟨2, ![16384, 4096]⟩

abbrev nBuf : Space → Nat
  | .hbm => 88
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024x1024, .f32⟩
  | .hbm, ⟨3, _⟩ => ⟨S6144, .f32⟩
  | .hbm, ⟨4, _⟩ => ⟨S4x1024, .f32⟩
  | .hbm, ⟨5, _⟩ => ⟨S1024x4096, .f32⟩
  | .hbm, ⟨6, _⟩ => ⟨S4096x1024, .f32⟩
  | .hbm, ⟨7, _⟩ => ⟨S1x6144, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S16384x1024, .f32⟩
  | .hbm, ⟨15, _⟩ => ⟨S1x1024, .f32⟩
  | .hbm, ⟨16, _⟩ => ⟨S1024, .f32⟩
  | .hbm, ⟨17, _⟩ => ⟨S16384x1024, .f32⟩
  | .hbm, ⟨18, _⟩ => ⟨S_, .f32⟩
  | .hbm, ⟨19, _⟩ => ⟨S16384, .f32⟩
  | .hbm, ⟨20, _⟩ => ⟨S16384x1, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S_, .f32⟩
  | .hbm, ⟨25, _⟩ => ⟨S16384x1, .f32⟩
  | .hbm, ⟨26, _⟩ => ⟨S16384x1, .f32⟩
  | .hbm, ⟨27, _⟩ => ⟨S16384x1, .f32⟩
  | .hbm, ⟨28, _⟩ => ⟨S16384x1024, .f32⟩
  | .hbm, ⟨29, _⟩ => ⟨S16384x1024, .f32⟩
  | .hbm, ⟨30, _⟩ => ⟨S1x1024, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S1x1024, .f32⟩
  | .hbm, ⟨37, _⟩ => ⟨S1024, .f32⟩
  | .hbm, ⟨38, _⟩ => ⟨S16384x1024, .f32⟩
  | .hbm, ⟨39, _⟩ => ⟨S_, .f32⟩
  | .hbm, ⟨40, _⟩ => ⟨S16384, .f32⟩
  | .hbm, ⟨41, _⟩ => ⟨S16384x1, .f32⟩
  | .hbm, ⟨42, _⟩ => ⟨S_, .f32⟩
  | .hbm, ⟨43, _⟩ => ⟨S16384x1, .f32⟩
  | .hbm, ⟨44, _⟩ => ⟨S16384x1, .f32⟩
  | .hbm, ⟨45, _⟩ => ⟨S_, .f32⟩
  | .hbm, ⟨46, _⟩ => ⟨S16384x1, .f32⟩
  | .hbm, ⟨47, _⟩ => ⟨S16384x1, .f32⟩
  | .hbm, ⟨48, _⟩ => ⟨S16384x1, .f32⟩
  | .hbm, ⟨49, _⟩ => ⟨S16384x1024, .f32⟩
  | .hbm, ⟨50, _⟩ => ⟨S16384x1024, .f32⟩
  | .hbm, ⟨51, _⟩ => ⟨S1x1024, .f32⟩
  | .hbm, ⟨52, _⟩ => ⟨S16384x1024, .f32⟩
  | .hbm, ⟨53, _⟩ => ⟨S16384x1024, .f32⟩
  | .hbm, ⟨54, _⟩ => ⟨S_, .f32⟩
  | .hbm, ⟨55, _⟩ => ⟨S1x1024, .f32⟩
  | .hbm, ⟨56, _⟩ => ⟨S1x1024, .f32⟩
  | .hbm, ⟨57, _⟩ => ⟨S16384x1024, .f32⟩
  | .hbm, ⟨58, _⟩ => ⟨S16384x1024, .f32⟩
  | .hbm, ⟨59, _⟩ => ⟨S16384x1024, .f32⟩
  | .hbm, ⟨60, _⟩ => ⟨S16384x1024, .f32⟩
  | .hbm, ⟨61, _⟩ => ⟨S16384x4096, .f32⟩
  | .hbm, ⟨62, _⟩ => ⟨S_, .f32⟩
  | .hbm, ⟨63, _⟩ => ⟨S16384x4096, .f32⟩
  | .hbm, ⟨64, _⟩ => ⟨S16384x4096, .f32⟩
  | .hbm, ⟨65, _⟩ => ⟨S16384x4096, .f32⟩
  | .hbm, ⟨66, _⟩ => ⟨S16384x1024, .f32⟩
  | .hbm, ⟨67, _⟩ => ⟨S1x1024, .f32⟩
  | .hbm, ⟨68, _⟩ => ⟨S1024, .f32⟩
  | .hbm, ⟨69, _⟩ => ⟨S16384x1024, .f32⟩
  | .hbm, ⟨70, _⟩ => ⟨S_, .f32⟩
  | .hbm, ⟨71, _⟩ => ⟨S16384, .f32⟩
  | .hbm, ⟨72, _⟩ => ⟨S16384x1, .f32⟩
  | .hbm, ⟨73, _⟩ => ⟨S_, .f32⟩
  | .hbm, ⟨74, _⟩ => ⟨S16384x1, .f32⟩
  | .hbm, ⟨75, _⟩ => ⟨S16384x1, .f32⟩
  | .hbm, ⟨76, _⟩ => ⟨S_, .f32⟩
  | .hbm, ⟨77, _⟩ => ⟨S16384x1, .f32⟩
  | .hbm, ⟨78, _⟩ => ⟨S16384x1, .f32⟩
  | .hbm, ⟨79, _⟩ => ⟨S16384x1, .f32⟩
  | .hbm, ⟨80, _⟩ => ⟨S16384x1024, .f32⟩
  | .hbm, ⟨81, _⟩ => ⟨S16384x1024, .f32⟩
  | .hbm, ⟨82, _⟩ => ⟨S1x1024, .f32⟩
  | .hbm, ⟨83, _⟩ => ⟨S16384x1024, .f32⟩
  | .hbm, ⟨84, _⟩ => ⟨S16384x1024, .f32⟩
  | .hbm, ⟨85, _⟩ => ⟨S16384x1024, .f32⟩
  | .hbm, ⟨86, _⟩ => ⟨S16384x1024, .f32⟩
  | .hbm, ⟨87, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_2 : Ref sig .tc := ⟨.hbm, 39, rfl⟩
abbrev main_v29 : Ref sig .tc := ⟨.hbm, 40, rfl⟩
abbrev main_v30 : Ref sig .tc := ⟨.hbm, 41, rfl⟩
abbrev main_cst_3 : Ref sig .tc := ⟨.hbm, 42, rfl⟩
abbrev main_v31 : Ref sig .tc := ⟨.hbm, 43, rfl⟩
abbrev main_v32 : Ref sig .tc := ⟨.hbm, 44, rfl⟩
abbrev main_cst_4 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_5 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_call0_cst : Ref sig .tc := ⟨.hbm, 62, rfl⟩
abbrev main_call0_v0 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_6 : Ref sig .tc := ⟨.hbm, 70, rfl⟩
abbrev main_v54 : Ref sig .tc := ⟨.hbm, 71, rfl⟩
abbrev main_v55 : Ref sig .tc := ⟨.hbm, 72, rfl⟩
abbrev main_cst_7 : Ref sig .tc := ⟨.hbm, 73, rfl⟩
abbrev main_v56 : Ref sig .tc := ⟨.hbm, 74, rfl⟩
abbrev main_v57 : Ref sig .tc := ⟨.hbm, 75, rfl⟩
abbrev main_cst_8 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩

abbrev nD : Nat := 1
abbrev τ : Topo := Topo.v7x

variable {F : FTy → Type} [FloatOps F]
-- ==== Kernel3.lean ====
abbrev S16384x1024 : Shape := ⟨2, ![16384, 1024]⟩
abbrev S6144 : Shape := ⟨1, ![6144]⟩
abbrev S4x1024 : Shape := ⟨2, ![4, 1024]⟩
abbrev S1024x4096 : Shape := ⟨2, ![1024, 4096]⟩
abbrev S4096x1024 : Shape := ⟨2, ![4096, 1024]⟩
abbrev S6x1024 : Shape := ⟨2, ![6, 1024]⟩
abbrev S_ : Shape := ⟨0, ![]⟩
abbrev S8x1024 : Shape := ⟨2, ![8, 1024]⟩
abbrev S512x1024 : Shape := ⟨2, ![512, 1024]⟩
abbrev S1x1024 : Shape := ⟨2, ![1, 1024]⟩
abbrev S512 : Shape := ⟨1, ![512]⟩
abbrev S512x1 : Shape := ⟨2, ![512, 1]⟩
abbrev S1024x1024 : Shape := ⟨2, ![1024, 1024]⟩

abbrev nBuf : Space → Nat
  | .hbm => 12
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S6144, .f32⟩
  | .hbm, ⟨2, _⟩ => ⟨S4x1024, .f32⟩
  | .hbm, ⟨3, _⟩ => ⟨S1024x4096, .f32⟩
  | .hbm, ⟨4, _⟩ => ⟨S4096x1024, .f32⟩
  | .hbm, ⟨5, _⟩ => ⟨S6x1024, .f32⟩
  | .hbm, ⟨6, _⟩ => ⟨S_, .i32⟩
  | .hbm, ⟨7, _⟩ => ⟨S_, .f32⟩
  | .hbm, ⟨8, _⟩ => ⟨S8x1024, .f32⟩
  | .hbm, ⟨9, _⟩ => ⟨S1024x4096, .bf16⟩
  | .hbm, ⟨10, _⟩ => ⟨S4096x1024, .bf16⟩
  | .hbm, ⟨11, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S4x1024, .f32⟩
  | .local _ .vmem, ⟨4, _⟩ => ⟨S1024x4096, .bf16⟩
  | .local _ .vmem, ⟨5, _⟩ => ⟨S4096x1024, .bf16⟩
  | .local _ .vmem, ⟨6, _⟩ => ⟨S512x1024, .f32⟩
  | .local _ .vmem, ⟨7, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S16384x1024 : Shape := ⟨2, ![16384, 1024]⟩
abbrev S6144 : Shape := ⟨1, ![6144]⟩
abbrev S4x1024 : Shape := ⟨2, ![4, 1024]⟩
abbrev S1024x4096 : Shape := ⟨2, ![1024, 4096]⟩
abbrev S4096x1024 : Shape := ⟨2, ![4096, 1024]⟩
abbrev S1x6144 : Shape := ⟨2, ![1, 6144]⟩
abbrev S1x1024 : Shape := ⟨2, ![1, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S16384x4096 : Shape := ⟨2, ![16384, 4096]⟩

abbrev nBuf : Space → Nat
  | .hbm => 64
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S6144, .f32⟩
  | .hbm, ⟨2, _⟩ => ⟨S4x1024, .f32⟩
  | .hbm, ⟨3, _⟩ => ⟨S1024x4096, .f32⟩
  | .hbm, ⟨4, _⟩ => ⟨S4096x1024, .f32⟩
  | .hbm, ⟨5, _⟩ => ⟨S1x6144, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1024, .f32⟩
  | .hbm, ⟨14, _⟩ => ⟨S16384x1024, .f32⟩
  | .hbm, ⟨15, _⟩ => ⟨S_, .f32⟩
  | .hbm, ⟨16, _⟩ => ⟨S16384, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S16384x1, .f32⟩
  | .hbm, ⟨25, _⟩ => ⟨S16384x1024, .f32⟩
  | .hbm, ⟨26, _⟩ => ⟨S16384x1024, .f32⟩
  | .hbm, ⟨27, _⟩ => ⟨S1x1024, .f32⟩
  | .hbm, ⟨28, _⟩ => ⟨S16384x1024, .f32⟩
  | .hbm, ⟨29, _⟩ => ⟨S16384x1024, .f32⟩
  | .hbm, ⟨30, _⟩ => ⟨S_, .f32⟩
  | .hbm, ⟨31, _⟩ => ⟨S1x1024, .f32⟩
  | .hbm, ⟨32, _⟩ => ⟨S1x1024, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S16384x4096, .f32⟩
  | .hbm, ⟨38, _⟩ => ⟨S_, .f32⟩
  | .hbm, ⟨39, _⟩ => ⟨S16384x4096, .f32⟩
  | .hbm, ⟨40, _⟩ => ⟨S16384x4096, .f32⟩
  | .hbm, ⟨41, _⟩ => ⟨S16384x4096, .f32⟩
  | .hbm, ⟨42, _⟩ => ⟨S16384x1024, .f32⟩
  | .hbm, ⟨43, _⟩ => ⟨S1x1024, .f32⟩
  | .hbm, ⟨44, _⟩ => ⟨S1024, .f32⟩
  | .hbm, ⟨45, _⟩ => ⟨S16384x1024, .f32⟩
  | .hbm, ⟨46, _⟩ => ⟨S_, .f32⟩
  | .hbm, ⟨47, _⟩ => ⟨S16384, .f32⟩
  | .hbm, ⟨48, _⟩ => ⟨S16384x1, .f32⟩
  | .hbm, ⟨49, _⟩ => ⟨S_, .f32⟩
  | .hbm, ⟨50, _⟩ => ⟨S16384x1, .f32⟩
  | .hbm, ⟨51, _⟩ => ⟨S16384x1, .f32⟩
  | .hbm, ⟨52, _⟩ => ⟨S_, .f32⟩
  | .hbm, ⟨53, _⟩ => ⟨S16384x1, .f32⟩
  | .hbm, ⟨54, _⟩ => ⟨S16384x1, .f32⟩
  | .hbm, ⟨55, _⟩ => ⟨S16384x1, .f32⟩
  | .hbm, ⟨56, _⟩ => ⟨S16384x1024, .f32⟩
  | .hbm, ⟨57, _⟩ => ⟨S16384x1024, .f32⟩
  | .hbm, ⟨58, _⟩ => ⟨S1x1024, .f32⟩
  | .hbm, ⟨59, _⟩ => ⟨S16384x1024, .f32⟩
  | .hbm, ⟨60, _⟩ => ⟨S16384x1024, .f32⟩
  | .hbm, ⟨61, _⟩ => ⟨S16384x1024, .f32⟩
  | .hbm, ⟨62, _⟩ => ⟨S16384x1024, .f32⟩
  | .hbm, ⟨63, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_call0_cst : Ref sig .tc := ⟨.hbm, 38, rfl⟩
abbrev main_call0_v0 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_3 : Ref sig .tc := ⟨.hbm, 46, rfl⟩
abbrev main_v35 : Ref sig .tc := ⟨.hbm, 47, rfl⟩
abbrev main_v36 : Ref sig .tc := ⟨.hbm, 48, rfl⟩
abbrev main_cst_4 : Ref sig .tc := ⟨.hbm, 49, rfl⟩
abbrev main_v37 : Ref sig .tc := ⟨.hbm, 50, rfl⟩
abbrev main_v38 : Ref sig .tc := ⟨.hbm, 51, rfl⟩
abbrev main_cst_5 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩

abbrev nD : Nat := 1
abbrev τ : Topo := Topo.v7x

variable {F : FTy → Type} [FloatOps F]
-- ==== Kernel4.lean ====
abbrev S16384x1024 : Shape := ⟨2, ![16384, 1024]⟩
abbrev S6144 : Shape := ⟨1, ![6144]⟩
abbrev S4x1024 : Shape := ⟨2, ![4, 1024]⟩
abbrev S1024x1024 : Shape := ⟨2, ![1024, 1024]⟩
abbrev S6x1024 : Shape := ⟨2, ![6, 1024]⟩
abbrev S_ : Shape := ⟨0, ![]⟩
abbrev S8x1024 : Shape := ⟨2, ![8, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 11
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S6144, .f32⟩
  | .hbm, ⟨2, _⟩ => ⟨S4x1024, .f32⟩
  | .hbm, ⟨3, _⟩ => ⟨S1024x1024, .f32⟩
  | .hbm, ⟨4, _⟩ => ⟨S6x1024, .f32⟩
  | .hbm, ⟨5, _⟩ => ⟨S_, .i32⟩
  | .hbm, ⟨6, _⟩ => ⟨S_, .f32⟩
  | .hbm, ⟨7, _⟩ => ⟨S8x1024, .f32⟩
  | .hbm, ⟨8, _⟩ => ⟨S1x1024, .f32⟩
  | .hbm, ⟨9, _⟩ => ⟨S1024x1024, .bf16⟩
  | .hbm, ⟨10, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S1x1024, .f32⟩
  | .local _ .vmem, ⟨4, _⟩ => ⟨S1024x1024, .bf16⟩
  | .local _ .vmem, ⟨5, _⟩ => ⟨S512x1024, .f32⟩
  | .local _ .vmem, ⟨6, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference4Ideal.lean ====
abbrev S16384x1024 : Shape := ⟨2, ![16384, 1024]⟩
abbrev S6144 : Shape := ⟨1, ![6144]⟩
abbrev S4x1024 : Shape := ⟨2, ![4, 1024]⟩
abbrev S1024x1024 : Shape := ⟨2, ![1024, 1024]⟩
abbrev S1x6144 : Shape := ⟨2, ![1, 6144]⟩
abbrev S1x1024 : Shape := ⟨2, ![1, 1024]⟩
abbrev S1024 : Shape := ⟨1, ![1024]⟩
abbrev S_ : Shape := ⟨0, ![]⟩
abbrev S16384 : Shape := ⟨1, ![16384]⟩
abbrev S16384x1 : Shape := ⟨2, ![16384, 1]⟩

abbrev nBuf : Space → Nat
  | .hbm => 37
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S6144, .f32⟩
  | .hbm, ⟨2, _⟩ => ⟨S4x1024, .f32⟩
  | .hbm, ⟨3, _⟩ => ⟨S1024x1024, .f32⟩
  | .hbm, ⟨4, _⟩ => ⟨S1x6144, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1024, .f32⟩
  | .hbm, ⟨13, _⟩ => ⟨S16384x1024, .f32⟩
  | .hbm, ⟨14, _⟩ => ⟨S_, .f32⟩
  | .hbm, ⟨15, _⟩ => ⟨S16384, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S16384x1, .f32⟩
  | .hbm, ⟨24, _⟩ => ⟨S16384x1024, .f32⟩
  | .hbm, ⟨25, _⟩ => ⟨S16384x1024, .f32⟩
  | .hbm, ⟨26, _⟩ => ⟨S1x1024, .f32⟩
  | .hbm, ⟨27, _⟩ => ⟨S16384x1024, .f32⟩
  | .hbm, ⟨28, _⟩ => ⟨S16384x1024, .f32⟩
  | .hbm, ⟨29, _⟩ => ⟨S_, .f32⟩
  | .hbm, ⟨30, _⟩ => ⟨S1x1024, .f32⟩
  | .hbm, ⟨31, _⟩ => ⟨S1x1024, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩

abbrev nD : Nat := 1
abbrev τ : Topo := Topo.v7x

variable {F : FTy → Type} [FloatOps F]
-- ==== Kernel5.lean ====
abbrev S16384x1024 : Shape := ⟨2, ![16384, 1024]⟩
abbrev S6144 : Shape := ⟨1, ![6144]⟩
abbrev S4x1024 : Shape := ⟨2, ![4, 1024]⟩
abbrev S1024x1536 : Shape := ⟨2, ![1024, 1536]⟩
abbrev S64 : Shape := ⟨1, ![64]⟩
abbrev S256 : Shape := ⟨1, ![256]⟩
abbrev S256x64 : Shape := ⟨2, ![256, 64]⟩
abbrev S16384 : Shape := ⟨1, ![16384]⟩
abbrev S1x64 : Shape := ⟨2, ![1, 64]⟩
abbrev S16 : Shape := ⟨1, ![16]⟩
abbrev S_ : Shape := ⟨0, ![]⟩
abbrev S16384x1 : Shape := ⟨2, ![16384, 1]⟩
abbrev S1x16 : Shape := ⟨2, ![1, 16]⟩
abbrev S16384x16 : Shape := ⟨2, ![16384, 16]⟩
abbrev S16384x64 : Shape := ⟨2, ![16384, 64]⟩
abbrev S1x16384x1x64 : Shape := ⟨4, ![1, 16384, 1, 64]⟩
abbrev S1x16384x2x64 : Shape := ⟨4, ![1, 16384, 2, 64]⟩
abbrev S16384x128 : Shape := ⟨2, ![16384, 128]⟩
abbrev S6x1024 : Shape := ⟨2, ![6, 1024]⟩
abbrev S8x1024 : Shape := ⟨2, ![8, 1024]⟩
abbrev S1x1024 : Shape := ⟨2, ![1, 1024]⟩
abbrev S16x64 : Shape := ⟨2, ![16, 64]⟩
abbrev S1024 : Shape := ⟨1, ![1024]⟩
abbrev S4x64 : Shape := ⟨2, ![4, 64]⟩
abbrev S1x256 : Shape := ⟨2, ![1, 256]⟩
abbrev S1024x1 : Shape := ⟨2, ![1024, 1]⟩
abbrev S1024x1024 : Shape := ⟨2, ![1024, 1024]⟩
abbrev S256x1 : Shape := ⟨2, ![256, 1]⟩
abbrev S256x256 : Shape := ⟨2, ![256, 256]⟩
abbrev S1024x16384 : Shape := ⟨2, ![1024, 16384]⟩
abbrev S4x16384x64 : Shape := ⟨3, ![4, 16384, 64]⟩
abbrev S4x80x16384 : Shape := ⟨3, ![4, 80, 16384]⟩
abbrev S512x1024 : Shape := ⟨2, ![512, 1024]⟩
abbrev S512x128 : Shape := ⟨2, ![512, 128]⟩
abbrev S1024x512 : Shape := ⟨2, ![1024, 512]⟩
abbrev S4x512x64 : Shape := ⟨3, ![4, 512, 64]⟩
abbrev S4x80x512 : Shape := ⟨3, ![4, 80, 512]⟩
abbrev S512 : Shape := ⟨1, ![512]⟩
abbrev S512x1 : Shape := ⟨2, ![512, 1]⟩
abbrev S512x1536 : Shape := ⟨2, ![512, 1536]⟩
abbrev S512x256 : Shape := ⟨2, ![512, 256]⟩
abbrev S256x512 : Shape := ⟨2, ![256, 512]⟩
abbrev S16x512 : Shape := ⟨2, ![16, 512]⟩
abbrev S512x64 : Shape := ⟨2, ![512, 64]⟩
abbrev S1x512x64 : Shape := ⟨3, ![1, 512, 64]⟩
abbrev S64x512 : Shape := ⟨2, ![64, 512]⟩
abbrev S1x64x512 : Shape := ⟨3, ![1, 64, 512]⟩
abbrev S1x16x512 : Shape := ⟨3, ![1, 16, 512]⟩
abbrev S16384x16x64 : Shape := ⟨3, ![16384, 16, 64]⟩
abbrev S16384x4x64 : Shape := ⟨3, ![16384, 4, 64]⟩
abbrev S4x64x16384 : Shape := ⟨3, ![4, 64, 16384]⟩

abbrev nBuf : Space → Nat
  | .hbm => 147
  | .vmem => 21
  | .smem => 0
  | _ => 0

abbrev hbmTy0_0 (i : Nat) : BufTy := match i % 128 with
  | 0 => ⟨S16384x1024, .f32⟩
  | 1 => ⟨S6144, .f32⟩
  | 2 => ⟨S4x1024, .f32⟩
  | 3 => ⟨S1024x1536, .f32⟩
  | 4 => ⟨S64, .f32⟩
  | 5 => ⟨S64, .f32⟩
  | 6 => ⟨S256, .i32⟩
  | 7 => ⟨S256x64, .i32⟩
  | 8 => ⟨S16384, .i32⟩
  | 9 => ⟨S16384, .f32⟩
  | 10 => ⟨S64, .i32⟩
  | 11 => ⟨S1x64, .i32⟩
  | 12 => ⟨S256x64, .i32⟩
  | 13 => ⟨S16384, .i32⟩
  | 14 => ⟨S16384, .f32⟩
  | 15 => ⟨S16, .f32⟩
  | 16 => ⟨S_, .f32⟩
  | 17 => ⟨S16, .f32⟩
  | 18 => ⟨S16, .f32⟩
  | 19 => ⟨S_, .f32⟩
  | 20 => ⟨S16, .f32⟩
  | 21 => ⟨S16, .f32⟩
  | 22 => ⟨S16, .f32⟩
  | 23 => ⟨S_, .f32⟩
  | 24 => ⟨S16, .f32⟩
  | 25 => ⟨S16, .f32⟩
  | 26 => ⟨S_, .f32⟩
  | 27 => ⟨S16, .f32⟩
  | 28 => ⟨S16, .f32⟩
  | 29 => ⟨S16384x1, .f32⟩
  | 30 => ⟨S1x16, .f32⟩
  | 31 => ⟨S16384x16, .f32⟩
  | 32 => ⟨S16384x16, .f32⟩
  | 33 => ⟨S16384x16, .f32⟩
  | 34 => ⟨S16384x1, .f32⟩
  | 35 => ⟨S1x16, .f32⟩
  | 36 => ⟨S16384x16, .f32⟩
  | 37 => ⟨S16384x16, .f32⟩
  | 38 => ⟨S16384x16, .f32⟩
  | 39 => ⟨S16384x16, .f32⟩
  | 40 => ⟨S16384x16, .f32⟩
  | 41 => ⟨S16384x64, .f32⟩
  | 42 => ⟨S16384x16, .f32⟩
  | 43 => ⟨S16384x16, .f32⟩
  | 44 => ⟨S16384x16, .f32⟩
  | 45 => ⟨S16384x16, .f32⟩
  | 46 => ⟨S16384x16, .f32⟩
  | 47 => ⟨S16384x16, .f32⟩
  | 48 => ⟨S16384x64, .f32⟩
  | 49 => ⟨S1x16384x1x64, .f32⟩
  | 50 => ⟨S1x16384x2x64, .f32⟩
  | 51 => ⟨S16384x128, .f32⟩
  | 52 => ⟨S1x16384x1x64, .f32⟩
  | 53 => ⟨S1x16384x2x64, .f32⟩
  | 54 => ⟨S16384x128, .f32⟩
  | 55 => ⟨S6x1024, .f32⟩
  | 56 => ⟨S_, .i32⟩
  | 57 => ⟨S_, .f32⟩
  | 58 => ⟨S8x1024, .f32⟩
  | 59 => ⟨S1x1024, .f32⟩
  | 60 => ⟨S1024x1536, .bf16⟩
  | 61 => ⟨S1x64, .f32⟩
  | 62 => ⟨S16x64, .f32⟩
  | 63 => ⟨S1024, .f32⟩
  | 64 => ⟨S1x1024, .f32⟩
  | 65 => ⟨S1x64, .f32⟩
  | 66 => ⟨S4x64, .f32⟩
  | 67 => ⟨S256, .f32⟩
  | 68 => ⟨S1x256, .f32⟩
  | 69 => ⟨S1024, .i32⟩
  | 70 => ⟨S_, .i32⟩
  | 71 => ⟨S_, .i32⟩
  | 72 => ⟨S1024, .i32⟩
  | 73 => ⟨S1024, .i32⟩
  | 74 => ⟨S1024, .i32⟩
  | 75 => ⟨S_, .i32⟩
  | 76 => ⟨S1024, .i32⟩
  | 77 => ⟨S1024, .i1⟩
  | 78 => ⟨S1024, .i32⟩
  | 79 => ⟨S1024, .i32⟩
  | 80 => ⟨S_, .i32⟩
  | 81 => ⟨S1024, .i32⟩
  | 82 => ⟨S1024, .i1⟩
  | 83 => ⟨S1024, .i1⟩
  | 84 => ⟨S_, .i32⟩
  | 85 => ⟨S1024, .i32⟩
  | 86 => ⟨S1024, .i32⟩
  | 87 => ⟨S1024, .i32⟩
  | 88 => ⟨S1024x1, .i32⟩
  | 89 => ⟨S1x1024, .i32⟩
  | 90 => ⟨S1024x1024, .i32⟩
  | 91 => ⟨S1024x1024, .i32⟩
  | 92 => ⟨S1024x1024, .i1⟩
  | 93 => ⟨S1024x1024, .bf16⟩
  | 94 => ⟨S256, .i32⟩
  | 95 => ⟨S_, .i32⟩
  | 96 => ⟨S_, .i32⟩
  | 97 => ⟨S256, .i32⟩
  | 98 => ⟨S256, .i32⟩
  | 99 => ⟨S256, .i32⟩
  | 100 => ⟨S_, .i32⟩
  | 101 => ⟨S256, .i32⟩
  | 102 => ⟨S256, .i1⟩
  | 103 => ⟨S256, .i32⟩
  | 104 => ⟨S256, .i32⟩
  | 105 => ⟨S_, .i32⟩
  | 106 => ⟨S256, .i32⟩
  | 107 => ⟨S256, .i1⟩
  | 108 => ⟨S256, .i1⟩
  | 109 => ⟨S_, .i32⟩
  | 110 => ⟨S256, .i32⟩
  | 111 => ⟨S256, .i32⟩
  | 112 => ⟨S256, .i32⟩
  | 113 => ⟨S256x1, .i32⟩
  | 114 => ⟨S1x256, .i32⟩
  | 115 => ⟨S256x256, .i32⟩
  | 116 => ⟨S256x256, .i32⟩
  | 117 => ⟨S256x256, .i1⟩
  | 118 => ⟨S256x256, .bf16⟩
  | 119 => ⟨S1024x1024, .i32⟩
  | 120 => ⟨S1024x1024, .i32⟩
  | 121 => ⟨S_, .i32⟩
  | 122 => ⟨S1024x1024, .i32⟩
  | 123 => ⟨S1024x1024, .i32⟩
  | 124 => ⟨S1024x1024, .i1⟩
  | 125 => ⟨S1024x1024, .bf16⟩
  | 126 => ⟨S256x256, .i32⟩
  | 127 => ⟨S256x256, .i32⟩
  | _ => ⟨S16384x1024, .f32⟩

abbrev hbmTy0_1 (i : Nat) : BufTy := match i % 128 with
  | 0 => ⟨S_, .i32⟩
  | 1 => ⟨S256x256, .i32⟩
  | 2 => ⟨S256x256, .i32⟩
  | 3 => ⟨S256x256, .i1⟩
  | 4 => ⟨S256x256, .bf16⟩
  | 5 => ⟨S1024x16384, .bf16⟩
  | 6 => ⟨S4x16384x64, .bf16⟩
  | 7 => ⟨S4x80x16384, .bf16⟩
  | 8 => ⟨S16384x1024, .bf16⟩
  | 9 => ⟨S16384x16x64, .bf16⟩
  | 10 => ⟨S16384x16x64, .f32⟩
  | 11 => ⟨S_, .f32⟩
  | 12 => ⟨S16384x16x64, .f32⟩
  | 13 => ⟨S16384x16x64, .f32⟩
  | 14 => ⟨S16384x4x64, .bf16⟩
  | 15 => ⟨S16384x4x64, .f32⟩
  | 16 => ⟨S4x64x16384, .bf16⟩
  | 17 => ⟨S16384x4x64, .bf16⟩
  | 18 => ⟨S16384x4x64, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S1x1024, .f32⟩
  | .local _ .vmem, ⟨4, _⟩ => ⟨S1024x1536, .bf16⟩
  | .local _ .vmem, ⟨5, _⟩ => ⟨S1x1024, .f32⟩
  | .local _ .vmem, ⟨6, _⟩ => ⟨S1x256, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S1024x1024, .bf16⟩
  | .local _ .vmem, ⟨12, _⟩ => ⟨S256x256, .bf16⟩
  | .local _ .vmem, ⟨13, _⟩ => ⟨S1024x1024, .bf16⟩
  | .local _ .vmem, ⟨14, _⟩ => ⟨S256x256, .bf16⟩
  | .local _ .vmem, ⟨15, _⟩ => ⟨S1024x512, .bf16⟩
  | .local _ .vmem, ⟨16, _⟩ => ⟨S1024x512, .bf16⟩
  | .local _ .vmem, ⟨17, _⟩ => ⟨S4x512x64, .bf16⟩
  | .local _ .vmem, ⟨18, _⟩ => ⟨S4x512x64, .bf16⟩
  | .local _ .vmem, ⟨19, _⟩ => ⟨S4x80x512, .bf16⟩
  | .local _ .vmem, ⟨20, _⟩ => ⟨S4x80x512, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_c : Ref sig .tc := ⟨.hbm, 56, rfl⟩
abbrev main_call0_v0 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_c_3 : Ref sig .tc := ⟨.hbm, 70, rfl⟩
abbrev main_call1_v0 : Ref sig .tc := ⟨.hbm, 71, rfl⟩
abbrev main_call1_v1 : Ref sig .tc := ⟨.hbm, 72, rfl⟩
abbrev main_call1_v2 : Ref sig .tc := ⟨.hbm, 73, rfl⟩
abbrev main_call1_v3 : Ref sig .tc := ⟨.hbm, 74, rfl⟩
abbrev main_call1_v4 : Ref sig .tc := ⟨.hbm, 75, rfl⟩
abbrev main_call1_v5 : Ref sig .tc := ⟨.hbm, 76, rfl⟩
abbrev main_call1_v6 : Ref sig .tc := ⟨.hbm, 77, rfl⟩
abbrev main_call1_v7 : Ref sig .tc := ⟨.hbm, 78, rfl⟩
abbrev main_call1_v8 : Ref sig .tc := ⟨.hbm, 79, rfl⟩
abbrev main_call1_c : Ref sig .tc := ⟨.hbm, 80, rfl⟩
abbrev main_call1_v9 : Ref sig .tc := ⟨.hbm, 81, rfl⟩
abbrev main_call1_v10 : Ref sig .tc := ⟨.hbm, 82, rfl⟩
abbrev main_call1_v11 : Ref sig .tc := ⟨.hbm, 83, rfl⟩
abbrev main_call1_c_0 : Ref sig .tc := ⟨.hbm, 84, rfl⟩
abbrev main_call1_v12 : Ref sig .tc := ⟨.hbm, 85, rfl⟩
abbrev main_call1_v13 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_c_4 : Ref sig .tc := ⟨.hbm, 95, rfl⟩
abbrev main_call2_v0 : Ref sig .tc := ⟨.hbm, 96, rfl⟩
abbrev main_call2_v1 : Ref sig .tc := ⟨.hbm, 97, rfl⟩
abbrev main_call2_v2 : Ref sig .tc := ⟨.hbm, 98, rfl⟩
abbrev main_call2_v3 : Ref sig .tc := ⟨.hbm, 99, rfl⟩
abbrev main_call2_v4 : Ref sig .tc := ⟨.hbm, 100, rfl⟩
abbrev main_call2_v5 : Ref sig .tc := ⟨.hbm, 101, rfl⟩
abbrev main_call2_v6 : Ref sig .tc := ⟨.hbm, 102, rfl⟩
abbrev main_call2_v7 : Ref sig .tc := ⟨.hbm, 103, rfl⟩
abbrev main_call2_v8 : Ref sig .tc := ⟨.hbm, 104, rfl⟩
abbrev main_call2_c : Ref sig .tc := ⟨.hbm, 105, rfl⟩
abbrev main_call2_v9 : Ref sig .tc := ⟨.hbm, 106, rfl⟩
abbrev main_call2_v10 : Ref sig .tc := ⟨.hbm, 107, rfl⟩
abbrev main_call2_v11 : Ref sig .tc := ⟨.hbm, 108, rfl⟩
abbrev main_call2_c_0 : Ref sig .tc := ⟨.hbm, 109, rfl⟩
abbrev main_call2_v12 : Ref sig .tc := ⟨.hbm, 110, rfl⟩
abbrev main_call2_v13 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_c_5 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_c_6 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85_0 : Ref sig .tc := ⟨.hbm, 133, rfl⟩
abbrev main_v85_1 : Ref sig .tc := ⟨.hbm, 134, rfl⟩
abbrev main_v85_2 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_cst_7 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1024x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S4x512x64 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S4x80x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference5Ideal.lean ====
abbrev S16384x1024 : Shape := ⟨2, ![16384, 1024]⟩
abbrev S6144 : Shape := ⟨1, ![6144]⟩
abbrev S4x1024 : Shape := ⟨2, ![4, 1024]⟩
abbrev S1024x1536 : Shape := ⟨2, ![1024, 1536]⟩
abbrev S64 : Shape := ⟨1, ![64]⟩
abbrev S256 : Shape := ⟨1, ![256]⟩
abbrev S256x64 : Shape := ⟨2, ![256, 64]⟩
abbrev S16384 : Shape := ⟨1, ![16384]⟩
abbrev S1x64 : Shape := ⟨2, ![1, 64]⟩
abbrev S16 : Shape := ⟨1, ![16]⟩
abbrev S_ : Shape := ⟨0, ![]⟩
abbrev S16384x1 : Shape := ⟨2, ![16384, 1]⟩
abbrev S1x16 : Shape := ⟨2, ![1, 16]⟩
abbrev S16384x16 : Shape := ⟨2, ![16384, 16]⟩
abbrev S1x6144 : Shape := ⟨2, ![1, 6144]⟩
abbrev S1x1024 : Shape := ⟨2, ![1, 1024]⟩
abbrev S1024 : Shape := ⟨1, ![1024]⟩
abbrev S16384x1536 : Shape := ⟨2, ![16384, 1536]⟩
abbrev S16384x16x64 : Shape := ⟨3, ![16384, 16, 64]⟩
abbrev S16384x16x1 : Shape := ⟨3, ![16384, 16, 1]⟩
abbrev S1x1x64 : Shape := ⟨3, ![1, 1, 64]⟩
abbrev S16384x16x32 : Shape := ⟨3, ![16384, 16, 32]⟩
abbrev S16384x16x16 : Shape := ⟨3, ![16384, 16, 16]⟩
abbrev S16384x1x16 : Shape := ⟨3, ![16384, 1, 16]⟩
abbrev S16384x256 : Shape := ⟨2, ![16384, 256]⟩
abbrev S16384x4x64 : Shape := ⟨3, ![16384, 4, 64]⟩
abbrev S16384x4 : Shape := ⟨2, ![16384, 4]⟩
abbrev S16384x4x1 : Shape := ⟨3, ![16384, 4, 1]⟩
abbrev S16384x4x32 : Shape := ⟨3, ![16384, 4, 32]⟩
abbrev S16384x4x16 : Shape := ⟨3, ![16384, 4, 16]⟩

abbrev nBuf : Space → Nat
  | .hbm => 180
  | .vmem => 0
  | .smem => 0
  | _ => 0

abbrev hbmTy0_0 (i : Nat) : BufTy := match i % 128 with
  | 0 => ⟨S16384x1024, .f32⟩
  | 1 => ⟨S6144, .f32⟩
  | 2 => ⟨S4x1024, .f32⟩
  | 3 => ⟨S1024x1536, .f32⟩
  | 4 => ⟨S64, .f32⟩
  | 5 => ⟨S64, .f32⟩
  | 6 => ⟨S256, .i32⟩
  | 7 => ⟨S256x64, .i32⟩
  | 8 => ⟨S16384, .i32⟩
  | 9 => ⟨S16384, .f32⟩
  | 10 => ⟨S64, .i32⟩
  | 11 => ⟨S1x64, .i32⟩
  | 12 => ⟨S256x64, .i32⟩
  | 13 => ⟨S16384, .i32⟩
  | 14 => ⟨S16384, .f32⟩
  | 15 => ⟨S16, .f32⟩
  | 16 => ⟨S_, .f32⟩
  | 17 => ⟨S16, .f32⟩
  | 18 => ⟨S16, .f32⟩
  | 19 => ⟨S_, .f32⟩
  | 20 => ⟨S16, .f32⟩
  | 21 => ⟨S16, .f32⟩
  | 22 => ⟨S16, .f32⟩
  | 23 => ⟨S_, .f32⟩
  | 24 => ⟨S16, .f32⟩
  | 25 => ⟨S16, .f32⟩
  | 26 => ⟨S_, .f32⟩
  | 27 => ⟨S16, .f32⟩
  | 28 => ⟨S16, .f32⟩
  | 29 => ⟨S16384x1, .f32⟩
  | 30 => ⟨S1x16, .f32⟩
  | 31 => ⟨S16384x16, .f32⟩
  | 32 => ⟨S16384x16, .f32⟩
  | 33 => ⟨S16384x16, .f32⟩
  | 34 => ⟨S16384x1, .f32⟩
  | 35 => ⟨S1x16, .f32⟩
  | 36 => ⟨S16384x16, .f32⟩
  | 37 => ⟨S16384x16, .f32⟩
  | 38 => ⟨S16384x16, .f32⟩
  | 39 => ⟨S16384x16, .f32⟩
  | 40 => ⟨S16384x16, .f32⟩
  | 41 => ⟨S16384x16, .f32⟩
  | 42 => ⟨S16384x16, .f32⟩
  | 43 => ⟨S1x6144, .f32⟩
  | 44 => ⟨S1x1024, .f32⟩
  | 45 => ⟨S1x1024, .f32⟩
  | 46 => ⟨S1x1024, .f32⟩
  | 47 => ⟨S1x1024, .f32⟩
  | 48 => ⟨S1x1024, .f32⟩
  | 49 => ⟨S1x1024, .f32⟩
  | 50 => ⟨S1x1024, .f32⟩
  | 51 => ⟨S1024, .f32⟩
  | 52 => ⟨S16384x1024, .f32⟩
  | 53 => ⟨S_, .f32⟩
  | 54 => ⟨S16384, .f32⟩
  | 55 => ⟨S16384x1, .f32⟩
  | 56 => ⟨S_, .f32⟩
  | 57 => ⟨S16384x1, .f32⟩
  | 58 => ⟨S16384x1, .f32⟩
  | 59 => ⟨S_, .f32⟩
  | 60 => ⟨S16384x1, .f32⟩
  | 61 => ⟨S16384x1, .f32⟩
  | 62 => ⟨S16384x1, .f32⟩
  | 63 => ⟨S16384x1024, .f32⟩
  | 64 => ⟨S16384x1024, .f32⟩
  | 65 => ⟨S1x1024, .f32⟩
  | 66 => ⟨S16384x1024, .f32⟩
  | 67 => ⟨S16384x1024, .f32⟩
  | 68 => ⟨S_, .f32⟩
  | 69 => ⟨S1x1024, .f32⟩
  | 70 => ⟨S1x1024, .f32⟩
  | 71 => ⟨S16384x1024, .f32⟩
  | 72 => ⟨S16384x1024, .f32⟩
  | 73 => ⟨S16384x1024, .f32⟩
  | 74 => ⟨S16384x1024, .f32⟩
  | 75 => ⟨S16384x1536, .f32⟩
  | 76 => ⟨S16384x1024, .f32⟩
  | 77 => ⟨S16384x16x64, .f32⟩
  | 78 => ⟨S16384x16x64, .f32⟩
  | 79 => ⟨S_, .f32⟩
  | 80 => ⟨S16384x16, .f32⟩
  | 81 => ⟨S16384x16x1, .f32⟩
  | 82 => ⟨S_, .f32⟩
  | 83 => ⟨S16384x16x1, .f32⟩
  | 84 => ⟨S16384x16x1, .f32⟩
  | 85 => ⟨S_, .f32⟩
  | 86 => ⟨S16384x16x1, .f32⟩
  | 87 => ⟨S16384x16x1, .f32⟩
  | 88 => ⟨S16384x16x1, .f32⟩
  | 89 => ⟨S16384x16x64, .f32⟩
  | 90 => ⟨S16384x16x64, .f32⟩
  | 91 => ⟨S1x1x64, .f32⟩
  | 92 => ⟨S16384x16x64, .f32⟩
  | 93 => ⟨S16384x16x64, .f32⟩
  | 94 => ⟨S16384x16x32, .f32⟩
  | 95 => ⟨S16384x16x16, .f32⟩
  | 96 => ⟨S16384x16x16, .f32⟩
  | 97 => ⟨S16384x1x16, .f32⟩
  | 98 => ⟨S16384x1x16, .f32⟩
  | 99 => ⟨S16384x16x16, .f32⟩
  | 100 => ⟨S16384x16x16, .f32⟩
  | 101 => ⟨S16384x16x16, .f32⟩
  | 102 => ⟨S16384x16x16, .f32⟩
  | 103 => ⟨S16384x16x16, .f32⟩
  | 104 => ⟨S16384x16x16, .f32⟩
  | 105 => ⟨S16384x16x16, .f32⟩
  | 106 => ⟨S16384x16x16, .f32⟩
  | 107 => ⟨S16384x16x16, .f32⟩
  | 108 => ⟨S16384x16x16, .f32⟩
  | 109 => ⟨S16384x16x32, .f32⟩
  | 110 => ⟨S16384x16x32, .f32⟩
  | 111 => ⟨S16384x16x16, .f32⟩
  | 112 => ⟨S16384x16x16, .f32⟩
  | 113 => ⟨S16384x1x16, .f32⟩
  | 114 => ⟨S16384x1x16, .f32⟩
  | 115 => ⟨S16384x16x16, .f32⟩
  | 116 => ⟨S16384x16x16, .f32⟩
  | 117 => ⟨S16384x16x16, .f32⟩
  | 118 => ⟨S16384x16x16, .f32⟩
  | 119 => ⟨S16384x16x16, .f32⟩
  | 120 => ⟨S16384x16x16, .f32⟩
  | 121 => ⟨S16384x16x16, .f32⟩
  | 122 => ⟨S16384x16x16, .f32⟩
  | 123 => ⟨S16384x16x16, .f32⟩
  | 124 => ⟨S16384x16x16, .f32⟩
  | 125 => ⟨S16384x16x32, .f32⟩
  | 126 => ⟨S16384x16x64, .f32⟩
  | 127 => ⟨S16384x256, .f32⟩
  | _ => ⟨S16384x1024, .f32⟩

abbrev hbmTy0_1 (i : Nat) : BufTy := match i % 128 with
  | 0 => ⟨S16384x4x64, .f32⟩
  | 1 => ⟨S16384x4x64, .f32⟩
  | 2 => ⟨S_, .f32⟩
  | 3 => ⟨S16384x4, .f32⟩
  | 4 => ⟨S16384x4x1, .f32⟩
  | 5 => ⟨S_, .f32⟩
  | 6 => ⟨S16384x4x1, .f32⟩
  | 7 => ⟨S16384x4x1, .f32⟩
  | 8 => ⟨S_, .f32⟩
  | 9 => ⟨S16384x4x1, .f32⟩
  | 10 => ⟨S16384x4x1, .f32⟩
  | 11 => ⟨S16384x4x1, .f32⟩
  | 12 => ⟨S16384x4x64, .f32⟩
  | 13 => ⟨S16384x4x64, .f32⟩
  | 14 => ⟨S1x1x64, .f32⟩
  | 15 => ⟨S16384x4x64, .f32⟩
  | 16 => ⟨S16384x4x64, .f32⟩
  | 17 => ⟨S16384x4x32, .f32⟩
  | 18 => ⟨S16384x4x16, .f32⟩
  | 19 => ⟨S16384x4x16, .f32⟩
  | 20 => ⟨S16384x1x16, .f32⟩
  | 21 => ⟨S16384x1x16, .f32⟩
  | 22 => ⟨S16384x4x16, .f32⟩
  | 23 => ⟨S16384x4x16, .f32⟩
  | 24 => ⟨S16384x4x16, .f32⟩
  | 25 => ⟨S16384x4x16, .f32⟩
  | 26 => ⟨S16384x4x16, .f32⟩
  | 27 => ⟨S16384x4x16, .f32⟩
  | 28 => ⟨S16384x4x16, .f32⟩
  | 29 => ⟨S16384x4x16, .f32⟩
  | 30 => ⟨S16384x4x16, .f32⟩
  | 31 => ⟨S16384x4x16, .f32⟩
  | 32 => ⟨S16384x4x32, .f32⟩
  | 33 => ⟨S16384x4x32, .f32⟩
  | 34 => ⟨S16384x4x16, .f32⟩
  | 35 => ⟨S16384x4x16, .f32⟩
  | 36 => ⟨S16384x1x16, .f32⟩
  | 37 => ⟨S16384x1x16, .f32⟩
  | 38 => ⟨S16384x4x16, .f32⟩
  | 39 => ⟨S16384x4x16, .f32⟩
  | 40 => ⟨S16384x4x16, .f32⟩
  | 41 => ⟨S16384x4x16, .f32⟩
  | 42 => ⟨S16384x4x16, .f32⟩
  | 43 => ⟨S16384x4x16, .f32⟩
  | 44 => ⟨S16384x4x16, .f32⟩
  | 45 => ⟨S16384x4x16, .f32⟩
  | 46 => ⟨S16384x4x16, .f32⟩
  | 47 => ⟨S16384x4x16, .f32⟩
  | 48 => ⟨S16384x4x32, .f32⟩
  | 49 => ⟨S16384x4x64, .f32⟩
  | 50 => ⟨S16384x256, .f32⟩
  | 51 => ⟨S16384x4x64, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_cst_3 : Ref sig .tc := ⟨.hbm, 53, rfl⟩
abbrev main_v43 : Ref sig .tc := ⟨.hbm, 54, rfl⟩
abbrev main_v44 : Ref sig .tc := ⟨.hbm, 55, rfl⟩
abbrev main_cst_4 : Ref sig .tc := ⟨.hbm, 56, rfl⟩
abbrev main_v45 : Ref sig .tc := ⟨.hbm, 57, rfl⟩
abbrev main_v46 : Ref sig .tc := ⟨.hbm, 58, rfl⟩
abbrev main_cst_5 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_cst_6 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_cst_7 : Ref sig .tc := ⟨.hbm, 79, rfl⟩
abbrev main_v65 : Ref sig .tc := ⟨.hbm, 80, rfl⟩
abbrev main_v66 : Ref sig .tc := ⟨.hbm, 81, rfl⟩
abbrev main_cst_8 : Ref sig .tc := ⟨.hbm, 82, rfl⟩
abbrev main_v67 : Ref sig .tc := ⟨.hbm, 83, rfl⟩
abbrev main_v68 : Ref sig .tc := ⟨.hbm, 84, rfl⟩
abbrev main_cst_9 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_cst_10 : Ref sig .tc := ⟨.hbm, 130, rfl⟩
abbrev main_v113 : Ref sig .tc := ⟨.hbm, 131, rfl⟩
abbrev main_v114 : Ref sig .tc := ⟨.hbm, 132, rfl⟩
abbrev main_cst_11 : Ref sig .tc := ⟨.hbm, 133, rfl⟩
abbrev main_v115 : Ref sig .tc := ⟨.hbm, 134, rfl⟩
abbrev main_v116 : Ref sig .tc := ⟨.hbm, 135, rfl⟩
abbrev main_cst_12 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_v127 : Ref sig .tc := ⟨.hbm, 147, rfl⟩
abbrev main_v128 : Ref sig .tc := ⟨.hbm, 148, rfl⟩
abbrev main_v129 : Ref sig .tc := ⟨.hbm, 149, rfl⟩
abbrev main_v130 : Ref sig .tc := ⟨.hbm, 150, rfl⟩
abbrev main_v131 : Ref sig .tc := ⟨.hbm, 151, rfl⟩
abbrev main_v132 : Ref sig .tc := ⟨.hbm, 152, rfl⟩
abbrev main_v133 : Ref sig .tc := ⟨.hbm, 153, rfl⟩
abbrev main_v134 : Ref sig .tc := ⟨.hbm, 154, rfl⟩
abbrev main_v135 : Ref sig .tc := ⟨.hbm, 155, rfl⟩
abbrev main_v136 : Ref sig .tc := ⟨.hbm, 156, rfl⟩
abbrev main_v137 : Ref sig .tc := ⟨.hbm, 157, rfl⟩
abbrev main_v138 : Ref sig .tc := ⟨.hbm, 158, rfl⟩
abbrev main_v139 : Ref sig .tc := ⟨.hbm, 159, rfl⟩
abbrev main_v140 : Ref sig .tc := ⟨.hbm, 160, rfl⟩
abbrev main_v141 : Ref sig .tc := ⟨.hbm, 161, rfl⟩
abbrev main_v142 : Ref sig .tc := ⟨.hbm, 162, rfl⟩
abbrev main_v143 : Ref sig .tc := ⟨.hbm, 163, rfl⟩
abbrev main_v144 : Ref sig .tc := ⟨.hbm, 164, rfl⟩
abbrev main_v145 : Ref sig .tc := ⟨.hbm, 165, rfl⟩
abbrev main_v146 : Ref sig .tc := ⟨.hbm, 166, rfl⟩
abbrev main_v147 : Ref sig .tc := ⟨.hbm, 167, rfl⟩
abbrev main_v148 : Ref sig .tc := ⟨.hbm, 168, rfl⟩
abbrev main_v149 : Ref sig .tc := ⟨.hbm, 169, rfl⟩
abbrev main_v150 : Ref sig .tc := ⟨.hbm, 170, rfl⟩
abbrev main_v151 : Ref sig .tc := ⟨.hbm, 171, rfl⟩
abbrev main_v152 : Ref sig .tc := ⟨.hbm, 172, rfl⟩
abbrev main_v153 : Ref sig .tc := ⟨.hbm, 173, rfl⟩
abbrev main_v154 : Ref sig .tc := ⟨.hbm, 174, rfl⟩
abbrev main_v155 : Ref sig .tc := ⟨.hbm, 175, rfl⟩
abbrev main_v156 : Ref sig .tc := ⟨.hbm, 176, rfl⟩
abbrev main_v157 : Ref sig .tc := ⟨.hbm, 177, rfl⟩
abbrev main_v158 : Ref sig .tc := ⟨.hbm, 178, rfl⟩
abbrev main_v159 : Ref sig .tc := ⟨.hbm, 179, rfl⟩

abbrev nD : Nat := 1
abbrev τ : Topo := Topo.v7x

variable {F : FTy → Type} [FloatOps F]
-- ==== Kernel6.lean ====
abbrev S1x1024 : Shape := ⟨2, ![1, 1024]⟩
abbrev S1024 : Shape := ⟨1, ![1024]⟩
abbrev S2x1024x6144 : Shape := ⟨3, ![2, 1024, 6144]⟩
abbrev S2x6144 : Shape := ⟨2, ![2, 6144]⟩
abbrev S2x1024 : Shape := ⟨2, ![2, 1024]⟩
abbrev S2x1024x1 : Shape := ⟨3, ![2, 1024, 1]⟩
abbrev S2x1024x128 : Shape := ⟨3, ![2, 1024, 128]⟩
abbrev S2x1x6144 : Shape := ⟨3, ![2, 1, 6144]⟩
abbrev S2x8x6144 : Shape := ⟨3, ![2, 8, 6144]⟩
abbrev S1x1024x1024 : Shape := ⟨3, ![1, 1024, 1024]⟩
abbrev S1x1x1024 : Shape := ⟨3, ![1, 1, 1024]⟩
abbrev S1x8x1024 : Shape := ⟨3, ![1, 8, 1024]⟩
abbrev S1x1024x128 : Shape := ⟨3, ![1, 1024, 128]⟩
abbrev S1024x128 : Shape := ⟨2, ![1024, 128]⟩
abbrev S128 : Shape := ⟨1, ![128]⟩
abbrev S1x128 : Shape := ⟨2, ![1, 128]⟩
abbrev S6x1024 : Shape := ⟨2, ![6, 1024]⟩
abbrev S8x1024 : Shape := ⟨2, ![8, 1024]⟩
abbrev S1x1x6144 : Shape := ⟨3, ![1, 1, 6144]⟩
abbrev S1x6144 : Shape := ⟨2, ![1, 6144]⟩
abbrev S6144 : Shape := ⟨1, ![6144]⟩

abbrev nBuf : Space → Nat
  | .hbm => 20
  | .vmem => 7
  | .smem => 0
  | _ => 0

abbrev bufTy : (tb : Table) → Fin (tcTables nBuf tb) → BufTy
  | .hbm, ⟨0, _⟩ => ⟨S1x1024, .f32⟩
  | .hbm, ⟨1, _⟩ => ⟨S1024, .f32⟩
  | .hbm, ⟨2, _⟩ => ⟨S2x1024x6144, .f32⟩
  | .hbm, ⟨3, _⟩ => ⟨S2x6144, .f32⟩
  | .hbm, ⟨4, _⟩ => ⟨S1024, .f32⟩
  | .hbm, ⟨5, _⟩ => ⟨S1x1024, .f32⟩
  | .hbm, ⟨6, _⟩ => ⟨S1x1024, .f32⟩
  | .hbm, ⟨7, _⟩ => ⟨S2x1024, .f32⟩
  | .hbm, ⟨8, _⟩ => ⟨S2x1024x1, .f32⟩
  | .hbm, ⟨9, _⟩ => ⟨S2x1024x128, .f32⟩
  | .hbm, ⟨10, _⟩ => ⟨S2x1x6144, .f32⟩
  | .hbm, ⟨11, _⟩ => ⟨S2x8x6144, .f32⟩
  | .hbm, ⟨12, _⟩ => ⟨S1x1x6144, .f32⟩
  | .hbm, ⟨13, _⟩ => ⟨S1x6144, .f32⟩
  | .hbm, ⟨14, _⟩ => ⟨S1x1x6144, .f32⟩
  | .hbm, ⟨15, _⟩ => ⟨S6144, .f32⟩
  | .hbm, ⟨16, _⟩ => ⟨S1x1x6144, .f32⟩
  | .hbm, ⟨17, _⟩ => ⟨S1x6144, .f32⟩
  | .hbm, ⟨18, _⟩ => ⟨S1x1x6144, .f32⟩
  | .hbm, ⟨19, _⟩ => ⟨S6144, .f32⟩
  | .local _ .vmem, ⟨0, _⟩ => ⟨S2x1024x128, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x8x1024, .f32⟩
  | .local _ .vmem, ⟨6, _⟩ => ⟨S1x8x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 6], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S2x1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S1x1024 : Shape := ⟨2, ![1, 1024]⟩
abbrev S1024 : Shape := ⟨1, ![1024]⟩
abbrev S2x1024x6144 : Shape := ⟨3, ![2, 1024, 6144]⟩
abbrev S2x6144 : Shape := ⟨2, ![2, 6144]⟩
abbrev S_ : Shape := ⟨0, ![]⟩
abbrev S1x1024x6144 : Shape := ⟨3, ![1, 1024, 6144]⟩
abbrev S1024x6144 : Shape := ⟨2, ![1024, 6144]⟩
abbrev S1x6144 : Shape := ⟨2, ![1, 6144]⟩
abbrev S6144 : Shape := ⟨1, ![6144]⟩

abbrev nBuf : Space → Nat
  | .hbm => 66
  | .vmem => 0
  | .smem => 0
  | _ => 0

abbrev bufTy : (tb : Table) → Fin (tcTables nBuf tb) → BufTy
  | .hbm, ⟨0, _⟩ => ⟨S1x1024, .f32⟩
  | .hbm, ⟨1, _⟩ => ⟨S1024, .f32⟩
  | .hbm, ⟨2, _⟩ => ⟨S2x1024x6144, .f32⟩
  | .hbm, ⟨3, _⟩ => ⟨S2x6144, .f32⟩
  | .hbm, ⟨4, _⟩ => ⟨S1x1024, .f32⟩
  | .hbm, ⟨5, _⟩ => ⟨S1x1024, .f32⟩
  | .hbm, ⟨6, _⟩ => ⟨S_, .f32⟩
  | .hbm, ⟨7, _⟩ => ⟨S1x1024, .f32⟩
  | .hbm, ⟨8, _⟩ => ⟨S1x1024, .f32⟩
  | .hbm, ⟨9, _⟩ => ⟨S_, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x1024x6144, .f32⟩
  | .hbm, ⟨14, _⟩ => ⟨S1024x6144, .f32⟩
  | .hbm, ⟨15, _⟩ => ⟨S1x6144, .f32⟩
  | .hbm, ⟨16, _⟩ => ⟨S1x6144, .f32⟩
  | .hbm, ⟨17, _⟩ => ⟨S6144, .f32⟩
  | .hbm, ⟨18, _⟩ => ⟨S1x6144, .f32⟩
  | .hbm, ⟨19, _⟩ => ⟨S1x6144, .f32⟩
  | .hbm, ⟨20, _⟩ => ⟨S1024, .f32⟩
  | .hbm, ⟨21, _⟩ => ⟨S1024, .f32⟩
  | .hbm, ⟨22, _⟩ => ⟨S_, .f32⟩
  | .hbm, ⟨23, _⟩ => ⟨S1024, .f32⟩
  | .hbm, ⟨24, _⟩ => ⟨S1024, .f32⟩
  | .hbm, ⟨25, _⟩ => ⟨S_, .f32⟩
  | .hbm, ⟨26, _⟩ => ⟨S1024, .f32⟩
  | .hbm, ⟨27, _⟩ => ⟨S1024, .f32⟩
  | .hbm, ⟨28, _⟩ => ⟨S1024, .f32⟩
  | .hbm, ⟨29, _⟩ => ⟨S1x1024x6144, .f32⟩
  | .hbm, ⟨30, _⟩ => ⟨S1024x6144, .f32⟩
  | .hbm, ⟨31, _⟩ => ⟨S6144, .f32⟩
  | .hbm, ⟨32, _⟩ => ⟨S1x6144, .f32⟩
  | .hbm, ⟨33, _⟩ => ⟨S6144, .f32⟩
  | .hbm, ⟨34, _⟩ => ⟨S6144, .f32⟩
  | .hbm, ⟨35, _⟩ => ⟨S1x1024, .f32⟩
  | .hbm, ⟨36, _⟩ => ⟨S1x1024, .f32⟩
  | .hbm, ⟨37, _⟩ => ⟨S_, .f32⟩
  | .hbm, ⟨38, _⟩ => ⟨S1x1024, .f32⟩
  | .hbm, ⟨39, _⟩ => ⟨S1x1024, .f32⟩
  | .hbm, ⟨40, _⟩ => ⟨S_, .f32⟩
  | .hbm, ⟨41, _⟩ => ⟨S1x1024, .f32⟩
  | .hbm, ⟨42, _⟩ => ⟨S1x1024, .f32⟩
  | .hbm, ⟨43, _⟩ => ⟨S1x1024, .f32⟩
  | .hbm, ⟨44, _⟩ => ⟨S1x1024x6144, .f32⟩
  | .hbm, ⟨45, _⟩ => ⟨S1024x6144, .f32⟩
  | .hbm, ⟨46, _⟩ => ⟨S1x6144, .f32⟩
  | .hbm, ⟨47, _⟩ => ⟨S1x6144, .f32⟩
  | .hbm, ⟨48, _⟩ => ⟨S6144, .f32⟩
  | .hbm, ⟨49, _⟩ => ⟨S1x6144, .f32⟩
  | .hbm, ⟨50, _⟩ => ⟨S1x6144, .f32⟩
  | .hbm, ⟨51, _⟩ => ⟨S1024, .f32⟩
  | .hbm, ⟨52, _⟩ => ⟨S1024, .f32⟩
  | .hbm, ⟨53, _⟩ => ⟨S_, .f32⟩
  | .hbm, ⟨54, _⟩ => ⟨S1024, .f32⟩
  | .hbm, ⟨55, _⟩ => ⟨S1024, .f32⟩
  | .hbm, ⟨56, _⟩ => ⟨S_, .f32⟩
  | .hbm, ⟨57, _⟩ => ⟨S1024, .f32⟩
  | .hbm, ⟨58, _⟩ => ⟨S1024, .f32⟩
  | .hbm, ⟨59, _⟩ => ⟨S1024, .f32⟩
  | .hbm, ⟨60, _⟩ => ⟨S1x1024x6144, .f32⟩
  | .hbm, ⟨61, _⟩ => ⟨S1024x6144, .f32⟩
  | .hbm, ⟨62, _⟩ => ⟨S6144, .f32⟩
  | .hbm, ⟨63, _⟩ => ⟨S1x6144, .f32⟩
  | .hbm, ⟨64, _⟩ => ⟨S6144, .f32⟩
  | .hbm, ⟨65, _⟩ => ⟨S6144, .f32⟩
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_call1_v0 : Ref sig .tc := ⟨.hbm, 20, rfl⟩
abbrev main_call1_v1 : Ref sig .tc := ⟨.hbm, 21, rfl⟩
abbrev main_call1_cst : Ref sig .tc := ⟨.hbm, 22, rfl⟩
abbrev main_call1_v2 : Ref sig .tc := ⟨.hbm, 23, rfl⟩
abbrev main_call1_v3 : Ref sig .tc := ⟨.hbm, 24, rfl⟩
abbrev main_call1_cst_0 : Ref sig .tc := ⟨.hbm, 25, rfl⟩
abbrev main_call1_v4 : Ref sig .tc := ⟨.hbm, 26, rfl⟩
abbrev main_call1_v5 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_call2_v0 : Ref sig .tc := ⟨.hbm, 35, rfl⟩
abbrev main_call2_v1 : Ref sig .tc := ⟨.hbm, 36, rfl⟩
abbrev main_call2_cst : Ref sig .tc := ⟨.hbm, 37, rfl⟩
abbrev main_call2_v2 : Ref sig .tc := ⟨.hbm, 38, rfl⟩
abbrev main_call2_v3 : Ref sig .tc := ⟨.hbm, 39, rfl⟩
abbrev main_call2_cst_0 : Ref sig .tc := ⟨.hbm, 40, rfl⟩
abbrev main_call2_v4 : Ref sig .tc := ⟨.hbm, 41, rfl⟩
abbrev main_call2_v5 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_call3_v0 : Ref sig .tc := ⟨.hbm, 51, rfl⟩
abbrev main_call3_v1 : Ref sig .tc := ⟨.hbm, 52, rfl⟩
abbrev main_call3_cst : Ref sig .tc := ⟨.hbm, 53, rfl⟩
abbrev main_call3_v2 : Ref sig .tc := ⟨.hbm, 54, rfl⟩
abbrev main_call3_v3 : Ref sig .tc := ⟨.hbm, 55, rfl⟩
abbrev main_call3_cst_0 : Ref sig .tc := ⟨.hbm, 56, rfl⟩
abbrev main_call3_v4 : Ref sig .tc := ⟨.hbm, 57, rfl⟩
abbrev main_call3_v5 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩

abbrev nD : Nat := 1
abbrev τ : Topo := Topo.v7x

variable {F : FTy → Type} [FloatOps F]
-- ==== Proof.Pay.lean ====
module

public import proofs.«01_k».proof.Proof.Gen.KernelIdeal.Skeleton
public import Idealize.ShloMosaic.Lib.Pointwise

@[expose] public section

set_option maxRecDepth 16384

noncomputable section

open Idealize.ShloMosaic Idealize.ShloMosaic.TcCoe Idealize.SL.Sem

namespace Cert.KernelIdeal.Attn

open Cert.KernelIdeal Cert.KernelIdeal.Gen

/-- The unnormalised probabilities of one block of keys `k` against one head's queries `q` (stored with the
    queries along the last axis): two to the power of their products. -/
def fillB (k : FVec Ideal S1x1024x64 .bf16) (q : FVec Ideal S64x512 .bf16) : FVec Ideal S1x1024x512 .bf16 :=
  fun x => Ideal.exp2 (∑ d : Fin 64, k (ix3 0 (x 1) d) * q (ix2 d (x 2)))

/-- One block's drain: what the accumulator held, plus the block's values weighted by its probabilities. -/
def drainB (v : FVec Ideal S1x80x1024 .bf16) (p : FVec Ideal S1x1024x512 .bf16) (a : FVec Ideal S1x80x512 .f32) :
    FVec Ideal S1x80x512 .f32 :=
  fun x => a x + ∑ s : Fin 1024, v (ix3 0 (x 1) s) * p (ix3 0 s (x 2))

/-- The short context's drain, whose probabilities are computed in place. -/
def ctxB (k : FVec Ideal S1x256x64 .bf16) (q : FVec Ideal S64x512 .bf16) (v : FVec Ideal S1x80x256 .bf16)
    (a : FVec Ideal S1x80x512 .f32) : FVec Ideal S1x80x512 .f32 :=
  fun x => a x + ∑ s : Fin 256, v (ix3 0 (x 1) s) * Ideal.exp2 (∑ d : Fin 64, k (ix3 0 s d) * q (ix2 d (x 2)))

/-- A fill of one head's block of probabilities. -/
theorem fill4 (k : FVec Ideal S1x1024x64 .bf16) (q : FVec Ideal S64x512 .bf16) : k0_pay4 (F := Ideal) k q = fillB k q := by
  funext x; obtain ⟨x0, x1, x2, rfl⟩ : ∃ (x0 : Fin 1) (x1 : Fin 1024) (x2 : Fin 512), x = ix3 x0 x1 x2 := ⟨x 0, x 1, x 2, eq_ix3 x⟩
  pointwise! [fillB, k0_pay4, k0_pay1]

/-- A fill of one head's block of probabilities. -/
theorem fill5 (k : FVec Ideal S1x1024x64 .bf16) (q : FVec Ideal S64x512 .bf16) : k0_pay5 (F := Ideal) k q = fillB k q := by
  funext x; obtain ⟨x0, x1, x2, rfl⟩ : ∃ (x0 : Fin 1) (x1 : Fin 1024) (x2 : Fin 512), x = ix3 x0 x1 x2 := ⟨x 0, x 1, x 2, eq_ix3 x⟩
  pointwise! [fillB, k0_pay5, k0_pay1]

/-- A fill of one head's block of probabilities. -/
theorem fill6 (k : FVec Ideal S1x1024x64 .bf16) (q : FVec Ideal S64x512 .bf16) : k0_pay6 (F := Ideal) (k0_pay2 k q) = fillB k q := by
  funext x; obtain ⟨x0, x1, x2, rfl⟩ : ∃ (x0 : Fin 1) (x1 : Fin 1024) (x2 : Fin 512), x = ix3 x0 x1 x2 := ⟨x 0, x 1, x 2, eq_ix3 x⟩
  pointwise! [fillB, k0_pay6, k0_pay2, k0_pay1]

/-- A fill of one head's block of probabilities. -/
theorem fill7 (k : FVec Ideal S1x1024x64 .bf16) (q : FVec Ideal S64x512 .bf16) : k0_pay7 (F := Ideal) (k0_pay3 k q) = fillB k q := by
  funext x; obtain ⟨x0, x1, x2, rfl⟩ : ∃ (x0 : Fin 1) (x1 : Fin 1024) (x2 : Fin 512), x = ix3 x0 x1 x2 := ⟨x 0, x 1, x 2, eq_ix3 x⟩
  pointwise! [fillB, k0_pay7, k0_pay3, k0_pay1]

/-- A fill of one head's block of probabilities. -/
theorem fill18 (k : FVec Ideal S1x1024x64 .bf16) (q : FVec Ideal S64x512 .bf16) : k0_pay18 (F := Ideal) (k0_pay16 k) (k0_pay17 q) (constant S1024x512 .f32 0x00000000#32) = fillB k q := by
  funext x; obtain ⟨x0, x1, x2, rfl⟩ : ∃ (x0 : Fin 1) (x1 : Fin 1024) (x2 : Fin 512), x = ix3 x0 x1 x2 := ⟨x 0, x 1, x 2, eq_ix3 x⟩
  pointwise! [fillB, k0_pay18, k0_pay16, k0_pay17]

/-- A fill of one head's block of probabilities. -/
theorem fill19 (k : FVec Ideal S1x1024x64 .bf16) (q : FVec Ideal S64x512 .bf16) : k0_pay19 (F := Ideal) (k0_pay16 k) q = fillB k q := by
  funext x; obtain ⟨x0, x1, x2, rfl⟩ : ∃ (x0 : Fin 1) (x1 : Fin 1024) (x2 : Fin 512), x = ix3 x0 x1 x2 := ⟨x 0, x 1, x 2, eq_ix3 x⟩
  pointwise! [fillB, k0_pay19, k0_pay16]

/-- A fill of one head's block of probabilities. -/
theorem fill20 (k : FVec Ideal S1x1024x64 .bf16) (q : FVec Ideal S64x512 .bf16) : k0_pay20 (F := Ideal) (k0_pay16 k) q = fillB k q := by
  funext x; obtain ⟨x0, x1, x2, rfl⟩ : ∃ (x0 : Fin 1) (x1 : Fin 1024) (x2 : Fin 512), x = ix3 x0 x1 x2 := ⟨x 0, x 1, x 2, eq_ix3 x⟩
  pointwise! [fillB, k0_pay20, k0_pay16]

/-- A fill of one head's block of probabilities. -/
theorem fill21 (k : FVec Ideal S1x1024x64 .bf16) (q : FVec Ideal S64x512 .bf16) : k0_pay21 (F := Ideal) (k0_pay16 k) q = fillB k q := by
  funext x; obtain ⟨x0, x1, x2, rfl⟩ : ∃ (x0 : Fin 1) (x1 : Fin 1024) (x2 : Fin 512), x = ix3 x0 x1 x2 := ⟨x 0, x 1, x 2, eq_ix3 x⟩
  pointwise! [fillB, k0_pay21, k0_pay16]

/-- A fill of one head's block of probabilities. -/
theorem fill40 (k : FVec Ideal S1x1024x64 .bf16) (q : FVec Ideal S64x512 .bf16) : k0_pay40 (F := Ideal) (k0_pay39 k) q = fillB k q := by
  funext x; obtain ⟨x0, x1, x2, rfl⟩ : ∃ (x0 : Fin 1) (x1 : Fin 1024) (x2 : Fin 512), x = ix3 x0 x1 x2 := ⟨x 0, x 1, x 2, eq_ix3 x⟩
  pointwise! [fillB, k0_pay40, k0_pay39]

/-- A fill of one head's block of probabilities. -/
theorem fill41 (k : FVec Ideal S1x1024x64 .bf16) (q : FVec Ideal S64x512 .bf16) : k0_pay41 (F := Ideal) (k0_pay39 k) q = fillB k q := by
  funext x; obtain ⟨x0, x1, x2, rfl⟩ : ∃ (x0 : Fin 1) (x1 : Fin 1024) (x2 : Fin 512), x = ix3 x0 x1 x2 := ⟨x 0, x 1, x 2, eq_ix3 x⟩
  pointwise! [fillB, k0_pay41, k0_pay39]

/-- A fill of one head's block of probabilities. -/
theorem fill42 (k : FVec Ideal S1x1024x64 .bf16) (q : FVec Ideal S64x512 .bf16) : k0_pay42 (F := Ideal) (k0_pay39 k) q = fillB k q := by
  funext x; obtain ⟨x0, x1, x2, rfl⟩ : ∃ (x0 : Fin 1) (x1 : Fin 1024) (x2 : Fin 512), x = ix3 x0 x1 x2 := ⟨x 0, x 1, x 2, eq_ix3 x⟩
  pointwise! [fillB, k0_pay42, k0_pay39]

/-- A fill of one head's block of probabilities. -/
theorem fill43 (k : FVec Ideal S1x1024x64 .bf16) (q : FVec Ideal S64x512 .bf16) : k0_pay43 (F := Ideal) (k0_pay39 k) q = fillB k q := by
  funext x; obtain ⟨x0, x1, x2, rfl⟩ : ∃ (x0 : Fin 1) (x1 : Fin 1024) (x2 : Fin 512), x = ix3 x0 x1 x2 := ⟨x 0, x 1, x 2, eq_ix3 x⟩
  pointwise! [fillB, k0_pay43, k0_pay39]

/-- A fill of one head's block of probabilities. -/
theorem fill49 (k : FVec Ideal S1x1024x64 .bf16) (q : FVec Ideal S64x512 .bf16) : k0_pay49 (F := Ideal) k q = fillB k q := by
  funext x; obtain ⟨x0, x1, x2, rfl⟩ : ∃ (x0 : Fin 1) (x1 : Fin 1024) (x2 : Fin 512), x = ix3 x0 x1 x2 := ⟨x 0, x 1, x 2, eq_ix3 x⟩
  pointwise! [fillB, k0_pay49, k0_pay46]

/-- A fill of one head's block of probabilities. -/
theorem fill50 (k : FVec Ideal S1x1024x64 .bf16) (q : FVec Ideal S64x512 .bf16) : k0_pay50 (F := Ideal) k q = fillB k q := by
  funext x; obtain ⟨x0, x1, x2, rfl⟩ : ∃ (x0 : Fin 1) (x1 : Fin 1024) (x2 : Fin 512), x = ix3 x0 x1 x2 := ⟨x 0, x 1, x 2, eq_ix3 x⟩
  pointwise! [fillB, k0_pay50, k0_pay46]

/-- A fill of one head's block of probabilities. -/
theorem fill51 (k : FVec Ideal S1x1024x64 .bf16) (q : FVec Ideal S64x512 .bf16) : k0_pay51 (F := Ideal) (k0_pay47 k q) = fillB k q := by
  funext x; obtain ⟨x0, x1, x2, rfl⟩ : ∃ (x0 : Fin 1) (x1 : Fin 1024) (x2 : Fin 512), x = ix3 x0 x1 x2 := ⟨x 0, x 1, x 2, eq_ix3 x⟩
  pointwise! [fillB, k0_pay51, k0_pay47, k0_pay46]

/-- A fill of one head's block of probabilities. -/
theorem fill52 (k : FVec Ideal S1x1024x64 .bf16) (q : FVec Ideal S64x512 .bf16) : k0_pay52 (F := Ideal) (k0_pay48 k q) = fillB k q := by
  funext x; obtain ⟨x0, x1, x2, rfl⟩ : ∃ (x0 : Fin 1) (x1 : Fin 1024) (x2 : Fin 512), x = ix3 x0 x1 x2 := ⟨x 0, x 1, x 2, eq_ix3 x⟩
  pointwise! [fillB, k0_pay52, k0_pay48, k0_pay46]

/-- A drain of one head's block. -/
theorem drain11 (v : FVec Ideal S1x80x1024 .bf16) (p : FVec Ideal S1x1024x512 .bf16) (a : FVec Ideal S1x80x512 .f32) :
    k0_pay11 (F := Ideal) v p a = drainB v p a := by
  funext x; obtain ⟨x0, x1, x2, rfl⟩ : ∃ (x0 : Fin 1) (x1 : Fin 80) (x2 : Fin 512), x = ix3 x0 x1 x2 := ⟨x 0, x 1, x 2, eq_ix3 x⟩
  obtain rfl : x0 = 0 := Subsingleton.elim _ _
  pointwise! [drainB, k0_pay11, k0_pay8]

/-- A drain of one head's block. -/
theorem drain13 (v : FVec Ideal S1x80x1024 .bf16) (p : FVec Ideal S1x1024x512 .bf16) (a : FVec Ideal S1x80x512 .f32) :
    k0_pay13 (F := Ideal) (k0_pay12 v p) a = drainB v p a := by
  funext x; obtain ⟨x0, x1, x2, rfl⟩ : ∃ (x0 : Fin 1) (x1 : Fin 80) (x2 : Fin 512), x = ix3 x0 x1 x2 := ⟨x 0, x 1, x 2, eq_ix3 x⟩
  obtain rfl : x0 = 0 := Subsingleton.elim _ _
  pointwise! [drainB, k0_pay13, k0_pay12, k0_pay8]

/-- A drain of one head's block. -/
theorem drain14 (v : FVec Ideal S1x80x1024 .bf16) (p : FVec Ideal S1x1024x512 .bf16) (a : FVec Ideal S1x80x512 .f32) :
    k0_pay14 (F := Ideal) (k0_pay8 v) (k0_pay9 p) a = drainB v p a := by
  funext x; obtain ⟨x0, x1, x2, rfl⟩ : ∃ (x0 : Fin 1) (x1 : Fin 80) (x2 : Fin 512), x = ix3 x0 x1 x2 := ⟨x 0, x 1, x 2, eq_ix3 x⟩
  obtain rfl : x0 = 0 := Subsingleton.elim _ _
  pointwise! [drainB, k0_pay14, k0_pay9, k0_pay8]

/-- A drain of one head's block. -/
theorem drain15 (v : FVec Ideal S1x80x1024 .bf16) (p : FVec Ideal S1x1024x512 .bf16) (a : FVec Ideal S1x80x512 .f32) :
    k0_pay15 (F := Ideal) (k0_pay8 v) (k0_pay10 p) a = drainB v p a := by
  funext x; obtain ⟨x0, x1, x2, rfl⟩ : ∃ (x0 : Fin 1) (x1 : Fin 80) (x2 : Fin 512), x = ix3 x0 x1 x2 := ⟨x 0, x 1, x 2, eq_ix3 x⟩
  obtain rfl : x0 = 0 := Subsingleton.elim _ _
  pointwise! [drainB, k0_pay15, k0_pay10, k0_pay8]

/-- A drain of one head's block. -/
theorem drain24 (v : FVec Ideal S1x80x1024 .bf16) (p : FVec Ideal S1x1024x512 .bf16) (a : FVec Ideal S1x80x512 .f32) :
    k0_pay24 (F := Ideal) v p a = drainB v p a := by
  funext x; obtain ⟨x0, x1, x2, rfl⟩ : ∃ (x0 : Fin 1) (x1 : Fin 80) (x2 : Fin 512), x = ix3 x0 x1 x2 := ⟨x 0, x 1, x 2, eq_ix3 x⟩
  obtain rfl : x0 = 0 := Subsingleton.elim _ _
  pointwise! [drainB, k0_pay24, k0_pay22]

/-- A drain of one head's block. -/
theorem drain25 (v : FVec Ideal S1x80x1024 .bf16) (p : FVec Ideal S1x1024x512 .bf16) (a : FVec Ideal S1x80x512 .f32) :
    k0_pay25 (F := Ideal) v p a = drainB v p a := by
  funext x; obtain ⟨x0, x1, x2, rfl⟩ : ∃ (x0 : Fin 1) (x1 : Fin 80) (x2 : Fin 512), x = ix3 x0 x1 x2 := ⟨x 0, x 1, x 2, eq_ix3 x⟩
  obtain rfl : x0 = 0 := Subsingleton.elim _ _
  pointwise! [drainB, k0_pay25, k0_pay22]

/-- A drain of one head's block. -/
theorem drain44 (v : FVec Ideal S1x80x1024 .bf16) (p : FVec Ideal S1x1024x512 .bf16) (a : FVec Ideal S1x80x512 .f32) :
    k0_pay44 (F := Ideal) (k0_pay26 v p) a = drainB v p a := by
  funext x; obtain ⟨x0, x1, x2, rfl⟩ : ∃ (x0 : Fin 1) (x1 : Fin 80) (x2 : Fin 512), x = ix3 x0 x1 x2 := ⟨x 0, x 1, x 2, eq_ix3 x⟩
  obtain rfl : x0 = 0 := Subsingleton.elim _ _
  pointwise! [drainB, k0_pay44, k0_pay26, k0_pay22]

/-- A drain of one head's block. -/
theorem drain45 (v : FVec Ideal S1x80x1024 .bf16) (p : FVec Ideal S1x1024x512 .bf16) (a : FVec Ideal S1x80x512 .f32) :
    k0_pay45 (F := Ideal) (k0_pay22 v) (k0_pay23 p) a = drainB v p a := by
  funext x; obtain ⟨x0, x1, x2, rfl⟩ : ∃ (x0 : Fin 1) (x1 : Fin 80) (x2 : Fin 512), x = ix3 x0 x1 x2 := ⟨x 0, x 1, x 2, eq_ix3 x⟩
  obtain rfl : x0 = 0 := Subsingleton.elim _ _
  pointwise! [drainB, k0_pay45, k0_pay23, k0_pay22]

/-- A drain of one head's block. -/
theorem drain56 (v : FVec Ideal S1x80x1024 .bf16) (p : FVec Ideal S1x1024x512 .bf16) (a : FVec Ideal S1x80x512 .f32) :
    k0_pay56 (F := Ideal) v p a = drainB v p a := by
  funext x; obtain ⟨x0, x1, x2, rfl⟩ : ∃ (x0 : Fin 1) (x1 : Fin 80) (x2 : Fin 512), x = ix3 x0 x1 x2 := ⟨x 0, x 1, x 2, eq_ix3 x⟩
  obtain rfl : x0 = 0 := Subsingleton.elim _ _
  pointwise! [drainB, k0_pay56, k0_pay53]

/-- A drain of one head's block. -/
theorem drain58 (v : FVec Ideal S1x80x1024 .bf16) (p : FVec Ideal S1x1024x512 .bf16) (a : FVec Ideal S1x80x512 .f32) :
    k0_pay58 (F := Ideal) (k0_pay57 v p) a = drainB v p a := by
  funext x; obtain ⟨x0, x1, x2, rfl⟩ : ∃ (x0 : Fin 1) (x1 : Fin 80) (x2 : Fin 512), x = ix3 x0 x1 x2 := ⟨x 0, x 1, x 2, eq_ix3 x⟩
  obtain rfl : x0 = 0 := Subsingleton.elim _ _
  pointwise! [drainB, k0_pay58, k0_pay57, k0_pay53]

/-- A drain of one head's block. -/
theorem drain59 (v : FVec Ideal S1x80x1024 .bf16) (p : FVec Ideal S1x1024x512 .bf16) (a : FVec Ideal S1x80x512 .f32) :
    k0_pay59 (F := Ideal) (k0_pay53 v) (k0_pay54 p) a = drainB v p a := by
  funext x; obtain ⟨x0, x1, x2, rfl⟩ : ∃ (x0 : Fin 1) (x1 : Fin 80) (x2 : Fin 512), x = ix3 x0 x1 x2 := ⟨x 0, x 1, x 2, eq_ix3 x⟩
  obtain rfl : x0 = 0 := Subsingleton.elim _ _
  pointwise! [drainB, k0_pay59, k0_pay54, k0_pay53]

/-- A drain of one head's block. -/
theorem drain60 (v : FVec Ideal S1x80x1024 .bf16) (p : FVec Ideal S1x1024x512 .bf16) (a : FVec Ideal S1x80x512 .f32) :
    k0_pay60 (F := Ideal) (k0_pay53 v) (k0_pay55 p) a = drainB v p a := by
  funext x; obtain ⟨x0, x1, x2, rfl⟩ : ∃ (x0 : Fin 1) (x1 : Fin 80) (x2 : Fin 512), x = ix3 x0 x1 x2 := ⟨x 0, x 1, x 2, eq_ix3 x⟩
  obtain rfl : x0 = 0 := Subsingleton.elim _ _
  pointwise! [drainB, k0_pay60, k0_pay55, k0_pay53]

/-- A drain of one head's block. -/
theorem drain64 (v : FVec Ideal S1x80x1024 .bf16) (p : FVec Ideal S1x1024x512 .bf16) (a : FVec Ideal S1x80x512 .f32) :
    k0_pay64 (F := Ideal) (k0_pay61 v) (k0_pay62 p) a = drainB v p a := by
  funext x; obtain ⟨x0, x1, x2, rfl⟩ : ∃ (x0 : Fin 1) (x1 : Fin 80) (x2 : Fin 512), x = ix3 x0 x1 x2 := ⟨x 0, x 1, x 2, eq_ix3 x⟩
  obtain rfl : x0 = 0 := Subsingleton.elim _ _
  pointwise! [drainB, k0_pay64, k0_pay62, k0_pay61]

/-- A drain of one head's block. -/
theorem drain65 (v : FVec Ideal S1x80x1024 .bf16) (p : FVec Ideal S1x1024x512 .bf16) (a : FVec Ideal S1x80x512 .f32) :
    k0_pay65 (F := Ideal) (k0_pay61 v) (k0_pay63 p) a = drainB v p a := by
  funext x; obtain ⟨x0, x1, x2, rfl⟩ : ∃ (x0 : Fin 1) (x1 : Fin 80) (x2 : Fin 512), x = ix3 x0 x1 x2 := ⟨x 0, x 1, x 2, eq_ix3 x⟩
  obtain rfl : x0 = 0 := Subsingleton.elim _ _
  pointwise! [drainB, k0_pay65, k0_pay63, k0_pay61]

/-- A drain of one head's block. -/
theorem drain66 (v : FVec Ideal S1x80x1024 .bf16) (p : FVec Ideal S1x1024x512 .bf16) (a : FVec Ideal S1x80x512 .f32) :
    k0_pay66 (F := Ideal) (k0_pay61 v) p a = drainB v p a := by
  funext x; obtain ⟨x0, x1, x2, rfl⟩ : ∃ (x0 : Fin 1) (x1 : Fin 80) (x2 : Fin 512), x = ix3 x0 x1 x2 := ⟨x 0, x 1, x 2, eq_ix3 x⟩
  obtain rfl : x0 = 0 := Subsingleton.elim _ _
  pointwise! [drainB, k0_pay66, k0_pay61]

/-- A drain of one head's block. -/
theorem drain68 (v : FVec Ideal S1x80x1024 .bf16) (p : FVec Ideal S1x1024x512 .bf16) (a : FVec Ideal S1x80x512 .f32) :
    k0_pay68 (F := Ideal) (k0_pay67 (k0_pay61 v) p a) = drainB v p a := by
  funext x; obtain ⟨x0, x1, x2, rfl⟩ : ∃ (x0 : Fin 1) (x1 : Fin 80) (x2 : Fin 512), x = ix3 x0 x1 x2 := ⟨x 0, x 1, x 2, eq_ix3 x⟩
  obtain rfl : x0 = 0 := Subsingleton.elim _ _
  pointwise! [drainB, k0_pay68, k0_pay67, k0_pay61]

/-- The short context's drain of one head. -/
theorem ctx35 (k : FVec Ideal S1x256x64 .bf16) (q : FVec Ideal S64x512 .bf16) (v : FVec Ideal S1x80x256 .bf16) (a : FVec Ideal S1x80x512 .f32) :
    k0_pay35 (F := Ideal) (k0_pay33 k q v) (k0_pay34 a) = ctxB k q v a := by
  funext x; obtain ⟨x0, x1, x2, rfl⟩ : ∃ (x0 : Fin 1) (x1 : Fin 80) (x2 : Fin 512), x = ix3 x0 x1 x2 := ⟨x 0, x 1, x 2, eq_ix3 x⟩
  obtain rfl : x0 = 0 := Subsingleton.elim _ _
  pointwise! [ctxB, k0_pay35, k0_pay33, k0_pay34, k0_pay32, k0_pay28]

/-- The short context's drain of one head. -/
theorem ctx36 (k : FVec Ideal S1x256x64 .bf16) (q : FVec Ideal S64x512 .bf16) (v : FVec Ideal S1x80x256 .bf16) (a : FVec Ideal S1x80x512 .f32) :
    k0_pay36 (F := Ideal) (k0_pay29 k q) (k0_pay32 v) a = ctxB k q v a := by
  funext x; obtain ⟨x0, x1, x2, rfl⟩ : ∃ (x0 : Fin 1) (x1 : Fin 80) (x2 : Fin 512), x = ix3 x0 x1 x2 := ⟨x 0, x 1, x 2, eq_ix3 x⟩
  obtain rfl : x0 = 0 := Subsingleton.elim _ _
  pointwise! [ctxB, k0_pay36, k0_pay29, k0_pay32, k0_pay28]

/-- The short context's drain of one head. -/
theorem ctx37 (k : FVec Ideal S1x256x64 .bf16) (q : FVec Ideal S64x512 .bf16) (v : FVec Ideal S1x80x256 .bf16) (a : FVec Ideal S1x80x512 .f32) :
    k0_pay37 (F := Ideal) (k0_pay30 k q) (k0_pay32 v) a = ctxB k q v a := by
  funext x; obtain ⟨x0, x1, x2, rfl⟩ : ∃ (x0 : Fin 1) (x1 : Fin 80) (x2 : Fin 512), x = ix3 x0 x1 x2 := ⟨x 0, x 1, x 2, eq_ix3 x⟩
  obtain rfl : x0 = 0 := Subsingleton.elim _ _
  pointwise! [ctxB, k0_pay37, k0_pay30, k0_pay32, k0_pay28]

/-- The short context's drain of one head. -/
theorem ctx38 (k : FVec Ideal S1x256x64 .bf16) (q : FVec Ideal S64x512 .bf16) (v : FVec Ideal S1x80x256 .bf16) (a : FVec Ideal S1x80x512 .f32) :
    k0_pay38 (F := Ideal) (k0_pay31 k q) (k0_pay32 v) a = ctxB k q v a := by
  funext x; obtain ⟨x0, x1, x2, rfl⟩ : ∃ (x0 : Fin 1) (x1 : Fin 80) (x2 : Fin 512), x = ix3 x0 x1 x2 := ⟨x 0, x 1, x 2, eq_ix3 x⟩
  obtain rfl : x0 = 0 := Subsingleton.elim _ _
  pointwise! [ctxB, k0_pay38, k0_pay31, k0_pay32, k0_pay28]

/-- The accumulators begin at zero. -/
theorem init27 (x : S4x80x512.Idx) : k0_pay27 (F := Ideal) x = 0 := by
  pointwise [k0_pay27]

end Cert.KernelIdeal.Attn

end
-- ==== Proof.Trip.lean ====
module

public import proofs.«01_k».proof.Proof.Gen.KernelIdeal.Loops
public import proofs.«01_k».proof.Proof.Pay
public import Idealize.ShloMosaic.Lib.Pipeline.ValueKit
public import Idealize.ShloMosaic.Lib.WritesUnit
public import Idealize.ShloMosaic.Lib.Pipeline.ReadBack

@[expose] public section

set_option maxRecDepth 16384

noncomputable section

open Idealize.ShloMosaic Idealize.ShloMosaic.TcCoe Idealize.SL.Sem

namespace Cert.KernelIdeal.Attn

open Cert.KernelIdeal Cert.KernelIdeal.Gen

/-- Row `s` of block `n` of the latent keys. -/
def blk (n : Nat) (s : Fin 1024) : Fin 16384 := ⟨(1024 * n + s.val) % 16384, Nat.mod_lt _ (by decide)⟩

theorem blk_eq (n : Nat) (s : Fin 1024) (a : Fin 16384) (h : a.val = 1024 * n + s.val) : a = blk n s :=
  Fin.ext (by rw [h]; exact (Nat.mod_eq_of_lt (h ▸ a.isLt)).symm)

/-- The unnormalised probabilities of key block `n`, all four heads. -/
def PV (x0 : FVec Ideal S256x512 .bf16) (x3 : FVec Ideal S1x16384x64 .bf16) (n : Nat) : FVec Ideal S4x1024x512 .bf16 :=
  fun y => Ideal.exp2 (∑ d : Fin 64, x3 (ix3 0 (blk n (y 1)) d) * x0 (ix2 ⟨64 * (y 0).val + d.val, by have := (y 0).isLt; have := d.isLt; simp at *; omega⟩ (y 2)))

/-- Value block `n` weighted by probabilities `p`. -/
def WT (x4 : FVec Ideal S1x80x16384 .bf16) (n : Nat) (p : FVec Ideal S4x1024x512 .bf16) : FVec Ideal S4x80x512 .f32 :=
  fun y => ∑ s : Fin 1024, x4 (ix3 0 (y 1) (blk n s)) * p (ix3 (y 0) s (y 2))

/-- The head-`h` block of probabilities the fill writes is that head's part of `PV`. -/
theorem fill_PV (x0 : FVec Ideal S256x512 .bf16) (x3 : FVec Ideal S1x16384x64 .bf16) (n : Nat)
    (kb : FVec Ideal S1x1024x64 .bf16) (qb : FVec Ideal S64x512 .bf16) (h : Fin 4)
    (hk : ∀ (s : Fin 1024) (d : Fin 64), kb (ix3 0 s d) = x3 (ix3 0 (blk n s) d))
    (hq : ∀ (d : Fin 64) (e : Fin 512), qb (ix2 d e) = x0 (ix2 ⟨64 * h.val + d.val, by omega⟩ e))
    (s : Fin 1024) (e : Fin 512) : fillB kb qb (ix3 0 s e) = PV x0 x3 n (ix3 h s e) := by
  unfold fillB PV
  refine congrArg _ (Finset.sum_congr rfl fun d _ => ?_)
  exact congrArg₂ (· * ·) (hk s d) (hq d e)

set_option maxHeartbeats 1000000 in
/-- A probability buffer after its four heads were stored, one after the other, over any earlier stores. -/
theorem read4p (M : Memref sig .tc .vmem S4x1024x512 .bf16) (f : BufTy.Contents (Elt Ideal) M.view.ty)
    (w0 w1 w2 w3 : FVec Ideal S1x1024x512 .bf16) (L : List (View.Piece (Elt Ideal) S4x1024x512 .bf16)) (G : FVec Ideal S4x1024x512 .bf16)
    (h0 : ∀ (s : Fin 1024) (e : Fin 512), w0 (ix3 0 s e) = G (ix3 0 s e))
    (h1 : ∀ (s : Fin 1024) (e : Fin 512), w1 (ix3 0 s e) = G (ix3 1 s e))
    (h2 : ∀ (s : Fin 1024) (e : Fin 512), w2 (ix3 0 s e) = G (ix3 2 s e))
    (h3 : ∀ (s : Fin 1024) (e : Fin 512), w3 (ix3 0 s e) = G (ix3 3 s e)) :
    M.view.read (Elt Ideal) (M.view.writes (Elt Ideal) f ((⟨Rect.unit ![3, 0, 0] ![1, 1024, 512] inb_S4x1024x512_S1x1024x512_3_0_0, w3⟩ : View.Piece (Elt Ideal) S4x1024x512 .bf16) :: (⟨Rect.unit ![2, 0, 0] ![1, 1024, 512] inb_S4x1024x512_S1x1024x512_2_0_0, w2⟩ : View.Piece (Elt Ideal) S4x1024x512 .bf16) :: (⟨Rect.unit ![1, 0, 0] ![1, 1024, 512] inb_S4x1024x512_S1x1024x512_1_0_0, w1⟩ : View.Piece (Elt Ideal) S4x1024x512 .bf16) :: (⟨Rect.unit ![0, 0, 0] ![1, 1024, 512] inb_S4x1024x512_S1x1024x512_0_0_0, w0⟩ : View.Piece (Elt Ideal) S4x1024x512 .bf16) :: L)) = G := by
  funext y
  obtain ⟨y0, y1, y2, rfl⟩ : ∃ (y0 : Fin 4) (y1 : Fin 1024) (y2 : Fin 512), y = ix3 y0 y1 y2 := ⟨y 0, y 1, y 2, eq_ix3 y⟩
  have hx : ∀ (h : Fin 4) (a : Fin 3), (ix3 h y1 y2 a : Fin (S4x1024x512.size a)).val = (![h.val, 0, 0] : Fin 3 → Nat) a + (ix3 (0 : Fin 1) y1 y2 a : Fin (S1x1024x512.size a)).val := by
    intro h a; fin_cases a <;> simp [ix3]
  rcases (by decide : ∀ h : Fin 4, h = 0 ∨ h = 1 ∨ h = 2 ∨ h = 3) y0 with rfl | rfl | rfl | rfl
  · refine (View.read_writes_cons_unit_of_not_mem M.view f inb_S4x1024x512_S1x1024x512_3_0_0 w3 _ (ix3 0 y1 y2) (off' := ![3, 0, 0]) rfl 0 (Or.inl (show 0 < 3 by decide))).trans ?_
    refine (View.read_writes_cons_unit_of_not_mem M.view f inb_S4x1024x512_S1x1024x512_2_0_0 w2 _ (ix3 0 y1 y2) (off' := ![2, 0, 0]) rfl 0 (Or.inl (show 0 < 2 by decide))).trans ?_
    refine (View.read_writes_cons_unit_of_not_mem M.view f inb_S4x1024x512_S1x1024x512_1_0_0 w1 _ (ix3 0 y1 y2) (off' := ![1, 0, 0]) rfl 0 (Or.inl (show 0 < 1 by decide))).trans ?_
    exact (View.read_writes_cons_unit_of_mem M.view f inb_S4x1024x512_S1x1024x512_0_0_0 w0 _ (ix3 0 y1 y2) (ix3 0 y1 y2) (off' := ![0, 0, 0]) rfl (hx 0)).trans (h0 y1 y2)
  · refine (View.read_writes_cons_unit_of_not_mem M.view f inb_S4x1024x512_S1x1024x512_3_0_0 w3 _ (ix3 1 y1 y2) (off' := ![3, 0, 0]) rfl 0 (Or.inl (show 1 < 3 by decide))).trans ?_
    refine (View.read_writes_cons_unit_of_not_mem M.view f inb_S4x1024x512_S1x1024x512_2_0_0 w2 _ (ix3 1 y1 y2) (off' := ![2, 0, 0]) rfl 0 (Or.inl (show 1 < 2 by decide))).trans ?_
    exact (View.read_writes_cons_unit_of_mem M.view f inb_S4x1024x512_S1x1024x512_1_0_0 w1 _ (ix3 1 y1 y2) (ix3 0 y1 y2) (off' := ![1, 0, 0]) rfl (hx 1)).trans (h1 y1 y2)
  · refine (View.read_writes_cons_unit_of_not_mem M.view f inb_S4x1024x512_S1x1024x512_3_0_0 w3 _ (ix3 2 y1 y2) (off' := ![3, 0, 0]) rfl 0 (Or.inl (show 2 < 3 by decide))).trans ?_
    exact (View.read_writes_cons_unit_of_mem M.view f inb_S4x1024x512_S1x1024x512_2_0_0 w2 _ (ix3 2 y1 y2) (ix3 0 y1 y2) (off' := ![2, 0, 0]) rfl (hx 2)).trans (h2 y1 y2)
  · exact (View.read_writes_cons_unit_of_mem M.view f inb_S4x1024x512_S1x1024x512_3_0_0 w3 _ (ix3 3 y1 y2) (ix3 0 y1 y2) (off' := ![3, 0, 0]) rfl (hx 3)).trans (h3 y1 y2)
set_option maxHeartbeats 1000000 in
/-- The accumulator after its four heads were stored, one after the other, over any earlier stores. -/
theorem read4a (M : Memref sig .tc .vmem S4x80x512 .f32) (f : BufTy.Contents (Elt Ideal) M.view.ty)
    (w0 w1 w2 w3 : FVec Ideal S1x80x512 .f32) (L : List (View.Piece (Elt Ideal) S4x80x512 .f32)) (G : FVec Ideal S4x80x512 .f32)
    (h0 : ∀ (s : Fin 80) (e : Fin 512), w0 (ix3 0 s e) = G (ix3 0 s e))
    (h1 : ∀ (s : Fin 80) (e : Fin 512), w1 (ix3 0 s e) = G (ix3 1 s e))
    (h2 : ∀ (s : Fin 80) (e : Fin 512), w2 (ix3 0 s e) = G (ix3 2 s e))
    (h3 : ∀ (s : Fin 80) (e : Fin 512), w3 (ix3 0 s e) = G (ix3 3 s e)) :
    M.view.read (Elt Ideal) (M.view.writes (Elt Ideal) f ((⟨Rect.unit ![3, 0, 0] ![1, 80, 512] inb_S4x80x512_S1x80x512_3_0_0, w3⟩ : View.Piece (Elt Ideal) S4x80x512 .f32) :: (⟨Rect.unit ![2, 0, 0] ![1, 80, 512] inb_S4x80x512_S1x80x512_2_0_0, w2⟩ : View.Piece (Elt Ideal) S4x80x512 .f32) :: (⟨Rect.unit ![1, 0, 0] ![1, 80, 512] inb_S4x80x512_S1x80x512_1_0_0, w1⟩ : View.Piece (Elt Ideal) S4x80x512 .f32) :: (⟨Rect.unit ![0, 0, 0] ![1, 80, 512] inb_S4x80x512_S1x80x512_0_0_0, w0⟩ : View.Piece (Elt Ideal) S4x80x512 .f32) :: L)) = G := by
  funext y
  obtain ⟨y0, y1, y2, rfl⟩ : ∃ (y0 : Fin 4) (y1 : Fin 80) (y2 : Fin 512), y = ix3 y0 y1 y2 := ⟨y 0, y 1, y 2, eq_ix3 y⟩
  have hx : ∀ (h : Fin 4) (a : Fin 3), (ix3 h y1 y2 a : Fin (S4x80x512.size a)).val = (![h.val, 0, 0] : Fin 3 → Nat) a + (ix3 (0 : Fin 1) y1 y2 a : Fin (S1x80x512.size a)).val := by
    intro h a; fin_cases a <;> simp [ix3]
  rcases (by decide : ∀ h : Fin 4, h = 0 ∨ h = 1 ∨ h = 2 ∨ h = 3) y0 with rfl | rfl | rfl | rfl
  · refine (View.read_writes_cons_unit_of_not_mem M.view f inb_S4x80x512_S1x80x512_3_0_0 w3 _ (ix3 0 y1 y2) (off' := ![3, 0, 0]) rfl 0 (Or.inl (show 0 < 3 by decide))).trans ?_
    refine (View.read_writes_cons_unit_of_not_mem M.view f inb_S4x80x512_S1x80x512_2_0_0 w2 _ (ix3 0 y1 y2) (off' := ![2, 0, 0]) rfl 0 (Or.inl (show 0 < 2 by decide))).trans ?_
    refine (View.read_writes_cons_unit_of_not_mem M.view f inb_S4x80x512_S1x80x512_1_0_0 w1 _ (ix3 0 y1 y2) (off' := ![1, 0, 0]) rfl 0 (Or.inl (show 0 < 1 by decide))).trans ?_
    exact (View.read_writes_cons_unit_of_mem M.view f inb_S4x80x512_S1x80x512_0_0_0 w0 _ (ix3 0 y1 y2) (ix3 0 y1 y2) (off' := ![0, 0, 0]) rfl (hx 0)).trans (h0 y1 y2)
  · refine (View.read_writes_cons_unit_of_not_mem M.view f inb_S4x80x512_S1x80x512_3_0_0 w3 _ (ix3 1 y1 y2) (off' := ![3, 0, 0]) rfl 0 (Or.inl (show 1 < 3 by decide))).trans ?_
    refine (View.read_writes_cons_unit_of_not_mem M.view f inb_S4x80x512_S1x80x512_2_0_0 w2 _ (ix3 1 y1 y2) (off' := ![2, 0, 0]) rfl 0 (Or.inl (show 1 < 2 by decide))).trans ?_
    exact (View.read_writes_cons_unit_of_mem M.view f inb_S4x80x512_S1x80x512_1_0_0 w1 _ (ix3 1 y1 y2) (ix3 0 y1 y2) (off' := ![1, 0, 0]) rfl (hx 1)).trans (h1 y1 y2)
  · refine (View.read_writes_cons_unit_of_not_mem M.view f inb_S4x80x512_S1x80x512_3_0_0 w3 _ (ix3 2 y1 y2) (off' := ![3, 0, 0]) rfl 0 (Or.inl (show 2 < 3 by decide))).trans ?_
    exact (View.read_writes_cons_unit_of_mem M.view f inb_S4x80x512_S1x80x512_2_0_0 w2 _ (ix3 2 y1 y2) (ix3 0 y1 y2) (off' := ![2, 0, 0]) rfl (hx 2)).trans (h2 y1 y2)
  · exact (View.read_writes_cons_unit_of_mem M.view f inb_S4x80x512_S1x80x512_3_0_0 w3 _ (ix3 3 y1 y2) (ix3 0 y1 y2) (off' := ![3, 0, 0]) rfl (hx 3)).trans (h3 y1 y2)
/-- A load of one block of keys. -/
theorem key_blk (X : FVec Ideal S1x16384x64 .bf16) (off : Fin 3 → Nat) (inb : ∀ a, off a + (![1, 1024, 64] : Fin 3 → Nat) a ≤ S1x16384x64.size a)
    (n : Nat) (h : off = ![0, 1024 * n, 0]) (s : Fin 1024) (d : Fin 64) :
    X ((Rect.unit (s := S1x16384x64) off ![1, 1024, 64] inb).toLoadRect.idx (ix3 0 s d)) = X (ix3 0 (blk n s) d) := by
  subst h
  refine congrArg X ?_
  rw [← blk_eq n s ⟨1024 * n + s.val, by have := inb 1; have := s.isLt; simp [S1x16384x64] at *; omega⟩ rfl]
  funext a; apply Fin.ext; fin_cases a <;> simp [Rect.toLoadRect, LoadRect.idx, Rect.unit, ix3]

/-- A load of one block of values. -/
theorem val_blk (X : FVec Ideal S1x80x16384 .bf16) (off : Fin 3 → Nat) (inb : ∀ a, off a + (![1, 80, 1024] : Fin 3 → Nat) a ≤ S1x80x16384.size a)
    (n : Nat) (h : off = ![0, 0, 1024 * n]) (j : Fin 80) (s : Fin 1024) :
    X ((Rect.unit (s := S1x80x16384) off ![1, 80, 1024] inb).toLoadRect.idx (ix3 0 j s)) = X (ix3 0 j (blk n s)) := by
  subst h
  refine congrArg X ?_
  rw [← blk_eq n s ⟨1024 * n + s.val, by have := inb 2; have := s.isLt; simp [S1x80x16384] at *; omega⟩ rfl]
  funext a; apply Fin.ext; fin_cases a <;> simp [Rect.toLoadRect, LoadRect.idx, Rect.unit, ix3]

/-- A load of one head's queries. -/
theorem qry_blk (X : FVec Ideal S256x512 .bf16) (h : Fin 4) (off : Fin 2 → Nat) (inb : ∀ a, off a + (![64, 512] : Fin 2 → Nat) a ≤ S256x512.size a)
    (ho : off = ![64 * h.val, 0]) (d : Fin 64) (e : Fin 512) :
    X ((Rect.unit (s := S256x512) off ![64, 512] inb).toLoadRect.idx (ix2 d e)) = X (ix2 ⟨64 * h.val + d.val, by omega⟩ e) := by
  subst ho
  refine congrArg X ?_
  funext a; apply Fin.ext; fin_cases a <;> simp [Rect.toLoadRect, LoadRect.idx, Rect.unit, ix2]

/-- A load of one head's probabilities. -/
theorem prob_blk (X : FVec Ideal S4x1024x512 .bf16) (h : Fin 4) (off : Fin 3 → Nat) (inb : ∀ a, off a + (![1, 1024, 512] : Fin 3 → Nat) a ≤ S4x1024x512.size a)
    (ho : off = ![h.val, 0, 0]) (s : Fin 1024) (e : Fin 512) :
    X ((Rect.unit (s := S4x1024x512) off ![1, 1024, 512] inb).toLoadRect.idx (ix3 0 s e)) = X (ix3 h s e) := by
  subst ho
  refine congrArg X ?_
  funext a; apply Fin.ext; fin_cases a <;> simp [Rect.toLoadRect, LoadRect.idx, Rect.unit, ix3]

/-- A load of one head's accumulator. -/
theorem acc_blk (X : FVec Ideal S4x80x512 .f32) (h : Fin 4) (off : Fin 3 → Nat) (inb : ∀ a, off a + (![1, 80, 512] : Fin 3 → Nat) a ≤ S4x80x512.size a)
    (ho : off = ![h.val, 0, 0]) (s : Fin 80) (e : Fin 512) :
    X ((Rect.unit (s := S4x80x512) off ![1, 80, 512] inb).toLoadRect.idx (ix3 0 s e)) = X (ix3 h s e) := by
  subst ho
  refine congrArg X ?_
  funext a; apply Fin.ext; fin_cases a <;> simp [Rect.toLoadRect, LoadRect.idx, Rect.unit, ix3]

/-- The head-`h` block the drain writes is that head's part of the accumulator plus the weighted values. -/
theorem drain_WT (x4 : FVec Ideal S1x80x16384 .bf16) (n : Nat) (P : FVec Ideal S4x1024x512 .bf16) (A : FVec Ideal S4x80x512 .f32)
    (vb : FVec Ideal S1x80x1024 .bf16) (pb : FVec Ideal S1x1024x512 .bf16) (ab : FVec Ideal S1x80x512 .f32) (h : Fin 4)
    (hv : ∀ (j : Fin 80) (s : Fin 1024), vb (ix3 0 j s) = x4 (ix3 0 j (blk n s)))
    (hp : ∀ (s : Fin 1024) (e : Fin 512), pb (ix3 0 s e) = P (ix3 h s e))
    (ha : ∀ (j : Fin 80) (e : Fin 512), ab (ix3 0 j e) = A (ix3 h j e)) (j : Fin 80) (e : Fin 512) :
    drainB vb pb ab (ix3 0 j e) = A (ix3 h j e) + WT x4 n P (ix3 h j e) := by
  unfold drainB WT
  exact congrArg₂ (· + ·) (ha j e) (Finset.sum_congr rfl fun s _ => congrArg₂ (· * ·) (hv j s) (hp s e))

set_option maxHeartbeats 1000000 in
/-- After a trip, the first probability buffer holds key block `2k + 2`. -/
theorem trip8 (𝒱 : Variants) (c : Dev nD) (bd : Option 𝒱.V) (i : grid0.Coords) (arg2 : Memref sig .tc .vmem S256x512 .bf16) (harg2 : arg2.IsWhole) (arg3 : Memref sig .tc .vmem S1x256x64 .bf16) (harg3 : arg3.IsWhole) (arg4 : Memref sig .tc .vmem S1x80x256 .bf16) (harg4 : arg4.IsWhole) (arg5 : Memref sig .tc .vmem S1x16384x64 .bf16) (harg5 : arg5.IsWhole) (arg6 : Memref sig .tc .vmem S1x80x16384 .bf16) (harg6 : arg6.IsWhole) (arg7 : Memref sig .tc .vmem S512x256 .bf16) (harg7 : arg7.IsWhole) (arg8 : Memref sig .tc .vmem S4x1024x512 .bf16) (harg8 : arg8.IsWhole) (arg9 : Memref sig .tc .vmem S4x1024x512 .bf16) (harg9 : arg9.IsWhole) (arg10 : Memref sig .tc .vmem S2x4x1x512 .f32) (harg10 : arg10.IsWhole) (arg11 : Memref sig .tc .vmem S4x1x512 .f32) (harg11 : arg11.IsWhole) (arg12 : Memref sig .tc .vmem S4x80x512 .f32) (harg12 : arg12.IsWhole) (X_arg2 : BufTy.Contents (Elt Ideal) arg2.view.ty) (X_arg5 : BufTy.Contents (Elt Ideal) arg5.view.ty) (X_arg6 : BufTy.Contents (Elt Ideal) arg6.view.ty) (k : Fin k0_t1_loop.trips)  (f_arg8 : BufTy.Contents (Elt Ideal) arg8.view.ty) (f_arg9 : BufTy.Contents (Elt Ideal) arg9.view.ty) (f_arg12 : BufTy.Contents (Elt Ideal) arg12.view.ty) :
    arg8.view.read (Elt Ideal) (arg8.view.writes (Elt Ideal) f_arg8 (tripL_k0_t1 (F := Ideal) 𝒱 c bd i arg2 harg2 arg3 harg3 arg4 harg4 arg5 harg5 arg6 harg6 arg7 harg7 arg8 harg8 arg9 harg9 arg10 harg10 arg11 harg11 arg12 harg12 X_arg2 X_arg5 X_arg6 k f_arg8 f_arg9 f_arg12).1)
      = PV (arg2.view.read (Elt Ideal) X_arg2) (arg5.view.read (Elt Ideal) X_arg5) (2 * k.val + 2) := by
  unfold tripL_k0_t1
  rw [trip_k0_t1]
  dsimp only
  sl_unfold_words
  dsimp only
  have ho : k0_off1 k 2#32 = ![0, 1024 * (2 * k.val + 2), 0] := (k0_off1_eq k 1).trans (by congr 2; simp; omega)
  exact read4p _ _ _ _ _ _ [] _ (fun s e => (congrFun (fill18 _ _) _).trans (fill_PV _ _ (2 * k.val + 2) _ _ 0 (fun s d => key_blk _ _ _ _ (ho) s d) (fun d e => qry_blk _ 0 _ _ rfl d e) s e)) (fun s e => (congrFun (fill19 _ _) _).trans (fill_PV _ _ (2 * k.val + 2) _ _ 1 (fun s d => key_blk _ _ _ _ (ho) s d) (fun d e => qry_blk _ 1 _ _ rfl d e) s e)) (fun s e => (congrFun (fill20 _ _) _).trans (fill_PV _ _ (2 * k.val + 2) _ _ 2 (fun s d => key_blk _ _ _ _ (ho) s d) (fun d e => qry_blk _ 2 _ _ rfl d e) s e)) (fun s e => (congrFun (fill21 _ _) _).trans (fill_PV _ _ (2 * k.val + 2) _ _ 3 (fun s d => key_blk _ _ _ _ (ho) s d) (fun d e => qry_blk _ 3 _ _ rfl d e) s e))
/-- A load of head `h` after the four heads were stored. -/
theorem cov4p (M : Memref sig .tc .vmem S4x1024x512 .bf16)
    (w0 w1 w2 w3 : FVec Ideal S1x1024x512 .bf16) (G : FVec Ideal S4x1024x512 .bf16)
    (h0 : ∀ (s : Fin 1024) (e : Fin 512), w0 (ix3 0 s e) = G (ix3 0 s e))
    (h1 : ∀ (s : Fin 1024) (e : Fin 512), w1 (ix3 0 s e) = G (ix3 1 s e))
    (h2 : ∀ (s : Fin 1024) (e : Fin 512), w2 (ix3 0 s e) = G (ix3 2 s e))
    (h3 : ∀ (s : Fin 1024) (e : Fin 512), w3 (ix3 0 s e) = G (ix3 3 s e))
    (h : Fin 4) (off : Fin 3 → Nat) (inb : ∀ a, off a + (![1, 1024, 512] : Fin 3 → Nat) a ≤ S4x1024x512.size a) (ho : off = ![h.val, 0, 0])
    (s : Fin 1024) (e : Fin 512) :
    M.view.readCov [(⟨Rect.unit ![3, 0, 0] ![1, 1024, 512] inb_S4x1024x512_S1x1024x512_3_0_0, w3⟩ : View.Piece (Elt Ideal) S4x1024x512 .bf16), (⟨Rect.unit ![2, 0, 0] ![1, 1024, 512] inb_S4x1024x512_S1x1024x512_2_0_0, w2⟩ : View.Piece (Elt Ideal) S4x1024x512 .bf16), (⟨Rect.unit ![1, 0, 0] ![1, 1024, 512] inb_S4x1024x512_S1x1024x512_1_0_0, w1⟩ : View.Piece (Elt Ideal) S4x1024x512 .bf16), (⟨Rect.unit ![0, 0, 0] ![1, 1024, 512] inb_S4x1024x512_S1x1024x512_0_0_0, w0⟩ : View.Piece (Elt Ideal) S4x1024x512 .bf16)] (Rect.unit (s := S4x1024x512) off ![1, 1024, 512] inb).toLoadRect (ix3 0 s e) = G (ix3 h s e) :=
  (prob_blk (M.view.read (Elt Ideal) (M.view.writes (Elt Ideal) M.view.junk [(⟨Rect.unit ![3, 0, 0] ![1, 1024, 512] inb_S4x1024x512_S1x1024x512_3_0_0, w3⟩ : View.Piece (Elt Ideal) S4x1024x512 .bf16), (⟨Rect.unit ![2, 0, 0] ![1, 1024, 512] inb_S4x1024x512_S1x1024x512_2_0_0, w2⟩ : View.Piece (Elt Ideal) S4x1024x512 .bf16), (⟨Rect.unit ![1, 0, 0] ![1, 1024, 512] inb_S4x1024x512_S1x1024x512_1_0_0, w1⟩ : View.Piece (Elt Ideal) S4x1024x512 .bf16), (⟨Rect.unit ![0, 0, 0] ![1, 1024, 512] inb_S4x1024x512_S1x1024x512_0_0_0, w0⟩ : View.Piece (Elt Ideal) S4x1024x512 .bf16)])) h off inb ho s e).trans
    (congrFun (read4p M M.view.junk w0 w1 w2 w3 [] G h0 h1 h2 h3) _)

/-- A load of head `h` after the four heads were stored. -/
theorem cov4a (M : Memref sig .tc .vmem S4x80x512 .f32)
    (w0 w1 w2 w3 : FVec Ideal S1x80x512 .f32) (G : FVec Ideal S4x80x512 .f32)
    (h0 : ∀ (s : Fin 80) (e : Fin 512), w0 (ix3 0 s e) = G (ix3 0 s e))
    (h1 : ∀ (s : Fin 80) (e : Fin 512), w1 (ix3 0 s e) = G (ix3 1 s e))
    (h2 : ∀ (s : Fin 80) (e : Fin 512), w2 (ix3 0 s e) = G (ix3 2 s e))
    (h3 : ∀ (s : Fin 80) (e : Fin 512), w3 (ix3 0 s e) = G (ix3 3 s e))
    (h : Fin 4) (off : Fin 3 → Nat) (inb : ∀ a, off a + (![1, 80, 512] : Fin 3 → Nat) a ≤ S4x80x512.size a) (ho : off = ![h.val, 0, 0])
    (s : Fin 80) (e : Fin 512) :
    M.view.readCov [(⟨Rect.unit ![3, 0, 0] ![1, 80, 512] inb_S4x80x512_S1x80x512_3_0_0, w3⟩ : View.Piece (Elt Ideal) S4x80x512 .f32), (⟨Rect.unit ![2, 0, 0] ![1, 80, 512] inb_S4x80x512_S1x80x512_2_0_0, w2⟩ : View.Piece (Elt Ideal) S4x80x512 .f32), (⟨Rect.unit ![1, 0, 0] ![1, 80, 512] inb_S4x80x512_S1x80x512_1_0_0, w1⟩ : View.Piece (Elt Ideal) S4x80x512 .f32), (⟨Rect.unit ![0, 0, 0] ![1, 80, 512] inb_S4x80x512_S1x80x512_0_0_0, w0⟩ : View.Piece (Elt Ideal) S4x80x512 .f32)] (Rect.unit (s := S4x80x512) off ![1, 80, 512] inb).toLoadRect (ix3 0 s e) = G (ix3 h s e) :=
  (acc_blk (M.view.read (Elt Ideal) (M.view.writes (Elt Ideal) M.view.junk [(⟨Rect.unit ![3, 0, 0] ![1, 80, 512] inb_S4x80x512_S1x80x512_3_0_0, w3⟩ : View.Piece (Elt Ideal) S4x80x512 .f32), (⟨Rect.unit ![2, 0, 0] ![1, 80, 512] inb_S4x80x512_S1x80x512_2_0_0, w2⟩ : View.Piece (Elt Ideal) S4x80x512 .f32), (⟨Rect.unit ![1, 0, 0] ![1, 80, 512] inb_S4x80x512_S1x80x512_1_0_0, w1⟩ : View.Piece (Elt Ideal) S4x80x512 .f32), (⟨Rect.unit ![0, 0, 0] ![1, 80, 512] inb_S4x80x512_S1x80x512_0_0_0, w0⟩ : View.Piece (Elt Ideal) S4x80x512 .f32)])) h off inb ho s e).trans
    (congrFun (read4a M M.view.junk w0 w1 w2 w3 [] G h0 h1 h2 h3) _)

set_option maxHeartbeats 4000000 in
/-- After a trip, the accumulator has gained key blocks `2k` (at the probabilities the trip found) and `2k + 1`. -/
theorem trip12 (𝒱 : Variants) (c : Dev nD) (bd : Option 𝒱.V) (i : grid0.Coords) (arg2 : Memref sig .tc .vmem S256x512 .bf16) (harg2 : arg2.IsWhole) (arg3 : Memref sig .tc .vmem S1x256x64 .bf16) (harg3 : arg3.IsWhole) (arg4 : Memref sig .tc .vmem S1x80x256 .bf16) (harg4 : arg4.IsWhole) (arg5 : Memref sig .tc .vmem S1x16384x64 .bf16) (harg5 : arg5.IsWhole) (arg6 : Memref sig .tc .vmem S1x80x16384 .bf16) (harg6 : arg6.IsWhole) (arg7 : Memref sig .tc .vmem S512x256 .bf16) (harg7 : arg7.IsWhole) (arg8 : Memref sig .tc .vmem S4x1024x512 .bf16) (harg8 : arg8.IsWhole) (arg9 : Memref sig .tc .vmem S4x1024x512 .bf16) (harg9 : arg9.IsWhole) (arg10 : Memref sig .tc .vmem S2x4x1x512 .f32) (harg10 : arg10.IsWhole) (arg11 : Memref sig .tc .vmem S4x1x512 .f32) (harg11 : arg11.IsWhole) (arg12 : Memref sig .tc .vmem S4x80x512 .f32) (harg12 : arg12.IsWhole) (X_arg2 : BufTy.Contents (Elt Ideal) arg2.view.ty) (X_arg5 : BufTy.Contents (Elt Ideal) arg5.view.ty) (X_arg6 : BufTy.Contents (Elt Ideal) arg6.view.ty) (k : Fin k0_t1_loop.trips)  (f_arg8 : BufTy.Contents (Elt Ideal) arg8.view.ty) (f_arg9 : BufTy.Contents (Elt Ideal) arg9.view.ty) (f_arg12 : BufTy.Contents (Elt Ideal) arg12.view.ty) :
    arg12.view.read (Elt Ideal) (arg12.view.writes (Elt Ideal) f_arg12 (tripL_k0_t1 (F := Ideal) 𝒱 c bd i arg2 harg2 arg3 harg3 arg4 harg4 arg5 harg5 arg6 harg6 arg7 harg7 arg8 harg8 arg9 harg9 arg10 harg10 arg11 harg11 arg12 harg12 X_arg2 X_arg5 X_arg6 k f_arg8 f_arg9 f_arg12).2.2)
      = (fun y => (arg12.view.read (Elt Ideal) f_arg12 y + WT (arg6.view.read (Elt Ideal) X_arg6) (2 * k.val) (arg8.view.read (Elt Ideal) f_arg8) y : EReal)
          + WT (arg6.view.read (Elt Ideal) X_arg6) (2 * k.val + 1) (PV (arg2.view.read (Elt Ideal) X_arg2) (arg5.view.read (Elt Ideal) X_arg5) (2 * k.val + 1)) y : FVec Ideal S4x80x512 .f32) := by
  unfold tripL_k0_t1
  rw [trip_k0_t1]
  dsimp only
  sl_unfold_words
  dsimp only
  have ho1 : k0_off1 k 1#32 = ![0, 1024 * (2 * k.val + 1), 0] := (k0_off1_eq k 0).trans (by congr 2; simp; omega)
  have ho2 : k0_off2 k = ![0, 0, 1024 * (2 * k.val)] := (k0_off2_eq k).trans (by congr 2; simp; omega)
  have ho3 : k0_off3 k = ![0, 0, 1024 * (2 * k.val + 1)] := (k0_off3_eq k).trans (by congr 2; simp; omega)
  refine read4a arg12 f_arg12 _ _ _ _ _ _ ?_ ?_ ?_ ?_
  · intro j e
    refine (congrFun (drain24 _ _ _) _).trans ?_
    refine drain_WT (arg6.view.read (Elt Ideal) X_arg6) (2 * k.val + 1) (PV (arg2.view.read (Elt Ideal) X_arg2) (arg5.view.read (Elt Ideal) X_arg5) (2 * k.val + 1)) (fun y => arg12.view.read (Elt Ideal) f_arg12 y + WT (arg6.view.read (Elt Ideal) X_arg6) (2 * k.val) (arg8.view.read (Elt Ideal) f_arg8) y) _ _ _ 0 ?_ ?_ ?_ j e
    · exact fun j s => val_blk _ _ _ _ ho3 j s
    · intro s e
      refine cov4p _ _ _ _ _ _ ?_ ?_ ?_ ?_ 0 _ _ rfl s e
      · intro s e
        refine (congrFun (fill4 _ _) _).trans ?_
        refine fill_PV _ _ (2 * k.val + 1) _ _ 0 ?_ ?_ s e
        · exact fun s d => key_blk _ _ _ _ ho1 s d
        · exact fun d e => qry_blk _ 0 _ _ rfl d e
      · intro s e
        refine (congrFun (fill5 _ _) _).trans ?_
        refine fill_PV _ _ (2 * k.val + 1) _ _ 1 ?_ ?_ s e
        · exact fun s d => key_blk _ _ _ _ ho1 s d
        · exact fun d e => qry_blk _ 1 _ _ rfl d e
      · intro s e
        refine (congrFun (fill6 _ _) _).trans ?_
        refine fill_PV _ _ (2 * k.val + 1) _ _ 2 ?_ ?_ s e
        · exact fun s d => key_blk _ _ _ _ ho1 s d
        · exact fun d e => qry_blk _ 2 _ _ rfl d e
      · intro s e
        refine (congrFun (fill7 _ _) _).trans ?_
        refine fill_PV _ _ (2 * k.val + 1) _ _ 3 ?_ ?_ s e
        · exact fun s d => key_blk _ _ _ _ ho1 s d
        · exact fun d e => qry_blk _ 3 _ _ rfl d e
    · intro j e
      refine cov4a _ _ _ _ _ (fun y => arg12.view.read (Elt Ideal) f_arg12 y + WT (arg6.view.read (Elt Ideal) X_arg6) (2 * k.val) (arg8.view.read (Elt Ideal) f_arg8) y) ?_ ?_ ?_ ?_ 0 _ _ rfl j e
      · intro j e
        refine (congrFun (drain11 _ _ _) _).trans ?_
        refine drain_WT (arg6.view.read (Elt Ideal) X_arg6) (2 * k.val) (arg8.view.read (Elt Ideal) f_arg8) (arg12.view.read (Elt Ideal) f_arg12) _ _ _ 0 ?_ ?_ ?_ j e
        · exact fun j s => val_blk _ _ _ _ ho2 j s
        · exact fun s e => prob_blk _ 0 _ _ rfl s e
        · exact fun j e => acc_blk _ 0 _ _ rfl j e
      · intro j e
        refine (congrFun (drain13 _ _ _) _).trans ?_
        refine drain_WT (arg6.view.read (Elt Ideal) X_arg6) (2 * k.val) (arg8.view.read (Elt Ideal) f_arg8) (arg12.view.read (Elt Ideal) f_arg12) _ _ _ 1 ?_ ?_ ?_ j e
        · exact fun j s => val_blk _ _ _ _ ho2 j s
        · exact fun s e => prob_blk _ 1 _ _ rfl s e
        · exact fun j e => acc_blk _ 1 _ _ rfl j e
      · intro j e
        refine (congrFun (drain14 _ _ _) _).trans ?_
        refine drain_WT (arg6.view.read (Elt Ideal) X_arg6) (2 * k.val) (arg8.view.read (Elt Ideal) f_arg8) (arg12.view.read (Elt Ideal) f_arg12) _ _ _ 2 ?_ ?_ ?_ j e
        · exact fun j s => val_blk _ _ _ _ ho2 j s
        · exact fun s e => prob_blk _ 2 _ _ rfl s e
        · exact fun j e => acc_blk _ 2 _ _ rfl j e
      · intro j e
        refine (congrFun (drain15 _ _ _) _).trans ?_
        refine drain_WT (arg6.view.read (Elt Ideal) X_arg6) (2 * k.val) (arg8.view.read (Elt Ideal) f_arg8) (arg12.view.read (Elt Ideal) f_arg12) _ _ _ 3 ?_ ?_ ?_ j e
        · exact fun j s => val_blk _ _ _ _ ho2 j s
        · exact fun s e => prob_blk _ 3 _ _ rfl s e
        · exact fun j e => acc_blk _ 3 _ _ rfl j e
  · intro j e
    refine (congrFun (drain25 _ _ _) _).trans ?_
    refine drain_WT (arg6.view.read (Elt Ideal) X_arg6) (2 * k.val + 1) (PV (arg2.view.read (Elt Ideal) X_arg2) (arg5.view.read (Elt Ideal) X_arg5) (2 * k.val + 1)) (fun y => arg12.view.read (Elt Ideal) f_arg12 y + WT (arg6.view.read (Elt Ideal) X_arg6) (2 * k.val) (arg8.view.read (Elt Ideal) f_arg8) y) _ _ _ 1 ?_ ?_ ?_ j e
    · exact fun j s => val_blk _ _ _ _ ho3 j s
    · intro s e
      refine cov4p _ _ _ _ _ _ ?_ ?_ ?_ ?_ 1 _ _ rfl s e
      · intro s e
        refine (congrFun (fill4 _ _) _).trans ?_
        refine fill_PV _ _ (2 * k.val + 1) _ _ 0 ?_ ?_ s e
        · exact fun s d => key_blk _ _ _ _ ho1 s d
        · exact fun d e => qry_blk _ 0 _ _ rfl d e
      · intro s e
        refine (congrFun (fill5 _ _) _).trans ?_
        refine fill_PV _ _ (2 * k.val + 1) _ _ 1 ?_ ?_ s e
        · exact fun s d => key_blk _ _ _ _ ho1 s d
        · exact fun d e => qry_blk _ 1 _ _ rfl d e
      · intro s e
        refine (congrFun (fill6 _ _) _).trans ?_
        refine fill_PV _ _ (2 * k.val + 1) _ _ 2 ?_ ?_ s e
        · exact fun s d => key_blk _ _ _ _ ho1 s d
        · exact fun d e => qry_blk _ 2 _ _ rfl d e
      · intro s e
        refine (congrFun (fill7 _ _) _).trans ?_
        refine fill_PV _ _ (2 * k.val + 1) _ _ 3 ?_ ?_ s e
        · exact fun s d => key_blk _ _ _ _ ho1 s d
        · exact fun d e => qry_blk _ 3 _ _ rfl d e
    · intro j e
      refine (congrFun (View.readCov_skip _ _ _ _ _ (by decide)) _).trans ?_
      refine cov4a _ _ _ _ _ (fun y => arg12.view.read (Elt Ideal) f_arg12 y + WT (arg6.view.read (Elt Ideal) X_arg6) (2 * k.val) (arg8.view.read (Elt Ideal) f_arg8) y) ?_ ?_ ?_ ?_ 1 _ _ rfl j e
      · intro j e
        refine (congrFun (drain11 _ _ _) _).trans ?_
        refine drain_WT (arg6.view.read (Elt Ideal) X_arg6) (2 * k.val) (arg8.view.read (Elt Ideal) f_arg8) (arg12.view.read (Elt Ideal) f_arg12) _ _ _ 0 ?_ ?_ ?_ j e
        · exact fun j s => val_blk _ _ _ _ ho2 j s
        · exact fun s e => prob_blk _ 0 _ _ rfl s e
        · exact fun j e => acc_blk _ 0 _ _ rfl j e
      · intro j e
        refine (congrFun (drain13 _ _ _) _).trans ?_
        refine drain_WT (arg6.view.read (Elt Ideal) X_arg6) (2 * k.val) (arg8.view.read (Elt Ideal) f_arg8) (arg12.view.read (Elt Ideal) f_arg12) _ _ _ 1 ?_ ?_ ?_ j e
        · exact fun j s => val_blk _ _ _ _ ho2 j s
        · exact fun s e => prob_blk _ 1 _ _ rfl s e
        · exact fun j e => acc_blk _ 1 _ _ rfl j e
      · intro j e
        refine (congrFun (drain14 _ _ _) _).trans ?_
        refine drain_WT (arg6.view.read (Elt Ideal) X_arg6) (2 * k.val) (arg8.view.read (Elt Ideal) f_arg8) (arg12.view.read (Elt Ideal) f_arg12) _ _ _ 2 ?_ ?_ ?_ j e
        · exact fun j s => val_blk _ _ _ _ ho2 j s
        · exact fun s e => prob_blk _ 2 _ _ rfl s e
        · exact fun j e => acc_blk _ 2 _ _ rfl j e
      · intro j e
        refine (congrFun (drain15 _ _ _) _).trans ?_
        refine drain_WT (arg6.view.read (Elt Ideal) X_arg6) (2 * k.val) (arg8.view.read (Elt Ideal) f_arg8) (arg12.view.read (Elt Ideal) f_arg12) _ _ _ 3 ?_ ?_ ?_ j e
        · exact fun j s => val_blk _ _ _ _ ho2 j s
        · exact fun s e => prob_blk _ 3 _ _ rfl s e
        · exact fun j e => acc_blk _ 3 _ _ rfl j e
  · intro j e
    refine (congrFun (drain44 _ _ _) _).trans ?_
    refine drain_WT (arg6.view.read (Elt Ideal) X_arg6) (2 * k.val + 1) (PV (arg2.view.read (Elt Ideal) X_arg2) (arg5.view.read (Elt Ideal) X_arg5) (2 * k.val + 1)) (fun y => arg12.view.read (Elt Ideal) f_arg12 y + WT (arg6.view.read (Elt Ideal) X_arg6) (2 * k.val) (arg8.view.read (Elt Ideal) f_arg8) y) _ _ _ 2 ?_ ?_ ?_ j e
    · exact fun j s => val_blk _ _ _ _ ho3 j s
    · intro s e
      refine cov4p _ _ _ _ _ _ ?_ ?_ ?_ ?_ 2 _ _ rfl s e
      · intro s e
        refine (congrFun (fill4 _ _) _).trans ?_
        refine fill_PV _ _ (2 * k.val + 1) _ _ 0 ?_ ?_ s e
        · exact fun s d => key_blk _ _ _ _ ho1 s d
        · exact fun d e => qry_blk _ 0 _ _ rfl d e
      · intro s e
        refine (congrFun (fill5 _ _) _).trans ?_
        refine fill_PV _ _ (2 * k.val + 1) _ _ 1 ?_ ?_ s e
        · exact fun s d => key_blk _ _ _ _ ho1 s d
        · exact fun d e => qry_blk _ 1 _ _ rfl d e
      · intro s e
        refine (congrFun (fill6 _ _) _).trans ?_
        refine fill_PV _ _ (2 * k.val + 1) _ _ 2 ?_ ?_ s e
        · exact fun s d => key_blk _ _ _ _ ho1 s d
        · exact fun d e => qry_blk _ 2 _ _ rfl d e
      · intro s e
        refine (congrFun (fill7 _ _) _).trans ?_
        refine fill_PV _ _ (2 * k.val + 1) _ _ 3 ?_ ?_ s e
        · exact fun s d => key_blk _ _ _ _ ho1 s d
        · exact fun d e => qry_blk _ 3 _ _ rfl d e
    · intro j e
      refine (congrFun (View.readCov_skip _ _ _ _ _ (by decide)) _).trans ?_
      refine (congrFun (View.readCov_skip _ _ _ _ _ (by decide)) _).trans ?_
      refine cov4a _ _ _ _ _ (fun y => arg12.view.read (Elt Ideal) f_arg12 y + WT (arg6.view.read (Elt Ideal) X_arg6) (2 * k.val) (arg8.view.read (Elt Ideal) f_arg8) y) ?_ ?_ ?_ ?_ 2 _ _ rfl j e
      · intro j e
        refine (congrFun (drain11 _ _ _) _).trans ?_
        refine drain_WT (arg6.view.read (Elt Ideal) X_arg6) (2 * k.val) (arg8.view.read (Elt Ideal) f_arg8) (arg12.view.read (Elt Ideal) f_arg12) _ _ _ 0 ?_ ?_ ?_ j e
        · exact fun j s => val_blk _ _ _ _ ho2 j s
        · exact fun s e => prob_blk _ 0 _ _ rfl s e
        · exact fun j e => acc_blk _ 0 _ _ rfl j e
      · intro j e
        refine (congrFun (drain13 _ _ _) _).trans ?_
        refine drain_WT (arg6.view.read (Elt Ideal) X_arg6) (2 * k.val) (arg8.view.read (Elt Ideal) f_arg8) (arg12.view.read (Elt Ideal) f_arg12) _ _ _ 1 ?_ ?_ ?_ j e
        · exact fun j s => val_blk _ _ _ _ ho2 j s
        · exact fun s e => prob_blk _ 1 _ _ rfl s e
        · exact fun j e => acc_blk _ 1 _ _ rfl j e
      · intro j e
        refine (congrFun (drain14 _ _ _) _).trans ?_
        refine drain_WT (arg6.view.read (Elt Ideal) X_arg6) (2 * k.val) (arg8.view.read (Elt Ideal) f_arg8) (arg12.view.read (Elt Ideal) f_arg12) _ _ _ 2 ?_ ?_ ?_ j e
        · exact fun j s => val_blk _ _ _ _ ho2 j s
        · exact fun s e => prob_blk _ 2 _ _ rfl s e
        · exact fun j e => acc_blk _ 2 _ _ rfl j e
      · intro j e
        refine (congrFun (drain15 _ _ _) _).trans ?_
        refine drain_WT (arg6.view.read (Elt Ideal) X_arg6) (2 * k.val) (arg8.view.read (Elt Ideal) f_arg8) (arg12.view.read (Elt Ideal) f_arg12) _ _ _ 3 ?_ ?_ ?_ j e
        · exact fun j s => val_blk _ _ _ _ ho2 j s
        · exact fun s e => prob_blk _ 3 _ _ rfl s e
        · exact fun j e => acc_blk _ 3 _ _ rfl j e
  · intro j e
    refine (congrFun (drain45 _ _ _) _).trans ?_
    refine drain_WT (arg6.view.read (Elt Ideal) X_arg6) (2 * k.val + 1) (PV (arg2.view.read (Elt Ideal) X_arg2) (arg5.view.read (Elt Ideal) X_arg5) (2 * k.val + 1)) (fun y => arg12.view.read (Elt Ideal) f_arg12 y + WT (arg6.view.read (Elt Ideal) X_arg6) (2 * k.val) (arg8.view.read (Elt Ideal) f_arg8) y) _ _ _ 3 ?_ ?_ ?_ j e
    · exact fun j s => val_blk _ _ _ _ ho3 j s
    · intro s e
      refine cov4p _ _ _ _ _ _ ?_ ?_ ?_ ?_ 3 _ _ rfl s e
      · intro s e
        refine (congrFun (fill4 _ _) _).trans ?_
        refine fill_PV _ _ (2 * k.val + 1) _ _ 0 ?_ ?_ s e
        · exact fun s d => key_blk _ _ _ _ ho1 s d
        · exact fun d e => qry_blk _ 0 _ _ rfl d e
      · intro s e
        refine (congrFun (fill5 _ _) _).trans ?_
        refine fill_PV _ _ (2 * k.val + 1) _ _ 1 ?_ ?_ s e
        · exact fun s d => key_blk _ _ _ _ ho1 s d
        · exact fun d e => qry_blk _ 1 _ _ rfl d e
      · intro s e
        refine (congrFun (fill6 _ _) _).trans ?_
        refine fill_PV _ _ (2 * k.val + 1) _ _ 2 ?_ ?_ s e
        · exact fun s d => key_blk _ _ _ _ ho1 s d
        · exact fun d e => qry_blk _ 2 _ _ rfl d e
      · intro s e
        refine (congrFun (fill7 _ _) _).trans ?_
        refine fill_PV _ _ (2 * k.val + 1) _ _ 3 ?_ ?_ s e
        · exact fun s d => key_blk _ _ _ _ ho1 s d
        · exact fun d e => qry_blk _ 3 _ _ rfl d e
    · intro j e
      refine (congrFun (View.readCov_skip _ _ _ _ _ (by decide)) _).trans ?_
      refine (congrFun (View.readCov_skip _ _ _ _ _ (by decide)) _).trans ?_
      refine (congrFun (View.readCov_skip _ _ _ _ _ (by decide)) _).trans ?_
      refine cov4a _ _ _ _ _ (fun y => arg12.view.read (Elt Ideal) f_arg12 y + WT (arg6.view.read (Elt Ideal) X_arg6) (2 * k.val) (arg8.view.read (Elt Ideal) f_arg8) y) ?_ ?_ ?_ ?_ 3 _ _ rfl j e
      · intro j e
        refine (congrFun (drain11 _ _ _) _).trans ?_
        refine drain_WT (arg6.view.read (Elt Ideal) X_arg6) (2 * k.val) (arg8.view.read (Elt Ideal) f_arg8) (arg12.view.read (Elt Ideal) f_arg12) _ _ _ 0 ?_ ?_ ?_ j e
        · exact fun j s => val_blk _ _ _ _ ho2 j s
        · exact fun s e => prob_blk _ 0 _ _ rfl s e
        · exact fun j e => acc_blk _ 0 _ _ rfl j e
      · intro j e
        refine (congrFun (drain13 _ _ _) _).trans ?_
        refine drain_WT (arg6.view.read (Elt Ideal) X_arg6) (2 * k.val) (arg8.view.read (Elt Ideal) f_arg8) (arg12.view.read (Elt Ideal) f_arg12) _ _ _ 1 ?_ ?_ ?_ j e
        · exact fun j s => val_blk _ _ _ _ ho2 j s
        · exact fun s e => prob_blk _ 1 _ _ rfl s e
        · exact fun j e => acc_blk _ 1 _ _ rfl j e
      · intro j e
        refine (congrFun (drain14 _ _ _) _).trans ?_
        refine drain_WT (arg6.view.read (Elt Ideal) X_arg6) (2 * k.val) (arg8.view.read (Elt Ideal) f_arg8) (arg12.view.read (Elt Ideal) f_arg12) _ _ _ 2 ?_ ?_ ?_ j e
        · exact fun j s => val_blk _ _ _ _ ho2 j s
        · exact fun s e => prob_blk _ 2 _ _ rfl s e
        · exact fun j e => acc_blk _ 2 _ _ rfl j e
      · intro j e
        refine (congrFun (drain15 _ _ _) _).trans ?_
        refine drain_WT (arg6.view.read (Elt Ideal) X_arg6) (2 * k.val) (arg8.view.read (Elt Ideal) f_arg8) (arg12.view.read (Elt Ideal) f_arg12) _ _ _ 3 ?_ ?_ ?_ j e
        · exact fun j s => val_blk _ _ _ _ ho2 j s
        · exact fun s e => prob_blk _ 3 _ _ rfl s e
        · exact fun j e => acc_blk _ 3 _ _ rfl j e

end Cert.KernelIdeal.Attn

end
-- ==== Proof.LoopOut.lean ====
module

public import proofs.«01_k».proof.Proof.Trip

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

namespace Cert.KernelIdeal.Attn

open Cert.KernelIdeal Cert.KernelIdeal.Gen

/-- What the first probability buffer holds before trip `k` of the loop. -/
def PP (x0 : FVec Ideal S256x512 .bf16) (x3 : FVec Ideal S1x16384x64 .bf16) (P : FVec Ideal S4x1024x512 .bf16) : Nat → FVec Ideal S4x1024x512 .bf16
  | 0 => P
  | k + 1 => PV x0 x3 (2 * k + 2)

/-- What the accumulator holds before trip `k` of the loop. -/
def AC (x0 : FVec Ideal S256x512 .bf16) (x3 : FVec Ideal S1x16384x64 .bf16) (x4 : FVec Ideal S1x80x16384 .bf16)
    (P : FVec Ideal S4x1024x512 .bf16) (A : FVec Ideal S4x80x512 .f32) : Nat → FVec Ideal S4x80x512 .f32
  | 0 => A
  | k + 1 => fun y => (AC x0 x3 x4 P A k y + WT x4 (2 * k) (PP x0 x3 P k) y) + WT x4 (2 * k + 1) (PV x0 x3 (2 * k + 1)) y

set_option maxHeartbeats 1000000 in
/-- What the two buffers read after the first `k` trips, in terms of what they read at the loop's entry. -/
theorem pb_read (𝒱 : Variants) (c : Dev nD) (bd : Option 𝒱.V) (i : grid0.Coords) (arg2 : Memref sig .tc .vmem S256x512 .bf16) (harg2 : arg2.IsWhole) (arg3 : Memref sig .tc .vmem S1x256x64 .bf16) (harg3 : arg3.IsWhole) (arg4 : Memref sig .tc .vmem S1x80x256 .bf16) (harg4 : arg4.IsWhole) (arg5 : Memref sig .tc .vmem S1x16384x64 .bf16) (harg5 : arg5.IsWhole) (arg6 : Memref sig .tc .vmem S1x80x16384 .bf16) (harg6 : arg6.IsWhole) (arg7 : Memref sig .tc .vmem S512x256 .bf16) (harg7 : arg7.IsWhole) (arg8 : Memref sig .tc .vmem S4x1024x512 .bf16) (harg8 : arg8.IsWhole) (arg9 : Memref sig .tc .vmem S4x1024x512 .bf16) (harg9 : arg9.IsWhole) (arg10 : Memref sig .tc .vmem S2x4x1x512 .f32) (harg10 : arg10.IsWhole) (arg11 : Memref sig .tc .vmem S4x1x512 .f32) (harg11 : arg11.IsWhole) (arg12 : Memref sig .tc .vmem S4x80x512 .f32) (harg12 : arg12.IsWhole) (X_arg2 : BufTy.Contents (Elt Ideal) arg2.view.ty) (X_arg5 : BufTy.Contents (Elt Ideal) arg5.view.ty) (X_arg6 : BufTy.Contents (Elt Ideal) arg6.view.ty) (G_arg8 : BufTy.Contents (Elt Ideal) arg8.view.ty) (G_arg9 : BufTy.Contents (Elt Ideal) arg9.view.ty) (G_arg12 : BufTy.Contents (Elt Ideal) arg12.view.ty) : ∀ k : Nat, k ≤ 7 →
    arg8.view.read (Elt Ideal) (arg8.view.writes (Elt Ideal) G_arg8 (pb_k0_t1 (F := Ideal) 𝒱 c bd i arg2 harg2 arg3 harg3 arg4 harg4 arg5 harg5 arg6 harg6 arg7 harg7 arg8 harg8 arg9 harg9 arg10 harg10 arg11 harg11 arg12 harg12 X_arg2 X_arg5 X_arg6 G_arg8 G_arg9 G_arg12 k).1) = PP (arg2.view.read (Elt Ideal) X_arg2) (arg5.view.read (Elt Ideal) X_arg5) (arg8.view.read (Elt Ideal) G_arg8) k
    ∧ arg12.view.read (Elt Ideal) (arg12.view.writes (Elt Ideal) G_arg12 (pb_k0_t1 (F := Ideal) 𝒱 c bd i arg2 harg2 arg3 harg3 arg4 harg4 arg5 harg5 arg6 harg6 arg7 harg7 arg8 harg8 arg9 harg9 arg10 harg10 arg11 harg11 arg12 harg12 X_arg2 X_arg5 X_arg6 G_arg8 G_arg9 G_arg12 k).2.2) = AC (arg2.view.read (Elt Ideal) X_arg2) (arg5.view.read (Elt Ideal) X_arg5) (arg6.view.read (Elt Ideal) X_arg6) (arg8.view.read (Elt Ideal) G_arg8) (arg12.view.read (Elt Ideal) G_arg12) k := by
  intro k
  induction k with
  | zero => intro _; exact ⟨rfl, rfl⟩
  | succ k ih =>
    intro hk
    obtain ⟨h8, h12⟩ := ih (by omega)
    have hkt : k < k0_t1_loop.trips := Nat.lt_of_lt_of_le (by omega : k < 7) (by decide +kernel)
    rw [pb_k0_t1_succ 𝒱 c bd i arg2 harg2 arg3 harg3 arg4 harg4 arg5 harg5 arg6 harg6 arg7 harg7 arg8 harg8 arg9 harg9 arg10 harg10 arg11 harg11 arg12 harg12 X_arg2 X_arg5 X_arg6 G_arg8 G_arg9 G_arg12 ⟨k, hkt⟩]
    dsimp only
    rw [View.writes_append, View.writes_append]
    refine ⟨trip8 𝒱 c bd i arg2 harg2 arg3 harg3 arg4 harg4 arg5 harg5 arg6 harg6 arg7 harg7 arg8 harg8 arg9 harg9 arg10 harg10 arg11 harg11 arg12 harg12 X_arg2 X_arg5 X_arg6 ⟨k, hkt⟩ _ _ _, ?_⟩
    refine (trip12 𝒱 c bd i arg2 harg2 arg3 harg3 arg4 harg4 arg5 harg5 arg6 harg6 arg7 harg7 arg8 harg8 arg9 harg9 arg10 harg10 arg11 harg11 arg12 harg12 X_arg2 X_arg5 X_arg6 ⟨k, hkt⟩ _ _ _).trans ?_
    rw [h8, h12]
    rfl

local notation "𝕄" => MT nD τ sig Unit (Elt Ideal) ℕ (UR sig nD τ) ℕ

/-- The loop leaves the read buffers as they were, the second probability buffer at some contents, and the first
    probability buffer and the accumulator reading what `pb_read` states. -/
@[instance_reducible, instance] def loopExit (𝒱 : Variants) (c : Dev nD) (bd : Option 𝒱.V) (E : Set ℕ) (i : grid0.Coords) (arg2 : Memref sig .tc .vmem S256x512 .bf16) (harg2 : arg2.IsWhole) (arg3 : Memref sig .tc .vmem S1x256x64 .bf16) (harg3 : arg3.IsWhole) (arg4 : Memref sig .tc .vmem S1x80x256 .bf16) (harg4 : arg4.IsWhole) (arg5 : Memref sig .tc .vmem S1x16384x64 .bf16) (harg5 : arg5.IsWhole) (arg6 : Memref sig .tc .vmem S1x80x16384 .bf16) (harg6 : arg6.IsWhole) (arg7 : Memref sig .tc .vmem S512x256 .bf16) (harg7 : arg7.IsWhole) (arg8 : Memref sig .tc .vmem S4x1024x512 .bf16) (harg8 : arg8.IsWhole) (arg9 : Memref sig .tc .vmem S4x1024x512 .bf16) (harg9 : arg9.IsWhole) (arg10 : Memref sig .tc .vmem S2x4x1x512 .f32) (harg10 : arg10.IsWhole) (arg11 : Memref sig .tc .vmem S4x1x512 .f32) (harg11 : arg11.IsWhole) (arg12 : Memref sig .tc .vmem S4x80x512 .f32) (harg12 : arg12.IsWhole) (X_arg2 : BufTy.Contents (Elt Ideal) arg2.view.ty) (X_arg5 : BufTy.Contents (Elt Ideal) arg5.view.ty) (X_arg6 : BufTy.Contents (Elt Ideal) arg6.view.ty) (G_arg8 : BufTy.Contents (Elt Ideal) arg8.view.ty) (G_arg9 : BufTy.Contents (Elt Ideal) arg9.view.ty) (G_arg12 : BufTy.Contents (Elt Ideal) arg12.view.ty) :
    LoopExit (loopInv_k0_t1 (F := Ideal) 𝒱 c bd E i arg2 harg2 arg3 harg3 arg4 harg4 arg5 harg5 arg6 harg6 arg7 harg7 arg8 harg8 arg9 harg9 arg10 harg10 arg11 harg11 arg12 harg12 X_arg2 X_arg5 X_arg6 G_arg8 G_arg9 G_arg12) where
  post _ := iprop((arg2.view.loc (c : Thread nD τ) ↦[arg2.view.set]{fullShare} X_arg2) ∗ (arg5.view.loc (c : Thread nD τ) ↦[arg5.view.set]{fullShare} X_arg5) ∗ (arg6.view.loc (c : Thread nD τ) ↦[arg6.view.set]{fullShare} X_arg6)
    ∗ (∃ f, (arg8.view.loc (c : Thread nD τ) ↦[arg8.view.set]{fullShare} f) ∗ ⌜arg8.view.read (Elt Ideal) f = PP (arg2.view.read (Elt Ideal) X_arg2) (arg5.view.read (Elt Ideal) X_arg5) (arg8.view.read (Elt Ideal) G_arg8) 7⌝)
    ∗ (∃ f, (arg9.view.loc (c : Thread nD τ) ↦[arg9.view.set]{fullShare} f))
    ∗ (∃ f, (arg12.view.loc (c : Thread nD τ) ↦[arg12.view.set]{fullShare} f) ∗ ⌜arg12.view.read (Elt Ideal) f = AC (arg2.view.read (Elt Ideal) X_arg2) (arg5.view.read (Elt Ideal) X_arg5) (arg6.view.read (Elt Ideal) X_arg6) (arg8.view.read (Elt Ideal) G_arg8) (arg12.view.read (Elt Ideal) G_arg12) 7⌝))
  exit acc := by
    have ht : Scf.trips k0_t1_loop.lb k0_t1_loop.ub k0_t1_loop.st = 7 := by decide +kernel
    rw [ht]
    show inv_k0_t1 (F := Ideal) 𝒱 c bd i arg2 harg2 arg3 harg3 arg4 harg4 arg5 harg5 arg6 harg6 arg7 harg7 arg8 harg8 arg9 harg9 arg10 harg10 arg11 harg11 arg12 harg12 X_arg2 X_arg5 X_arg6 G_arg8 G_arg9 G_arg12 7 acc ⊢ _
    unfold inv_k0_t1
    iintro ⟨HR_arg2, HR_arg5, HR_arg6, ⟨%f_arg8, HW_arg8, %h_arg8⟩, ⟨%f_arg9, HW_arg9, %h_arg9⟩, ⟨%f_arg12, HW_arg12, %h_arg12⟩⟩
    isplitl [HR_arg2]; · iexact HR_arg2
    isplitl [HR_arg5]; · iexact HR_arg5
    isplitl [HR_arg6]; · iexact HR_arg6
    isplitl [HW_arg8]
    · iexists _; isplitl [HW_arg8]; · iexact HW_arg8
      ipureintro; rw [h_arg8]; exact (pb_read 𝒱 c bd i arg2 harg2 arg3 harg3 arg4 harg4 arg5 harg5 arg6 harg6 arg7 harg7 arg8 harg8 arg9 harg9 arg10 harg10 arg11 harg11 arg12 harg12 X_arg2 X_arg5 X_arg6 G_arg8 G_arg9 G_arg12 7 (by omega)).1
    isplitl [HW_arg9]
    · iexists _; iexact HW_arg9
    iexists _; isplitl [HW_arg12]; · iexact HW_arg12
    ipureintro; rw [h_arg12]; exact (pb_read 𝒱 c bd i arg2 harg2 arg3 harg3 arg4 harg4 arg5 harg5 arg6 harg6 arg7 harg7 arg8 harg8 arg9 harg9 arg10 harg10 arg11 harg11 arg12 harg12 X_arg2 X_arg5 X_arg6 G_arg8 G_arg9 G_arg12 7 (by omega)).2

end Cert.KernelIdeal.Attn

end
-- ==== Proof.Ends.lean ====
module

public import proofs.«01_k».proof.Proof.LoopOut

@[expose] public section

set_option maxRecDepth 16384

noncomputable section

open Idealize.ShloMosaic Idealize.ShloMosaic.TcCoe Idealize.SL.Sem

namespace Cert.KernelIdeal.Attn

open Cert.KernelIdeal Cert.KernelIdeal.Gen

/-- The short context's values weighted by its unnormalised probabilities. -/
def CX (x0 : FVec Ideal S256x512 .bf16) (x1 : FVec Ideal S1x256x64 .bf16) (x2 : FVec Ideal S1x80x256 .bf16) : FVec Ideal S4x80x512 .f32 :=
  fun y => ∑ s : Fin 256, x2 (ix3 0 (y 1) s) * Ideal.exp2 (∑ d : Fin 64, x1 (ix3 0 s d) * x0 (ix2 ⟨64 * (y 0).val + d.val, by have := (y 0).isLt; have := d.isLt; simp at *; omega⟩ (y 2)))

/-- The head-`h` block the context's drain writes. -/
theorem ctx_CX (x0 : FVec Ideal S256x512 .bf16) (x1 : FVec Ideal S1x256x64 .bf16) (x2 : FVec Ideal S1x80x256 .bf16)
    (kb : FVec Ideal S1x256x64 .bf16) (qb : FVec Ideal S64x512 .bf16) (vb : FVec Ideal S1x80x256 .bf16) (ab : FVec Ideal S1x80x512 .f32) (h : Fin 4)
    (hk : ∀ (s : Fin 256) (d : Fin 64), kb (ix3 0 s d) = x1 (ix3 0 s d))
    (hq : ∀ (d : Fin 64) (e : Fin 512), qb (ix2 d e) = x0 (ix2 ⟨64 * h.val + d.val, by omega⟩ e))
    (hv : ∀ (j : Fin 80) (s : Fin 256), vb (ix3 0 j s) = x2 (ix3 0 j s))
    (ha : ∀ (j : Fin 80) (e : Fin 512), ab (ix3 0 j e) = 0) (j : Fin 80) (e : Fin 512) :
    ctxB kb qb vb ab (ix3 0 j e) = (0 : EReal) + CX x0 x1 x2 (ix3 h j e) := by
  unfold ctxB CX
  exact congrArg₂ (· + ·) (ha j e) (Finset.sum_congr rfl fun s _ => congrArg₂ (· * ·) (hv j s)
    (congrArg Ideal.exp2 (Finset.sum_congr rfl fun d _ => congrArg₂ (· * ·) (hk s d) (hq d e))))

/-- A load of all the context's keys. -/
theorem ckey_blk (X : FVec Ideal S1x256x64 .bf16) (inb) (s : Fin 256) (d : Fin 64) :
    X ((Rect.unit (s := S1x256x64) ![0, 0, 0] ![1, 256, 64] inb).toLoadRect.idx (ix3 0 s d)) = X (ix3 0 s d) := by
  refine congrArg X ?_
  funext a; apply Fin.ext; fin_cases a <;> simp [Rect.toLoadRect, LoadRect.idx, Rect.unit, ix3]

/-- A load of all the context's values. -/
theorem cval_blk (X : FVec Ideal S1x80x256 .bf16) (inb) (j : Fin 80) (s : Fin 256) :
    X ((Rect.unit (s := S1x80x256) ![0, 0, 0] ![1, 80, 256] inb).toLoadRect.idx (ix3 0 j s)) = X (ix3 0 j s) := by
  refine congrArg X ?_
  funext a; apply Fin.ext; fin_cases a <;> simp [Rect.toLoadRect, LoadRect.idx, Rect.unit, ix3]

/-- A load of one head of the accumulators, just after they were all set to zero. -/
theorem cov_init (M : Memref sig .tc .vmem S4x80x512 .f32) (h : Fin 4) (off : Fin 3 → Nat)
    (inb : ∀ a, off a + (![1, 80, 512] : Fin 3 → Nat) a ≤ S4x80x512.size a) (ho : off = ![h.val, 0, 0]) (j : Fin 80) (e : Fin 512) :
    M.view.readCov [(⟨Rect.unit ![0, 0, 0] ![4, 80, 512] inb_S4x80x512_S4x80x512_0_0_0, k0_pay27 (F := Ideal)⟩ : View.Piece (Elt Ideal) S4x80x512 .f32)]
      (Rect.unit (s := S4x80x512) off ![1, 80, 512] inb).toLoadRect (ix3 0 j e) = (0 : EReal) := by
  refine (acc_blk (M.view.read (Elt Ideal) (M.view.writes (Elt Ideal) M.view.junk [(⟨Rect.unit ![0, 0, 0] ![4, 80, 512] inb_S4x80x512_S4x80x512_0_0_0, k0_pay27 (F := Ideal)⟩ : View.Piece (Elt Ideal) S4x80x512 .f32)])) h off inb ho j e).trans ?_
  refine Eq.trans (View.read_writes_cons_unit_of_mem (size := ![4, 80, 512]) (Val := Elt Ideal) M.view M.view.junk inb_S4x80x512_S4x80x512_0_0_0 _ [] (ix3 h j e) (ix3 h j e) (off' := ![0, 0, 0]) rfl ?_) (init27 (ix3 h j e))
  intro a; fin_cases a <;> simp [ix3]

/-- A load of a head's sixty-four output rows. -/
theorem row64_blk (X : FVec Ideal S4x80x512 .f32) (h : Fin 4) (off : Fin 3 → Nat) (inb : ∀ a, off a + (![1, 64, 512] : Fin 3 → Nat) a ≤ S4x80x512.size a)
    (ho : off = ![h.val, 0, 0]) (s : Fin 64) (e : Fin 512) :
    X ((Rect.unit (s := S4x80x512) off ![1, 64, 512] inb).toLoadRect.idx (ix3 0 s e)) = X (ix3 h ⟨s.val, by omega⟩ e) := by
  subst ho
  refine congrArg X ?_
  funext a; apply Fin.ext; fin_cases a <;> simp [Rect.toLoadRect, LoadRect.idx, Rect.unit, ix3]

/-- A load of a head's row of probability totals. -/
theorem row1_blk (X : FVec Ideal S4x80x512 .f32) (h : Fin 4) (off : Fin 3 → Nat) (inb : ∀ a, off a + (![1, 1, 512] : Fin 3 → Nat) a ≤ S4x80x512.size a)
    (ho : off = ![h.val, 64, 0]) (e : Fin 512) :
    X ((Rect.unit (s := S4x80x512) off ![1, 1, 512] inb).toLoadRect.idx (ix3 0 0 e)) = X (ix3 h 64 e) := by
  subst ho
  refine congrArg X ?_
  funext a; apply Fin.ext; fin_cases a <;> simp [Rect.toLoadRect, LoadRect.idx, Rect.unit, ix3]

/-- The block written out: each head's rows over its row of totals, transposed, heads side by side. -/
def NORM (G : FVec Ideal S4x80x512 .f32) : FVec Ideal S512x256 .bf16 :=
  fun o => Ideal.div (G (ix3 ⟨(o 1).val / 64, by have := (o 1).isLt; simp at *; omega⟩ ⟨(o 1).val % 64, by omega⟩ (o 0)))
    (G (ix3 ⟨(o 1).val / 64, by have := (o 1).isLt; simp at *; omega⟩ 64 (o 0)))

set_option maxHeartbeats 1000000 in
/-- The last store's payload at a position of head `h`. -/
theorem pay69_apply (a0 : FVec Ideal S1x64x512 .f32) (r0 : FVec Ideal S1x1x512 .f32) (a1 : FVec Ideal S1x64x512 .f32) (r1 : FVec Ideal S1x1x512 .f32)
    (a2 : FVec Ideal S1x64x512 .f32) (r2 : FVec Ideal S1x1x512 .f32) (a3 : FVec Ideal S1x64x512 .f32) (r3 : FVec Ideal S1x1x512 .f32)
    (G : FVec Ideal S4x80x512 .f32)
    (ha0 : ∀ (s : Fin 64) (e : Fin 512), a0 (ix3 0 s e) = G (ix3 0 ⟨s.val, by omega⟩ e)) (hr0 : ∀ e : Fin 512, r0 (ix3 0 0 e) = G (ix3 0 64 e))
    (ha1 : ∀ (s : Fin 64) (e : Fin 512), a1 (ix3 0 s e) = G (ix3 1 ⟨s.val, by omega⟩ e)) (hr1 : ∀ e : Fin 512, r1 (ix3 0 0 e) = G (ix3 1 64 e))
    (ha2 : ∀ (s : Fin 64) (e : Fin 512), a2 (ix3 0 s e) = G (ix3 2 ⟨s.val, by omega⟩ e)) (hr2 : ∀ e : Fin 512, r2 (ix3 0 0 e) = G (ix3 2 64 e))
    (ha3 : ∀ (s : Fin 64) (e : Fin 512), a3 (ix3 0 s e) = G (ix3 3 ⟨s.val, by omega⟩ e)) (hr3 : ∀ e : Fin 512, r3 (ix3 0 0 e) = G (ix3 3 64 e)) :
    k0_pay69 (F := Ideal) a0 r0 a1 r1 a2 r2 a3 r3 = NORM G := by
  funext o
  obtain ⟨c, j, rfl⟩ : ∃ (c : Fin 512) (j : Fin 256), o = ix2 c j := ⟨o 0, o 1, eq_ix2 o⟩
  have hj : j.val < 256 := j.isLt
  have key : ∀ (h : Fin 4) (s : Nat) (hs : s < 64), j.val = 64 * h.val + s →
      NORM G (ix2 c j) = Ideal.div (G (ix3 h ⟨s, by omega⟩ c)) (G (ix3 h 64 c)) := by
    intro h s hs hjs
    obtain ⟨hq, hr⟩ : j.val / 64 = h.val ∧ j.val % 64 = s := by omega
    unfold NORM
    have e1 : (⟨(ix2 c j 1).val / 64, by have := (ix2 c j 1).isLt; simp at *; omega⟩ : Fin 4) = h := Fin.ext hq
    have e2 : (⟨(ix2 c j 1).val % 64, by omega⟩ : Fin 80) = ⟨s, by omega⟩ := Fin.ext hr
    rw [e1, e2]; rfl
  pointwise [k0_pay69]
  by_cases h0 : j.val < 64
  · simp only [dif_pos h0]
    rw [key 0 j.val h0 (by simp), ha0, hr0]
  simp only [dif_neg h0]
  by_cases h1 : j.val - 64 < 64
  · simp only [dif_pos h1]
    rw [key 1 (j.val - 64) h1 (by simp; omega), ha1, hr1]
  simp only [dif_neg h1]
  by_cases h2 : j.val - 64 - 64 < 64
  · simp only [dif_pos h2]
    rw [key 2 (j.val - 64 - 64) h2 (by simp; omega), ha2, hr2]
  simp only [dif_neg h2]
  rw [key 3 (j.val - 64 - 64 - 64) (by omega) (by simp; omega), ha3, hr3]

/-- The last store's payload, loaded from accumulators whose stores leave `G`. -/
theorem fin69 (M : Memref sig .tc .vmem S4x80x512 .f32) (L : List (View.Piece (Elt Ideal) S4x80x512 .f32)) (G : FVec Ideal S4x80x512 .f32)
    (hG : M.view.read (Elt Ideal) (M.view.writes (Elt Ideal) M.view.junk L) = G)
    (i0) (j0) (i1) (j1) (i2) (j2) (i3) (j3) :
    k0_pay69 (F := Ideal)
      (M.view.readCov L (Rect.unit (s := S4x80x512) ![0, 0, 0] ![1, 64, 512] i0).toLoadRect) (M.view.readCov L (Rect.unit (s := S4x80x512) ![0, 64, 0] ![1, 1, 512] j0).toLoadRect)
      (M.view.readCov L (Rect.unit (s := S4x80x512) ![1, 0, 0] ![1, 64, 512] i1).toLoadRect) (M.view.readCov L (Rect.unit (s := S4x80x512) ![1, 64, 0] ![1, 1, 512] j1).toLoadRect)
      (M.view.readCov L (Rect.unit (s := S4x80x512) ![2, 0, 0] ![1, 64, 512] i2).toLoadRect) (M.view.readCov L (Rect.unit (s := S4x80x512) ![2, 64, 0] ![1, 1, 512] j2).toLoadRect)
      (M.view.readCov L (Rect.unit (s := S4x80x512) ![3, 0, 0] ![1, 64, 512] i3).toLoadRect) (M.view.readCov L (Rect.unit (s := S4x80x512) ![3, 64, 0] ![1, 1, 512] j3).toLoadRect) = NORM G := by
  subst hG
  refine pay69_apply _ _ _ _ _ _ _ _ _ ?_ ?_ ?_ ?_ ?_ ?_ ?_ ?_
  · exact fun s e => row64_blk _ 0 _ _ rfl s e
  · exact fun e => row1_blk _ 0 _ _ rfl e
  · exact fun s e => row64_blk _ 1 _ _ rfl s e
  · exact fun e => row1_blk _ 1 _ _ rfl e
  · exact fun s e => row64_blk _ 2 _ _ rfl s e
  · exact fun e => row1_blk _ 2 _ _ rfl e
  · exact fun s e => row64_blk _ 3 _ _ rfl s e
  · exact fun e => row1_blk _ 3 _ _ rfl e

/-- The output block after it was stored whole. -/
theorem whole7 (M : Memref sig .tc .vmem S512x256 .bf16) (f : BufTy.Contents (Elt Ideal) M.view.ty) (w : FVec Ideal S512x256 .bf16) :
    M.view.read (Elt Ideal) (M.view.writes (Elt Ideal) f [(⟨Rect.unit ![0, 0] ![512, 256] inb_S512x256_S512x256_0_0, w⟩ : View.Piece (Elt Ideal) S512x256 .bf16)]) = w := by
  funext y
  refine View.read_writes_cons_unit_of_mem M.view f inb_S512x256_S512x256_0_0 w [] y y (off' := ![0, 0]) rfl ?_
  intro a; fin_cases a <;> simp

/-- The accumulators at the end: the context, then the latent keys' sixteen blocks. -/
def ACC (x0 : FVec Ideal S256x512 .bf16) (x1 : FVec Ideal S1x256x64 .bf16) (x2 : FVec Ideal S1x80x256 .bf16) (x3 : FVec Ideal S1x16384x64 .bf16) (x4 : FVec Ideal S1x80x16384 .bf16) : FVec Ideal S4x80x512 .f32 :=
  fun y => (AC x0 x3 x4 (PV x0 x3 0) (fun y => (0 : EReal) + CX x0 x1 x2 y) 7 y + WT x4 14 (PV x0 x3 14) y) + WT x4 15 (PV x0 x3 15) y

/-- What the kernel writes to its output block. -/
def OUT (x0 : FVec Ideal S256x512 .bf16) (x1 : FVec Ideal S1x256x64 .bf16) (x2 : FVec Ideal S1x80x256 .bf16) (x3 : FVec Ideal S1x16384x64 .bf16) (x4 : FVec Ideal S1x80x16384 .bf16) : FVec Ideal S512x256 .bf16 :=
  NORM (ACC x0 x1 x2 x3 x4)

end Cert.KernelIdeal.Attn

end
-- ==== Proof.Run.lean ====
module

public import proofs.«01_k».proof.Proof.Gen.KernelIdeal.Frame.Runs
public import proofs.«01_k».proof.Proof.Ends

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

namespace Cert.KernelIdeal.Attn

open Cert.KernelIdeal Cert.KernelIdeal.Gen

local notation "𝕄" => MT nD τ sig Unit (Elt Ideal) ℕ (UR sig nD τ) ℕ

set_option maxHeartbeats 4000000 in
/-- The body, run on whole staging memrefs that hold `x0 … x4`, hands the output block on holding `OUT x0 x1 x2 x3 x4`, the
    inputs as they were and the scratch at some contents. -/
theorem run  (c : Dev nD) (i : grid0.Coords) (arg2 : Memref sig .tc .vmem S256x512 .bf16) (harg2 : arg2.IsWhole) (arg3 : Memref sig .tc .vmem S1x256x64 .bf16) (harg3 : arg3.IsWhole) (arg4 : Memref sig .tc .vmem S1x80x256 .bf16) (harg4 : arg4.IsWhole) (arg5 : Memref sig .tc .vmem S1x16384x64 .bf16) (harg5 : arg5.IsWhole) (arg6 : Memref sig .tc .vmem S1x80x16384 .bf16) (harg6 : arg6.IsWhole) (arg7 : Memref sig .tc .vmem S512x256 .bf16) (harg7 : arg7.IsWhole) (arg8 : Memref sig .tc .vmem S4x1024x512 .bf16) (harg8 : arg8.IsWhole) (arg9 : Memref sig .tc .vmem S4x1024x512 .bf16) (harg9 : arg9.IsWhole) (arg10 : Memref sig .tc .vmem S2x4x1x512 .f32) (harg10 : arg10.IsWhole) (arg11 : Memref sig .tc .vmem S4x1x512 .f32) (harg11 : arg11.IsWhole) (arg12 : Memref sig .tc .vmem S4x80x512 .f32) (harg12 : arg12.IsWhole)
    (x0 : Vec Ideal S256x512 .bf16) (x1 : Vec Ideal S1x256x64 .bf16) (x2 : Vec Ideal S1x80x256 .bf16) (x3 : Vec Ideal S1x16384x64 .bf16) (x4 : Vec Ideal S1x80x16384 .bf16)  (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (OUT x0 x1 x2 x3 x4) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
      ⊢ wp frame (wpE (defs₀ (F := Ideal)) Variants.none c none) E (cc0_gqa_flash_noshift i arg2 harg2 arg3 harg3 arg4 harg4 arg5 harg5 arg6 harg6 arg7 harg7 arg8 harg8 arg9 harg9 arg10 harg10 arg11 harg11 arg12 harg12) K := by
  simp only [cc0_gqa_flash_noshift_eq_skeleton]; unfold cc0_gqa_flash_noshift_skel
  simp only [k0_part6_eq_skeleton, k0_part7_eq_skeleton, k0_part8_eq_skeleton, k0_part9_eq_skeleton, k0_part10_eq_skeleton, k0_part11_eq_skeleton, k0_part12_eq_skeleton, k0_part13_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
  obtain rfl := harg2.eq_unread hf0; obtain rfl := harg3.eq_unread hf1; obtain rfl := harg4.eq_unread hf2; obtain rfl := harg5.eq_unread hf3; obtain rfl := harg6.eq_unread hf4
  sl_exec
  sl_step
  have h8 : View.read (Elt Ideal) arg8.view fL0 = PV x0 x3 14 := by
    rw [hL4, hf0, hf3]; rfl
  have h12 : View.read (Elt Ideal) arg12.view fL2 = (AC x0 x3 x4 (PV x0 x3 0) (fun y => (0 : EReal) + CX x0 x1 x2 y) 7) := by
    rw [hL7]
    clear hL7 hL4 h8
    rw [hf0, hf3, hf4]
    refine congrArg₂ (fun P A => AC x0 x3 x4 P A 7) ?_ ?_
    · sl_unfold_words
      dsimp only
      refine read4p arg8 _ _ _ _ _ [] (PV x0 x3 0) ?_ ?_ ?_ ?_
      · intro s e
        refine (congrFun (fill40 _ _) _).trans ?_
        refine fill_PV x0 x3 0 _ _ 0 ?_ ?_ s e
        · exact fun s d => (key_blk _ _ _ 0 rfl s d).trans (congrFun hf3 _)
        · exact fun d e => (qry_blk _ 0 _ _ rfl d e).trans (congrFun hf0 _)
      · intro s e
        refine (congrFun (fill41 _ _) _).trans ?_
        refine fill_PV x0 x3 0 _ _ 1 ?_ ?_ s e
        · exact fun s d => (key_blk _ _ _ 0 rfl s d).trans (congrFun hf3 _)
        · exact fun d e => (qry_blk _ 1 _ _ rfl d e).trans (congrFun hf0 _)
      · intro s e
        refine (congrFun (fill42 _ _) _).trans ?_
        refine fill_PV x0 x3 0 _ _ 2 ?_ ?_ s e
        · exact fun s d => (key_blk _ _ _ 0 rfl s d).trans (congrFun hf3 _)
        · exact fun d e => (qry_blk _ 2 _ _ rfl d e).trans (congrFun hf0 _)
      · intro s e
        refine (congrFun (fill43 _ _) _).trans ?_
        refine fill_PV x0 x3 0 _ _ 3 ?_ ?_ s e
        · exact fun s d => (key_blk _ _ _ 0 rfl s d).trans (congrFun hf3 _)
        · exact fun d e => (qry_blk _ 3 _ _ rfl d e).trans (congrFun hf0 _)
    · sl_unfold_words
      dsimp only
      refine read4a arg12 _ _ _ _ _ _ _ ?_ ?_ ?_ ?_
      · intro j e
        refine (congrFun (ctx35 _ _ _ _) _).trans ?_
        refine ctx_CX x0 x1 x2 _ _ _ _ 0 ?_ ?_ ?_ ?_ j e
        · exact fun s d => (ckey_blk _ _ s d).trans (congrFun hf1 _)
        · exact fun d e => (qry_blk _ 0 _ _ rfl d e).trans (congrFun hf0 _)
        · exact fun j s => (cval_blk _ _ j s).trans (congrFun hf2 _)
        · intro j e
          exact cov_init _ 0 _ _ rfl j e
      · intro j e
        refine (congrFun (ctx36 _ _ _ _) _).trans ?_
        refine ctx_CX x0 x1 x2 _ _ _ _ 1 ?_ ?_ ?_ ?_ j e
        · exact fun s d => (ckey_blk _ _ s d).trans (congrFun hf1 _)
        · exact fun d e => (qry_blk _ 1 _ _ rfl d e).trans (congrFun hf0 _)
        · exact fun j s => (cval_blk _ _ j s).trans (congrFun hf2 _)
        · intro j e
          refine (congrFun (View.readCov_skip _ _ _ _ _ (by decide)) _).trans ?_
          exact cov_init _ 1 _ _ rfl j e
      · intro j e
        refine (congrFun (ctx37 _ _ _ _) _).trans ?_
        refine ctx_CX x0 x1 x2 _ _ _ _ 2 ?_ ?_ ?_ ?_ j e
        · exact fun s d => (ckey_blk _ _ s d).trans (congrFun hf1 _)
        · exact fun d e => (qry_blk _ 2 _ _ rfl d e).trans (congrFun hf0 _)
        · exact fun j s => (cval_blk _ _ j s).trans (congrFun hf2 _)
        · intro j e
          refine (congrFun (View.readCov_skip _ _ _ _ _ (by decide)) _).trans ?_
          refine (congrFun (View.readCov_skip _ _ _ _ _ (by decide)) _).trans ?_
          exact cov_init _ 2 _ _ rfl j e
      · intro j e
        refine (congrFun (ctx38 _ _ _ _) _).trans ?_
        refine ctx_CX x0 x1 x2 _ _ _ _ 3 ?_ ?_ ?_ ?_ j e
        · exact fun s d => (ckey_blk _ _ s d).trans (congrFun hf1 _)
        · exact fun d e => (qry_blk _ 3 _ _ rfl d e).trans (congrFun hf0 _)
        · exact fun j s => (cval_blk _ _ j s).trans (congrFun hf2 _)
        · intro j e
          refine (congrFun (View.readCov_skip _ _ _ _ _ (by decide)) _).trans ?_
          refine (congrFun (View.readCov_skip _ _ _ _ _ (by decide)) _).trans ?_
          refine (congrFun (View.readCov_skip _ _ _ _ _ (by decide)) _).trans ?_
          exact cov_init _ 3 _ _ rfl j e
  iapply Hk
  isplitl [HL0]
  · iexists _; isplitr; · ipureintro; exact harg2.read_unread _
    iexact HL0
  isplitl [H1]
  · iexists _; isplitr; · ipureintro; exact harg3.read_unread _
    iexact H1
  isplitl [H2]
  · iexists _; isplitr; · ipureintro; exact harg4.read_unread _
    iexact H2
  isplitl [HL1]
  · iexists _; isplitr; · ipureintro; exact harg5.read_unread _
    iexact HL1
  isplitl [HL2]
  · iexists _; isplitr; · ipureintro; exact harg6.read_unread _
    iexact HL2
  isplitl [H5]
  · iexists _; isplitr; swap; · iexact H5
    ipureintro
    refine (whole7 _ _ _).trans ?_
    sl_unfold_words
    dsimp only
    refine fin69 arg12 _ (ACC x0 x1 x2 x3 x4) ?_ _ _ _ _ _ _ _ _
    refine read4a arg12 _ _ _ _ _ _ _ ?_ ?_ ?_ ?_
    · intro j e
      refine (congrFun (drain64 _ _ _) _).trans ?_
      refine drain_WT x4 15 (PV x0 x3 15) (fun y => (AC x0 x3 x4 (PV x0 x3 0) (fun y => (0 : EReal) + CX x0 x1 x2 y) 7) y + WT x4 14 (PV x0 x3 14) y) _ _ _ 0 ?_ ?_ ?_ j e
      · exact fun j s => (val_blk _ _ _ 15 rfl j s).trans (congrFun hf4 _)
      · intro s e
        refine cov4p _ _ _ _ _ (PV x0 x3 15) ?_ ?_ ?_ ?_ 0 _ _ rfl s e
        · intro s e
          refine (congrFun (fill49 _ _) _).trans ?_
          refine fill_PV x0 x3 15 _ _ 0 ?_ ?_ s e
          · exact fun s d => (key_blk _ _ _ 15 rfl s d).trans (congrFun hf3 _)
          · exact fun d e => (qry_blk _ 0 _ _ rfl d e).trans (congrFun hf0 _)
        · intro s e
          refine (congrFun (fill50 _ _) _).trans ?_
          refine fill_PV x0 x3 15 _ _ 1 ?_ ?_ s e
          · exact fun s d => (key_blk _ _ _ 15 rfl s d).trans (congrFun hf3 _)
          · exact fun d e => (qry_blk _ 1 _ _ rfl d e).trans (congrFun hf0 _)
        · intro s e
          refine (congrFun (fill51 _ _) _).trans ?_
          refine fill_PV x0 x3 15 _ _ 2 ?_ ?_ s e
          · exact fun s d => (key_blk _ _ _ 15 rfl s d).trans (congrFun hf3 _)
          · exact fun d e => (qry_blk _ 2 _ _ rfl d e).trans (congrFun hf0 _)
        · intro s e
          refine (congrFun (fill52 _ _) _).trans ?_
          refine fill_PV x0 x3 15 _ _ 3 ?_ ?_ s e
          · exact fun s d => (key_blk _ _ _ 15 rfl s d).trans (congrFun hf3 _)
          · exact fun d e => (qry_blk _ 3 _ _ rfl d e).trans (congrFun hf0 _)
      · intro j e
        refine cov4a _ _ _ _ _ (fun y => (AC x0 x3 x4 (PV x0 x3 0) (fun y => (0 : EReal) + CX x0 x1 x2 y) 7) y + WT x4 14 (PV x0 x3 14) y) ?_ ?_ ?_ ?_ 0 _ _ rfl j e
        · intro j e
          refine (congrFun (drain56 _ _ _) _).trans ?_
          refine drain_WT x4 14 (PV x0 x3 14) (AC x0 x3 x4 (PV x0 x3 0) (fun y => (0 : EReal) + CX x0 x1 x2 y) 7) _ _ _ 0 ?_ ?_ ?_ j e
          · exact fun j s => (val_blk _ _ _ 14 rfl j s).trans (congrFun hf4 _)
          · exact fun s e => (prob_blk _ 0 _ _ rfl s e).trans (congrFun h8 _)
          · exact fun j e => (acc_blk _ 0 _ _ rfl j e).trans (congrFun h12 _)
        · intro j e
          refine (congrFun (drain58 _ _ _) _).trans ?_
          refine drain_WT x4 14 (PV x0 x3 14) (AC x0 x3 x4 (PV x0 x3 0) (fun y => (0 : EReal) + CX x0 x1 x2 y) 7) _ _ _ 1 ?_ ?_ ?_ j e
          · exact fun j s => (val_blk _ _ _ 14 rfl j s).trans (congrFun hf4 _)
          · exact fun s e => (prob_blk _ 1 _ _ rfl s e).trans (congrFun h8 _)
          · exact fun j e => (acc_blk _ 1 _ _ rfl j e).trans (congrFun h12 _)
        · intro j e
          refine (congrFun (drain59 _ _ _) _).trans ?_
          refine drain_WT x4 14 (PV x0 x3 14) (AC x0 x3 x4 (PV x0 x3 0) (fun y => (0 : EReal) + CX x0 x1 x2 y) 7) _ _ _ 2 ?_ ?_ ?_ j e
          · exact fun j s => (val_blk _ _ _ 14 rfl j s).trans (congrFun hf4 _)
          · exact fun s e => (prob_blk _ 2 _ _ rfl s e).trans (congrFun h8 _)
          · exact fun j e => (acc_blk _ 2 _ _ rfl j e).trans (congrFun h12 _)
        · intro j e
          refine (congrFun (drain60 _ _ _) _).trans ?_
          refine drain_WT x4 14 (PV x0 x3 14) (AC x0 x3 x4 (PV x0 x3 0) (fun y => (0 : EReal) + CX x0 x1 x2 y) 7) _ _ _ 3 ?_ ?_ ?_ j e
          · exact fun j s => (val_blk _ _ _ 14 rfl j s).trans (congrFun hf4 _)
          · exact fun s e => (prob_blk _ 3 _ _ rfl s e).trans (congrFun h8 _)
          · exact fun j e => (acc_blk _ 3 _ _ rfl j e).trans (congrFun h12 _)
    · intro j e
      refine (congrFun (drain65 _ _ _) _).trans ?_
      refine drain_WT x4 15 (PV x0 x3 15) (fun y => (AC x0 x3 x4 (PV x0 x3 0) (fun y => (0 : EReal) + CX x0 x1 x2 y) 7) y + WT x4 14 (PV x0 x3 14) y) _ _ _ 1 ?_ ?_ ?_ j e
      · exact fun j s => (val_blk _ _ _ 15 rfl j s).trans (congrFun hf4 _)
      · intro s e
        refine cov4p _ _ _ _ _ (PV x0 x3 15) ?_ ?_ ?_ ?_ 1 _ _ rfl s e
        · intro s e
          refine (congrFun (fill49 _ _) _).trans ?_
          refine fill_PV x0 x3 15 _ _ 0 ?_ ?_ s e
          · exact fun s d => (key_blk _ _ _ 15 rfl s d).trans (congrFun hf3 _)
          · exact fun d e => (qry_blk _ 0 _ _ rfl d e).trans (congrFun hf0 _)
        · intro s e
          refine (congrFun (fill50 _ _) _).trans ?_
          refine fill_PV x0 x3 15 _ _ 1 ?_ ?_ s e
          · exact fun s d => (key_blk _ _ _ 15 rfl s d).trans (congrFun hf3 _)
          · exact fun d e => (qry_blk _ 1 _ _ rfl d e).trans (congrFun hf0 _)
        · intro s e
          refine (congrFun (fill51 _ _) _).trans ?_
          refine fill_PV x0 x3 15 _ _ 2 ?_ ?_ s e
          · exact fun s d => (key_blk _ _ _ 15 rfl s d).trans (congrFun hf3 _)
          · exact fun d e => (qry_blk _ 2 _ _ rfl d e).trans (congrFun hf0 _)
        · intro s e
          refine (congrFun (fill52 _ _) _).trans ?_
          refine fill_PV x0 x3 15 _ _ 3 ?_ ?_ s e
          · exact fun s d => (key_blk _ _ _ 15 rfl s d).trans (congrFun hf3 _)
          · exact fun d e => (qry_blk _ 3 _ _ rfl d e).trans (congrFun hf0 _)
      · intro j e
        refine (congrFun (View.readCov_skip _ _ _ _ _ (by decide)) _).trans ?_
        refine cov4a _ _ _ _ _ (fun y => (AC x0 x3 x4 (PV x0 x3 0) (fun y => (0 : EReal) + CX x0 x1 x2 y) 7) y + WT x4 14 (PV x0 x3 14) y) ?_ ?_ ?_ ?_ 1 _ _ rfl j e
        · intro j e
          refine (congrFun (drain56 _ _ _) _).trans ?_
          refine drain_WT x4 14 (PV x0 x3 14) (AC x0 x3 x4 (PV x0 x3 0) (fun y => (0 : EReal) + CX x0 x1 x2 y) 7) _ _ _ 0 ?_ ?_ ?_ j e
          · exact fun j s => (val_blk _ _ _ 14 rfl j s).trans (congrFun hf4 _)
          · exact fun s e => (prob_blk _ 0 _ _ rfl s e).trans (congrFun h8 _)
          · exact fun j e => (acc_blk _ 0 _ _ rfl j e).trans (congrFun h12 _)
        · intro j e
          refine (congrFun (drain58 _ _ _) _).trans ?_
          refine drain_WT x4 14 (PV x0 x3 14) (AC x0 x3 x4 (PV x0 x3 0) (fun y => (0 : EReal) + CX x0 x1 x2 y) 7) _ _ _ 1 ?_ ?_ ?_ j e
          · exact fun j s => (val_blk _ _ _ 14 rfl j s).trans (congrFun hf4 _)
          · exact fun s e => (prob_blk _ 1 _ _ rfl s e).trans (congrFun h8 _)
          · exact fun j e => (acc_blk _ 1 _ _ rfl j e).trans (congrFun h12 _)
        · intro j e
          refine (congrFun (drain59 _ _ _) _).trans ?_
          refine drain_WT x4 14 (PV x0 x3 14) (AC x0 x3 x4 (PV x0 x3 0) (fun y => (0 : EReal) + CX x0 x1 x2 y) 7) _ _ _ 2 ?_ ?_ ?_ j e
          · exact fun j s => (val_blk _ _ _ 14 rfl j s).trans (congrFun hf4 _)
          · exact fun s e => (prob_blk _ 2 _ _ rfl s e).trans (congrFun h8 _)
          · exact fun j e => (acc_blk _ 2 _ _ rfl j e).trans (congrFun h12 _)
        · intro j e
          refine (congrFun (drain60 _ _ _) _).trans ?_
          refine drain_WT x4 14 (PV x0 x3 14) (AC x0 x3 x4 (PV x0 x3 0) (fun y => (0 : EReal) + CX x0 x1 x2 y) 7) _ _ _ 3 ?_ ?_ ?_ j e
          · exact fun j s => (val_blk _ _ _ 14 rfl j s).trans (congrFun hf4 _)
          · exact fun s e => (prob_blk _ 3 _ _ rfl s e).trans (congrFun h8 _)
          · exact fun j e => (acc_blk _ 3 _ _ rfl j e).trans (congrFun h12 _)
    · intro j e
      refine (congrFun (drain66 _ _ _) _).trans ?_
      refine drain_WT x4 15 (PV x0 x3 15) (fun y => (AC x0 x3 x4 (PV x0 x3 0) (fun y => (0 : EReal) + CX x0 x1 x2 y) 7) y + WT x4 14 (PV x0 x3 14) y) _ _ _ 2 ?_ ?_ ?_ j e
      · exact fun j s => (val_blk _ _ _ 15 rfl j s).trans (congrFun hf4 _)
      · intro s e
        refine cov4p _ _ _ _ _ (PV x0 x3 15) ?_ ?_ ?_ ?_ 2 _ _ rfl s e
        · intro s e
          refine (congrFun (fill49 _ _) _).trans ?_
          refine fill_PV x0 x3 15 _ _ 0 ?_ ?_ s e
          · exact fun s d => (key_blk _ _ _ 15 rfl s d).trans (congrFun hf3 _)
          · exact fun d e => (qry_blk _ 0 _ _ rfl d e).trans (congrFun hf0 _)
        · intro s e
          refine (congrFun (fill50 _ _) _).trans ?_
          refine fill_PV x0 x3 15 _ _ 1 ?_ ?_ s e
          · exact fun s d => (key_blk _ _ _ 15 rfl s d).trans (congrFun hf3 _)
          · exact fun d e => (qry_blk _ 1 _ _ rfl d e).trans (congrFun hf0 _)
        · intro s e
          refine (congrFun (fill51 _ _) _).trans ?_
          refine fill_PV x0 x3 15 _ _ 2 ?_ ?_ s e
          · exact fun s d => (key_blk _ _ _ 15 rfl s d).trans (congrFun hf3 _)
          · exact fun d e => (qry_blk _ 2 _ _ rfl d e).trans (congrFun hf0 _)
        · intro s e
          refine (congrFun (fill52 _ _) _).trans ?_
          refine fill_PV x0 x3 15 _ _ 3 ?_ ?_ s e
          · exact fun s d => (key_blk _ _ _ 15 rfl s d).trans (congrFun hf3 _)
          · exact fun d e => (qry_blk _ 3 _ _ rfl d e).trans (congrFun hf0 _)
      · intro j e
        refine (congrFun (View.readCov_skip _ _ _ _ _ (by decide)) _).trans ?_
        refine (congrFun (View.readCov_skip _ _ _ _ _ (by decide)) _).trans ?_
        refine cov4a _ _ _ _ _ (fun y => (AC x0 x3 x4 (PV x0 x3 0) (fun y => (0 : EReal) + CX x0 x1 x2 y) 7) y + WT x4 14 (PV x0 x3 14) y) ?_ ?_ ?_ ?_ 2 _ _ rfl j e
        · intro j e
          refine (congrFun (drain56 _ _ _) _).trans ?_
          refine drain_WT x4 14 (PV x0 x3 14) (AC x0 x3 x4 (PV x0 x3 0) (fun y => (0 : EReal) + CX x0 x1 x2 y) 7) _ _ _ 0 ?_ ?_ ?_ j e
          · exact fun j s => (val_blk _ _ _ 14 rfl j s).trans (congrFun hf4 _)
          · exact fun s e => (prob_blk _ 0 _ _ rfl s e).trans (congrFun h8 _)
          · exact fun j e => (acc_blk _ 0 _ _ rfl j e).trans (congrFun h12 _)
        · intro j e
          refine (congrFun (drain58 _ _ _) _).trans ?_
          refine drain_WT x4 14 (PV x0 x3 14) (AC x0 x3 x4 (PV x0 x3 0) (fun y => (0 : EReal) + CX x0 x1 x2 y) 7) _ _ _ 1 ?_ ?_ ?_ j e
          · exact fun j s => (val_blk _ _ _ 14 rfl j s).trans (congrFun hf4 _)
          · exact fun s e => (prob_blk _ 1 _ _ rfl s e).trans (congrFun h8 _)
          · exact fun j e => (acc_blk _ 1 _ _ rfl j e).trans (congrFun h12 _)
        · intro j e
          refine (congrFun (drain59 _ _ _) _).trans ?_
          refine drain_WT x4 14 (PV x0 x3 14) (AC x0 x3 x4 (PV x0 x3 0) (fun y => (0 : EReal) + CX x0 x1 x2 y) 7) _ _ _ 2 ?_ ?_ ?_ j e
          · exact fun j s => (val_blk _ _ _ 14 rfl j s).trans (congrFun hf4 _)
          · exact fun s e => (prob_blk _ 2 _ _ rfl s e).trans (congrFun h8 _)
          · exact fun j e => (acc_blk _ 2 _ _ rfl j e).trans (congrFun h12 _)
        · intro j e
          refine (congrFun (drain60 _ _ _) _).trans ?_
          refine drain_WT x4 14 (PV x0 x3 14) (AC x0 x3 x4 (PV x0 x3 0) (fun y => (0 : EReal) + CX x0 x1 x2 y) 7) _ _ _ 3 ?_ ?_ ?_ j e
          · exact fun j s => (val_blk _ _ _ 14 rfl j s).trans (congrFun hf4 _)
          · exact fun s e => (prob_blk _ 3 _ _ rfl s e).trans (congrFun h8 _)
          · exact fun j e => (acc_blk _ 3 _ _ rfl j e).trans (congrFun h12 _)
    · intro j e
      refine (congrFun (drain68 _ _ _) _).trans ?_
      refine drain_WT x4 15 (PV x0 x3 15) (fun y => (AC x0 x3 x4 (PV x0 x3 0) (fun y => (0 : EReal) + CX x0 x1 x2 y) 7) y + WT x4 14 (PV x0 x3 14) y) _ _ _ 3 ?_ ?_ ?_ j e
      · exact fun j s => (val_blk _ _ _ 15 rfl j s).trans (congrFun hf4 _)
      · intro s e
        refine cov4p _ _ _ _ _ (PV x0 x3 15) ?_ ?_ ?_ ?_ 3 _ _ rfl s e
        · intro s e
          refine (congrFun (fill49 _ _) _).trans ?_
          refine fill_PV x0 x3 15 _ _ 0 ?_ ?_ s e
          · exact fun s d => (key_blk _ _ _ 15 rfl s d).trans (congrFun hf3 _)
          · exact fun d e => (qry_blk _ 0 _ _ rfl d e).trans (congrFun hf0 _)
        · intro s e
          refine (congrFun (fill50 _ _) _).trans ?_
          refine fill_PV x0 x3 15 _ _ 1 ?_ ?_ s e
          · exact fun s d => (key_blk _ _ _ 15 rfl s d).trans (congrFun hf3 _)
          · exact fun d e => (qry_blk _ 1 _ _ rfl d e).trans (congrFun hf0 _)
        · intro s e
          refine (congrFun (fill51 _ _) _).trans ?_
          refine fill_PV x0 x3 15 _ _ 2 ?_ ?_ s e
          · exact fun s d => (key_blk _ _ _ 15 rfl s d).trans (congrFun hf3 _)
          · exact fun d e => (qry_blk _ 2 _ _ rfl d e).trans (congrFun hf0 _)
        · intro s e
          refine (congrFun (fill52 _ _) _).trans ?_
          refine fill_PV x0 x3 15 _ _ 3 ?_ ?_ s e
          · exact fun s d => (key_blk _ _ _ 15 rfl s d).trans (congrFun hf3 _)
          · exact fun d e => (qry_blk _ 3 _ _ rfl d e).trans (congrFun hf0 _)
      · intro j e
        refine (congrFun (View.readCov_skip _ _ _ _ _ (by decide)) _).trans ?_
        refine (congrFun (View.readCov_skip _ _ _ _ _ (by decide)) _).trans ?_
        refine (congrFun (View.readCov_skip _ _ _ _ _ (by decide)) _).trans ?_
        refine cov4a _ _ _ _ _ (fun y => (AC x0 x3 x4 (PV x0 x3 0) (fun y => (0 : EReal) + CX x0 x1 x2 y) 7) y + WT x4 14 (PV x0 x3 14) y) ?_ ?_ ?_ ?_ 3 _ _ rfl j e
        · intro j e
          refine (congrFun (drain56 _ _ _) _).trans ?_
          refine drain_WT x4 14 (PV x0 x3 14) (AC x0 x3 x4 (PV x0 x3 0) (fun y => (0 : EReal) + CX x0 x1 x2 y) 7) _ _ _ 0 ?_ ?_ ?_ j e
          · exact fun j s => (val_blk _ _ _ 14 rfl j s).trans (congrFun hf4 _)
          · exact fun s e => (prob_blk _ 0 _ _ rfl s e).trans (congrFun h8 _)
          · exact fun j e => (acc_blk _ 0 _ _ rfl j e).trans (congrFun h12 _)
        · intro j e
          refine (congrFun (drain58 _ _ _) _).trans ?_
          refine drain_WT x4 14 (PV x0 x3 14) (AC x0 x3 x4 (PV x0 x3 0) (fun y => (0 : EReal) + CX x0 x1 x2 y) 7) _ _ _ 1 ?_ ?_ ?_ j e
          · exact fun j s => (val_blk _ _ _ 14 rfl j s).trans (congrFun hf4 _)
          · exact fun s e => (prob_blk _ 1 _ _ rfl s e).trans (congrFun h8 _)
          · exact fun j e => (acc_blk _ 1 _ _ rfl j e).trans (congrFun h12 _)
        · intro j e
          refine (congrFun (drain59 _ _ _) _).trans ?_
          refine drain_WT x4 14 (PV x0 x3 14) (AC x0 x3 x4 (PV x0 x3 0) (fun y => (0 : EReal) + CX x0 x1 x2 y) 7) _ _ _ 2 ?_ ?_ ?_ j e
          · exact fun j s => (val_blk _ _ _ 14 rfl j s).trans (congrFun hf4 _)
          · exact fun s e => (prob_blk _ 2 _ _ rfl s e).trans (congrFun h8 _)
          · exact fun j e => (acc_blk _ 2 _ _ rfl j e).trans (congrFun h12 _)
        · intro j e
          refine (congrFun (drain60 _ _ _) _).trans ?_
          refine drain_WT x4 14 (PV x0 x3 14) (AC x0 x3 x4 (PV x0 x3 0) (fun y => (0 : EReal) + CX x0 x1 x2 y) 7) _ _ _ 3 ?_ ?_ ?_ j e
          · exact fun j s => (val_blk _ _ _ 14 rfl j s).trans (congrFun hf4 _)
          · exact fun s e => (prob_blk _ 3 _ _ rfl s e).trans (congrFun h8 _)
          · exact fun j e => (acc_blk _ 3 _ _ rfl j e).trans (congrFun h12 _)

  isplitl [HL3]
  · iexists _, _; isplitr; swap; · iexact HL3
    ipureintro; rfl
  isplitl [HL5]
  · iexists _, _; isplitr; swap; · iexact HL5
    ipureintro; rfl
  isplitl [HS2]
  · iexists _, _; isplitr; swap; · iexact HS2
    ipureintro; rfl
  isplitl [HS3]
  · iexists _, _; isplitr; swap; · iexact HS3
    ipureintro; rfl
  iexists _, _; isplitr; swap; · iexact HL6
  ipureintro; rfl

end Cert.KernelIdeal.Attn

end
-- ==== Proof.Any.lean ====
/- The frame of the attention kernel, over any float values: the output is left at contents that nothing names. -/
module

public import proofs.«01_k».proof.Proof.Gen.KernelIdeal.Frame.Runs
public import Idealize.ShloMosaic.Lib.Claim

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body, run on whole staging memrefs, hands the inputs on as they were and the output and the scratch at some contents. -/
theorem anyRun (c : Dev nD) (i : grid0.Coords) (arg2 : Memref sig .tc .vmem S256x512 .bf16) (harg2 : arg2.IsWhole) (arg3 : Memref sig .tc .vmem S1x256x64 .bf16) (harg3 : arg3.IsWhole) (arg4 : Memref sig .tc .vmem S1x80x256 .bf16) (harg4 : arg4.IsWhole) (arg5 : Memref sig .tc .vmem S1x16384x64 .bf16) (harg5 : arg5.IsWhole) (arg6 : Memref sig .tc .vmem S1x80x16384 .bf16) (harg6 : arg6.IsWhole) (arg7 : Memref sig .tc .vmem S512x256 .bf16) (harg7 : arg7.IsWhole) (arg8 : Memref sig .tc .vmem S4x1024x512 .bf16) (harg8 : arg8.IsWhole) (arg9 : Memref sig .tc .vmem S4x1024x512 .bf16) (harg9 : arg9.IsWhole) (arg10 : Memref sig .tc .vmem S2x4x1x512 .f32) (harg10 : arg10.IsWhole) (arg11 : Memref sig .tc .vmem S4x1x512 .f32) (harg11 : arg11.IsWhole) (arg12 : Memref sig .tc .vmem S4x80x512 .f32) (harg12 : arg12.IsWhole)
    (x0 : Vec F S256x512 .bf16) (x1 : Vec F S1x256x64 .bf16) (x2 : Vec F S1x80x256 .bf16) (x3 : Vec F S1x16384x64 .bf16) (x4 : Vec F S1x80x16384 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0_gqa_flash_noshift i arg2 harg2 arg3 harg3 arg4 harg4 arg5 harg5 arg6 harg6 arg7 harg7 arg8 harg8 arg9 harg9 arg10 harg10 arg11 harg11 arg12 harg12) K := by
    intro E K
    simp only [cc0_gqa_flash_noshift_eq_skeleton]; unfold cc0_gqa_flash_noshift_skel
    simp only [k0_part6_eq_skeleton, k0_part7_eq_skeleton, k0_part8_eq_skeleton, k0_part9_eq_skeleton, k0_part10_eq_skeleton, k0_part11_eq_skeleton, k0_part12_eq_skeleton, k0_part13_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg2.eq_unread hf0; obtain rfl := harg3.eq_unread hf1; obtain rfl := harg4.eq_unread hf2; obtain rfl := harg5.eq_unread hf3; obtain rfl := harg6.eq_unread hf4
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _, _; isplitr; swap; · iexact H5
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

/-- The output window, whose contents the frame does not name. -/
def unnamed : Fin 6 → Bool := fun w => w.val == 5

/-- The pipeline's proof data: each input's buffer at its block after every point, the output's unnamed. -/
def anyDats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
  Φ _ := Pipeline.ΦA spec0 c
  q _ := fullShare
  owed _ := 0

/-- The proof data's arrays are what the launch finds. -/
theorem any_A (c : Dev nD) (w : Fin cfg0.W) : (anyDats m 0 c).A w = V m c (Pipeline.arrRef spec0 w) := by dsimp only [anyDats]
/-- Window 0's buffer holds its block after point `t`, -/
theorem any_after0 (c : Dev nD) (t : Fin cfg0.N) : (anyDats m 0 c).after 0 t = iblk m c 0 t := by dsimp only [anyDats]
/-- and when it begins. -/
theorem any_before0 (c : Dev nD) (t : Fin cfg0.N) (d) : (anyDats m 0 c).before 0 t d = iblk m c 0 t :=
  before0_0_of m (anyDats m 0 c) (any_A m c 0) (any_after0 m c) t d
/-- Window 1's buffer holds its block after point `t`, -/
theorem any_after1 (c : Dev nD) (t : Fin cfg0.N) : (anyDats m 0 c).after 1 t = iblk m c 1 t := by dsimp only [anyDats]
/-- and when it begins. -/
theorem any_before1 (c : Dev nD) (t : Fin cfg0.N) (d) : (anyDats m 0 c).before 1 t d = iblk m c 1 t :=
  before0_1_of m (anyDats m 0 c) (any_A m c 1) (any_after1 m c) t d
/-- Window 2's buffer holds its block after point `t`, -/
theorem any_after2 (c : Dev nD) (t : Fin cfg0.N) : (anyDats m 0 c).after 2 t = iblk m c 2 t := by dsimp only [anyDats]
/-- and when it begins. -/
theorem any_before2 (c : Dev nD) (t : Fin cfg0.N) (d) : (anyDats m 0 c).before 2 t d = iblk m c 2 t :=
  before0_2_of m (anyDats m 0 c) (any_A m c 2) (any_after2 m c) t d
/-- Window 3's buffer holds its block after point `t`, -/
theorem any_after3 (c : Dev nD) (t : Fin cfg0.N) : (anyDats m 0 c).after 3 t = iblk m c 3 t := by dsimp only [anyDats]
/-- and when it begins. -/
theorem any_before3 (c : Dev nD) (t : Fin cfg0.N) (d) : (anyDats m 0 c).before 3 t d = iblk m c 3 t :=
  before0_3_of m (anyDats m 0 c) (any_A m c 3) (any_after3 m c) t d
/-- Window 4's buffer holds its block after point `t`, -/
theorem any_after4 (c : Dev nD) (t : Fin cfg0.N) : (anyDats m 0 c).after 4 t = iblk m c 4 t := by dsimp only [anyDats]
/-- and when it begins. -/
theorem any_before4 (c : Dev nD) (t : Fin cfg0.N) (d) : (anyDats m 0 c).before 4 t d = iblk m c 4 t :=
  before0_4_of m (anyDats m 0 c) (any_A m c 4) (any_after4 m c) t d

/-- What the body is called with at point `t`. -/
def anyPre (c : Dev nD) (t : Fin cfg0.N) : sProp 𝕄 :=
  iprop((anyDats m 0 c).Φ t.castSucc ∗ (anyDats m 0 c).owesAt () t.castSucc
    ∗ (∃ d, owns (c : Thread nD τ) (ms0_0 t) fullShare ((anyDats m 0 c).before 0 t d))
    ∗ (∃ d, owns (c : Thread nD τ) (ms0_1 t) fullShare ((anyDats m 0 c).before 1 t d))
    ∗ (∃ d, owns (c : Thread nD τ) (ms0_2 t) fullShare ((anyDats m 0 c).before 2 t d))
    ∗ (∃ d, owns (c : Thread nD τ) (ms0_3 t) fullShare ((anyDats m 0 c).before 3 t d))
    ∗ (∃ d, owns (c : Thread nD τ) (ms0_4 t) fullShare ((anyDats m 0 c).before 4 t d))
    ∗ (∃ d, owns (c : Thread nD τ) (ms0_5 t) fullShare d))

/-- What the body returns at point `t`. -/
def anyPost (c : Dev nD) (t : Fin cfg0.N) : sProp 𝕄 :=
  iprop((anyDats m 0 c).Φ t.succ ∗ (anyDats m 0 c).owesAt () t.succ
    ∗ owns (c : Thread nD τ) (ms0_0 t) fullShare ((anyDats m 0 c).after 0 t)
    ∗ owns (c : Thread nD τ) (ms0_1 t) fullShare ((anyDats m 0 c).after 1 t)
    ∗ owns (c : Thread nD τ) (ms0_2 t) fullShare ((anyDats m 0 c).after 2 t)
    ∗ owns (c : Thread nD τ) (ms0_3 t) fullShare ((anyDats m 0 c).after 3 t)
    ∗ owns (c : Thread nD τ) (ms0_4 t) fullShare ((anyDats m 0 c).after 4 t)
    ∗ (∃ d, owns (c : Thread nD τ) (ms0_5 t) fullShare d))

set_option maxHeartbeats 800000 in
/-- The body at any point, by the whole-body run. -/
theorem any_body (c : Dev nD) (t : Fin cfg0.N) :
    anyPre m c t ⊢ wp frame (wpE (defs₀ (F := F)) Variants.none c none) Set.univ (bodyAt0 t) (fun _ => anyPost m c t) := by
  unfold anyPre anyPost bodyAt0
  simp only [any_before0, any_before1, any_before2, any_before3, any_before4]
  rw [show (anyDats m 0 c).Φ t.succ = (anyDats m 0 c).Φ t.castSucc from rfl,
    show (anyDats m 0 c).owesAt () t.succ = (anyDats m 0 c).owesAt () t.castSucc from rfl,
    any_after0, any_after1, any_after2, any_after3, any_after4]
  rw [show (anyDats m 0 c).Φ t.castSucc = Pipeline.ΦA spec0 c from rfl, PhiA0_eq]
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩⟩
  iapply ((anyRun c (grid0.coords t) _ _ _ _ _ _ _ _ _ _ _ _ _ _ _ _ _ _ _ _ _ _ (iblk m c 0 t) (iblk m c 1 t) (iblk m c 2 t) (iblk m c 3 t) (iblk m c 4 t)) Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  isplitl [HS2]; · iexact HS2
  isplitl [HS3]; · iexact HS3
  isplitl [HS4]; · iexact HS4
  iintro ⟨H0, H1, H2, H3, H4, H5, HS0, HS1, HS2, HS3, HS4⟩
  isplitl [HS0 HS1 HS2 HS3 HS4 Hg]
  · isplitl [HS0 HS1 HS2 HS3 HS4]
    · isplitl [HS0]
      · iexact HS0
      isplitl [HS1]
      · iexact HS1
      isplitl [HS2]
      · iexact HS2
      isplitl [HS3]
      · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body. -/
theorem row_at (t : Fin cfg0.N) : defs₀ (F := F) .tc cfg0.body (cfg0.bodyArgs t (cfg0.slots t)) = bodyAt0 t := by
  unfold defs₀; rw [Defs.onTc_tc]

/-- The library's body obligation. -/
theorem any_obligation (c : Dev nD) : BodyObligation (anyDats (F := F) m 0 c) (defs₀ (F := F)) Variants.none () Set.univ unnamed := fun t => by
  rw [bigSep_W0, bigSep_W0, row_at]
  exact triple_restated (any_body m c t) rfl .rfl fun _ => .rfl

set_option backward.isDefEq.respectTransparency.types false in
/-- Every execution ends with the input arrays unchanged and every counter at zero. -/
theorem any_launch : θ_run defs (onTc (τ := τ) (main (F := F))) (s₀ m ρ) (fun r => (Pipeline.RDat.FramePost (cfgs 0) (fun c => (anyDats m 0 c).toRForget unnamed) (V m)) r ∧ r.2.sem = fun _ => 0) :=
  Pipeline.θ_run_frame_forget (Q' := _) cfgs (anyDats m) (0 : Fin 1) launch0 defs₀ Variants.none unnamed m ρ main
    (hbody := fun c => (any_obligation m c).loose) (hshare := fun c => (anyDats m 0 c).share_full fun _ => rfl)
    (howed := fun _ _ => rfl) (V := V m) (hmain := hmain m Variants.none) (hA := any_A m) (hΦ := fun _ _ => rfl)

/-- The frame: the argument arrays end unchanged and every counter at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4))
      ∧ r.2.sem = fun _ => 0) :=
  (θ_run defs _ _).mono (fun _ h => ⟨fun c => ⟨((h.1 c).2 main_arg0 (Pipeline.mem_restRefs_of main_arg0 (by decide) (by decide))).trans (V_main_arg0 m c), ((h.1 c).2 main_arg1 (Pipeline.mem_restRefs_of main_arg1 (by decide) (by decide))).trans (V_main_arg1 m c), ((h.1 c).2 main_arg2 (Pipeline.mem_restRefs_of main_arg2 (by decide) (by decide))).trans (V_main_arg2 m c), ((h.1 c).2 main_arg3 (Pipeline.mem_restRefs_of main_arg3 (by decide) (by decide))).trans (V_main_arg3 m c), ((h.1 c).2 main_arg4 (Pipeline.mem_restRefs_of main_arg4 (by decide) (by decide))).trans (V_main_arg4 m c)⟩, h.2⟩) (any_launch m ρ)

end Cert.KernelIdeal.Attn

end
-- ==== Proof.Framed.lean ====
module

public import proofs.«01_k».proof.Proof.Run
public import proofs.«01_k».proof.Proof.Any
public import Idealize.ShloMosaic.Lib.Claim

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

/-- What the output block holds after point `t`, from the point's input blocks. -/
def outAt (c : Dev nD) (t : Fin cfg0.N) : Vec Ideal S512x256 .bf16 :=
  OUT (iblk m c 0 t) (iblk m c 1 t) (iblk m c 2 t) (iblk m c 3 t) (iblk m c 4 t)

/-- The pipeline's proof data: the arrays as the launch finds them, each input buffer at its block after every point, the
    output buffer at `outAt`, nothing owed, full shares. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ _ := Pipeline.ΦA spec0 c
  q _ := fullShare
  owed _ := 0

/-- The proof data's arrays are what the launch finds. -/
theorem dats_A (c : Dev nD) (w : Fin cfg0.W) : (dats m 0 c).A w = V m c (Pipeline.arrRef spec0 w) := by dsimp only [dats]

/-- What window 0's buffer holds after point `t`. -/
theorem dats_after0 (c : Dev nD) (t : Fin cfg0.N) : (dats m 0 c).after 0 t = iblk m c 0 t := by dsimp only [dats]
/-- What window 1's buffer holds after point `t`. -/
theorem dats_after1 (c : Dev nD) (t : Fin cfg0.N) : (dats m 0 c).after 1 t = iblk m c 1 t := by dsimp only [dats]
/-- What window 2's buffer holds after point `t`. -/
theorem dats_after2 (c : Dev nD) (t : Fin cfg0.N) : (dats m 0 c).after 2 t = iblk m c 2 t := by dsimp only [dats]
/-- What window 3's buffer holds after point `t`. -/
theorem dats_after3 (c : Dev nD) (t : Fin cfg0.N) : (dats m 0 c).after 3 t = iblk m c 3 t := by dsimp only [dats]
/-- What window 4's buffer holds after point `t`. -/
theorem dats_after4 (c : Dev nD) (t : Fin cfg0.N) : (dats m 0 c).after 4 t = iblk m c 4 t := by dsimp only [dats]
/-- What window 5's buffer holds after point `t`. -/
theorem dats_after5 (c : Dev nD) (t : Fin cfg0.N) : (dats m 0 c).after 5 t = outAt m c t := by dsimp only [dats]
/-- Window 0's buffer holds its block when point `t` begins. -/
theorem dats_before0 (c : Dev nD) (t : Fin cfg0.N) (d) : (dats m 0 c).before 0 t d = iblk m c 0 t :=
  before0_0_of m (dats m 0 c) (dats_A m c 0) (dats_after0 m c) t d
/-- Window 1's buffer holds its block when point `t` begins. -/
theorem dats_before1 (c : Dev nD) (t : Fin cfg0.N) (d) : (dats m 0 c).before 1 t d = iblk m c 1 t :=
  before0_1_of m (dats m 0 c) (dats_A m c 1) (dats_after1 m c) t d
/-- Window 2's buffer holds its block when point `t` begins. -/
theorem dats_before2 (c : Dev nD) (t : Fin cfg0.N) (d) : (dats m 0 c).before 2 t d = iblk m c 2 t :=
  before0_2_of m (dats m 0 c) (dats_A m c 2) (dats_after2 m c) t d
/-- Window 3's buffer holds its block when point `t` begins. -/
theorem dats_before3 (c : Dev nD) (t : Fin cfg0.N) (d) : (dats m 0 c).before 3 t d = iblk m c 3 t :=
  before0_3_of m (dats m 0 c) (dats_A m c 3) (dats_after3 m c) t d
/-- Window 4's buffer holds its block when point `t` begins. -/
theorem dats_before4 (c : Dev nD) (t : Fin cfg0.N) (d) : (dats m 0 c).before 4 t d = iblk m c 4 t :=
  before0_4_of m (dats m 0 c) (dats_A m c 4) (dats_after4 m c) t d

/-- What the body is called with at point `t`. -/
def preAt (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- What the body returns at point `t`. -/
def postAt (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 800000 in
/-- The body at any point, by the whole-body run. -/
theorem body_at (c : Dev nD) (t : Fin cfg0.N) :
    preAt m c t ⊢ wp frame (wpE (defs₀ (F := Ideal)) Variants.none c none) Set.univ (bodyAt0 t) (fun _ => postAt m c t) := by
  unfold preAt postAt bodyAt0
  simp only [dats_before0, dats_before1, dats_before2, dats_before3, dats_before4]
  rw [show (dats m 0 c).Φ t.succ = (dats m 0 c).Φ t.castSucc from rfl,
    show (dats m 0 c).owesAt () t.succ = (dats m 0 c).owesAt () t.castSucc from rfl,
    dats_after0, dats_after1, dats_after2, dats_after3, dats_after4, dats_after5]
  rw [show (dats m 0 c).Φ t.castSucc = Pipeline.ΦA spec0 c from rfl, PhiA0_eq]
  unfold outAt
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩⟩
  iapply (run c (grid0.coords t) _ _ _ _ _ _ _ _ _ _ _ _ _ _ _ _ _ _ _ _ _ _ (iblk m c 0 t) (iblk m c 1 t) (iblk m c 2 t) (iblk m c 3 t) (iblk m c 4 t) Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  isplitl [HS2]; · iexact HS2
  isplitl [HS3]; · iexact HS3
  isplitl [HS4]; · iexact HS4
  iintro ⟨H0, H1, H2, H3, H4, H5, HS0, HS1, HS2, HS3, HS4⟩
  isplitl [HS0 HS1 HS2 HS3 HS4 Hg]
  · isplitl [HS0 HS1 HS2 HS3 HS4]
    · isplitl [HS0]; · iexact HS0
      isplitl [HS1]; · iexact HS1
      isplitl [HS2]; · iexact HS2
      isplitl [HS3]; · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  iexact H5

/-- The library's body obligation. -/
theorem obligation (c : Dev nD) : BodyObligation (dats m 0 c) (defs₀ (F := Ideal)) Variants.none () Set.univ := fun t => by
  rw [bigSep_W0, bigSep_W0, row_at]
  exact triple_restated (body_at m c t) rfl .rfl fun _ => .rfl

set_option backward.isDefEq.respectTransparency.types false in
/-- Every execution ends with the arrays at what the proof data says and every counter at zero. -/
theorem launch : θ_run defs (onTc (τ := τ) (main (F := Ideal))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := dats_A m) (hΦ := fun _ _ => rfl)

/-- Every execution ends with the arrays at what the proof data says. -/
theorem launched : θ_run defs (onTc (τ := τ) (main (F := Ideal))) (s₀ m ρ) (Pipeline.FramePost cfgs (dats m) 0 (V m)) :=
  (θ_run defs _ _).mono (fun _ h => h.1) (launch m ρ)

end Cert.KernelIdeal.Attn

end
-- ==== Proof.Blocks.lean ====
module

public import proofs.«01_k».proof.Proof.Framed
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.Attn

open Cert.KernelIdeal Cert.KernelIdeal.Gen

variable (m : (ℓ : Loc nD τ sig) → Buf (Elt Ideal) ℓ)

/-- Every window's block at every grid point. -/
theorem idx : ∀ t : Fin cfg0.N, win0_0.index t = ![t.val / 32, t.val % 32] ∧ win0_1.index t = ![t.val / 32, 0, 0]
    ∧ win0_2.index t = ![t.val / 32, 0, 0] ∧ win0_3.index t = ![t.val / 32, 0, 0] ∧ win0_4.index t = ![t.val / 32, 0, 0]
    ∧ win0_5.index t = ![t.val % 32, t.val / 32] ∧ t.val < 128 :=
  (by decide +kernel : ∀ t : Fin grid0.N, _)

/-- The factor the queries are scaled by: an eighth over the natural logarithm of two. -/
def SC : EReal := Ideal.div (Ideal.ofBits .f32 0x3E000000#32) (Ideal.log (Ideal.ofBits .f32 0x40000000#32))

/-- The queries scaled and transposed, as the host prepares them. -/
def qT (x : FVec Ideal S16384x1024 .f32) : FVec Ideal S1024x16384 .bf16 :=
  truncf .bf16 (transpose S1024x16384 [1, 0] (mulf x (broadcastInDim S16384x1024 ![] bcast_S_S16384x1024
    (Host.divf (constant S_ .f32 0x3E000000#32) (Host.log (constant S_ .f32 0x40000000#32))))) transposes_S16384x1024_S1024x16384_1_0) bitsLt_bf16_f32

/-- The prepared queries at an index. -/
theorem qT_apply (x : FVec Ideal S16384x1024 .f32) (a : Fin 1024) (b : Fin 16384) : qT x (ix2 a b) = x (ix2 b a) * SC := by
  pointwise [qT, SC]

/-- One group's keys side by side, as the host prepares them. -/
def keys_c (x : FVec Ideal S256x256 .f32) : FVec Ideal S4x256x64 .bf16 :=
  truncf .bf16 (transpose S4x256x64 [1, 0, 2] (shapeCast S256x4x64 x shapeCasts_S256x256_S256x4x64) transposes_S256x4x64_S4x256x64_1_0_2) bitsLt_bf16_f32

/-- The prepared keys at an index. -/
theorem keys_c_apply (x : FVec Ideal S256x256 .f32) (g : Fin 4) (s : Fin 256) (d : Fin 64) :
    keys_c x (ix3 g s d) = x (ix2 s ⟨64 * g.val + d.val, by omega⟩) := by
  pointwise [keys_c]
  blk_ext

/-- The values transposed over a row of ones and rows of zeros, as the host prepares them. -/
def vals_c (x : FVec Ideal S256x256 .f32) : FVec Ideal S4x80x256 .bf16 :=
  truncf .bf16 (concatenate S4x80x256 1 [⟨S4x64x256, transpose S4x64x256 [1, 2, 0] (shapeCast S256x4x64 x shapeCasts_S256x256_S256x4x64) transposes_S256x4x64_S4x64x256_1_2_0⟩,
    ⟨S4x1x256, broadcastInDim S4x1x256 ![] bcast_S_S4x1x256 (constant S_ .f32 0x3F800000#32)⟩,
    ⟨S4x15x256, broadcastInDim S4x15x256 ![] bcast_S_S4x15x256 (constant S_ .f32 0x00000000#32)⟩] concatenates_S4x64x256_S4x1x256_S4x15x256_S4x80x256_d1) bitsLt_bf16_f32

/-- A value row of the prepared values. -/
theorem vals_c_row (x : FVec Ideal S256x256 .f32) (g : Fin 4) (j : Fin 80) (hj : j.val < 64) (s : Fin 256) :
    vals_c x (ix3 g j s) = x (ix2 s ⟨64 * g.val + j.val, by omega⟩) := by
  pointwise [vals_c]
  simp only [dif_pos hj]
  blk_ext

/-- The row of ones of the prepared values. -/
theorem vals_c_one (x : FVec Ideal S256x256 .f32) (g : Fin 4) (s : Fin 256) :
    vals_c x (ix3 g 64 s) = 1 := by
  pointwise [vals_c]

/-- One group's keys side by side, as the host prepares them. -/
def keys_l (x : FVec Ideal S16384x256 .f32) : FVec Ideal S4x16384x64 .bf16 :=
  truncf .bf16 (transpose S4x16384x64 [1, 0, 2] (shapeCast S16384x4x64 x shapeCasts_S16384x256_S16384x4x64) transposes_S16384x4x64_S4x16384x64_1_0_2) bitsLt_bf16_f32

/-- The prepared keys at an index. -/
theorem keys_l_apply (x : FVec Ideal S16384x256 .f32) (g : Fin 4) (s : Fin 16384) (d : Fin 64) :
    keys_l x (ix3 g s d) = x (ix2 s ⟨64 * g.val + d.val, by omega⟩) := by
  pointwise [keys_l]
  blk_ext

/-- The values transposed over a row of ones and rows of zeros, as the host prepares them. -/
def vals_l (x : FVec Ideal S16384x256 .f32) : FVec Ideal S4x80x16384 .bf16 :=
  truncf .bf16 (concatenate S4x80x16384 1 [⟨S4x64x16384, transpose S4x64x16384 [1, 2, 0] (shapeCast S16384x4x64 x shapeCasts_S16384x256_S16384x4x64) transposes_S16384x4x64_S4x64x16384_1_2_0⟩,
    ⟨S4x1x16384, broadcastInDim S4x1x16384 ![] bcast_S_S4x1x16384 (constant S_ .f32 0x3F800000#32)⟩,
    ⟨S4x15x16384, broadcastInDim S4x15x16384 ![] bcast_S_S4x15x16384 (constant S_ .f32 0x00000000#32)⟩] concatenates_S4x64x16384_S4x1x16384_S4x15x16384_S4x80x16384_d1) bitsLt_bf16_f32

/-- A value row of the prepared values. -/
theorem vals_l_row (x : FVec Ideal S16384x256 .f32) (g : Fin 4) (j : Fin 80) (hj : j.val < 64) (s : Fin 16384) :
    vals_l x (ix3 g j s) = x (ix2 s ⟨64 * g.val + j.val, by omega⟩) := by
  pointwise [vals_l]
  simp only [dif_pos hj]
  blk_ext

/-- The row of ones of the prepared values. -/
theorem vals_l_one (x : FVec Ideal S16384x256 .f32) (g : Fin 4) (s : Fin 16384) :
    vals_l x (ix3 g 64 s) = 1 := by
  pointwise [vals_l]

set_option maxHeartbeats 2000000 in
/-- What window 0 stages: the prepared argument. -/
theorem entry0 (c : Dev nD) : V m c main_v5 = qT (m ((c : Thread nD τ).loc main_arg0)) := by
  unfold V
  after_results
  rfl

set_option maxHeartbeats 2000000 in
/-- What window 1 stages: the prepared argument. -/
theorem entry1 (c : Dev nD) : V m c main_v8 = keys_c (m ((c : Thread nD τ).loc main_arg1)) := by
  unfold V
  after_results
  rfl

set_option maxHeartbeats 2000000 in
/-- What window 2 stages: the prepared argument. -/
theorem entry2 (c : Dev nD) : V m c main_v14 = vals_c (m ((c : Thread nD τ).loc main_arg2)) := by
  unfold V
  after_results
  rfl

set_option maxHeartbeats 2000000 in
/-- What window 3 stages: the prepared argument. -/
theorem entry3 (c : Dev nD) : V m c main_v17 = keys_l (m ((c : Thread nD τ).loc main_arg3)) := by
  unfold V
  after_results
  rfl

set_option maxHeartbeats 2000000 in
/-- What window 4 stages: the prepared argument. -/
theorem entry4 (c : Dev nD) : V m c main_v23 = vals_l (m ((c : Thread nD τ).loc main_arg4)) := by
  unfold V
  after_results
  rfl

end Cert.KernelIdeal.Attn

end
-- ==== Proof.Soft.lean ====
module

public import Idealize.ShloMosaic.PureOps.Ideal
public import Mathlib.Data.EReal.Operations
public import Mathlib.Data.EReal.Inv
public import Mathlib.Analysis.SpecialFunctions.Pow.Real

@[expose] public section

noncomputable section

open Idealize.ShloMosaic

namespace Cert.Attn

/-- A finite sum of reals, read in the extended reals. -/
theorem coe_sum {ι : Type} (s : Finset ι) (f : ι → ℝ) : ((∑ i ∈ s, f i : ℝ) : EReal) = ∑ i ∈ s, (f i : EReal) :=
  map_sum (⟨⟨Real.toEReal, EReal.coe_zero⟩, EReal.coe_add⟩ : ℝ →+ EReal) f s

/-- A nonnegative real multiplies into a sum of extended reals. -/
theorem sum_mul_coe {ι : Type} (s : Finset ι) (f : ι → EReal) (a : ℝ) (ha : 0 ≤ a) :
    (∑ i ∈ s, f i) * (a : EReal) = ∑ i ∈ s, f i * (a : EReal) := by
  classical
  induction s using Finset.induction with
  | empty => simp
  | insert i s hi ih =>
    rw [Finset.sum_insert hi, Finset.sum_insert hi, ← ih, mul_comm, mul_comm (f i), mul_comm (∑ i ∈ s, f i)]
    exact EReal.left_distrib_of_nonneg_of_ne_top (EReal.coe_nonneg.mpr ha) (EReal.coe_ne_top a) _ _

/-- Division by a positive real is multiplication by its inverse. -/
theorem div_coe (x : EReal) (a : ℝ) (ha : 0 < a) : Ideal.div x (a : EReal) = x * ((a⁻¹ : ℝ) : EReal) := by
  unfold Ideal.div
  rw [if_neg (by simpa using ha.ne'), EReal.coe_inv]

/-- The largest of finitely many reals, at least one, is a real. -/
theorem fold_max_real {ι : Type} (s : Finset ι) (hs : s.Nonempty) (f : ι → ℝ) :
    ∃ μ : ℝ, s.fold max (⊥ : EReal) (fun i => (f i : EReal)) = (μ : EReal) := by
  classical
  induction hs using Finset.Nonempty.cons_induction with
  | singleton a => exact ⟨f a, by simp⟩
  | cons a s h hs ih =>
    obtain ⟨μ, hμ⟩ := ih
    refine ⟨max (f a) μ, ?_⟩
    rw [Finset.fold_cons, hμ]
    exact (EReal.coe_strictMono.monotone.map_max).symm

/-- Values weighted by unnormalised exponentials over their total are values weighted by the softmax, whatever real is
    taken off the exponents. -/
theorem soft_eq {n : ℕ} (hn : 0 < n) (r : Fin n → ℝ) (v : Fin n → EReal) (μ : ℝ) :
    Ideal.div (∑ s, v s * ((Real.exp (r s) : ℝ) : EReal)) (∑ s, (1 : EReal) * ((Real.exp (r s) : ℝ) : EReal))
      = ∑ s, v s * Ideal.div (Ideal.exp ((r s : EReal) - (μ : EReal))) (0 + ∑ k, Ideal.exp ((r k : EReal) - (μ : EReal))) := by
  haveI : Nonempty (Fin n) := ⟨⟨0, hn⟩⟩
  have hp : ∀ s, Ideal.exp ((r s : EReal) - (μ : EReal)) = ((Real.exp (r s - μ) : ℝ) : EReal) := fun s => by
    rw [← EReal.coe_sub]; rfl
  have hZ : 0 < ∑ s, Real.exp (r s) := Finset.sum_pos (fun s _ => Real.exp_pos _) Finset.univ_nonempty
  have hZ' : 0 < ∑ s, Real.exp (r s - μ) := Finset.sum_pos (fun s _ => Real.exp_pos _) Finset.univ_nonempty
  simp only [hp, one_mul, zero_add]
  rw [← coe_sum, ← coe_sum, div_coe _ _ hZ, sum_mul_coe _ _ _ (inv_nonneg.mpr hZ.le)]
  refine Finset.sum_congr rfl fun s _ => ?_
  rw [div_coe _ _ hZ', mul_assoc, ← EReal.coe_mul, ← EReal.coe_mul]
  congr 2
  have : ∑ s, Real.exp (r s - μ) = (∑ s, Real.exp (r s)) * (Real.exp μ)⁻¹ := by
    rw [Finset.sum_mul]; exact Finset.sum_congr rfl fun s _ => by rw [Real.exp_sub, div_eq_mul_inv]
  rw [this, Real.exp_sub]
  have := Real.exp_pos μ
  field_simp

/-- Two to the power of a product scaled by an eighth over the logarithm of two is the exponential of the product over eight. -/
theorem exp2_scaled (k q : Fin 64 → ℝ) (SC : EReal) (hSC : SC = ((0.125 / Real.log 2 : ℝ) : EReal)) :
    Ideal.exp2 (∑ d, (k d : EReal) * ((q d : EReal) * SC)) = ((Real.exp ((∑ d, k d * q d) * 0.125) : ℝ) : EReal) := by
  subst hSC
  have : ∑ d, (k d : EReal) * ((q d : EReal) * ((0.125 / Real.log 2 : ℝ) : EReal)) = ((∑ d, k d * (q d * (0.125 / Real.log 2)) : ℝ) : EReal) := by
    rw [coe_sum]; exact Finset.sum_congr rfl fun d _ => by rw [EReal.coe_mul, EReal.coe_mul]
  rw [this, Ideal.exp2_coe]
  congr 1
  rw [Real.rpow_eq_pow, Real.rpow_def_of_pos (by norm_num)]
  congr 1
  have hl : Real.log 2 ≠ 0 := (Real.log_pos (by norm_num)).ne'
  rw [Finset.mul_sum, Finset.sum_mul]
  refine Finset.sum_congr rfl fun d _ => ?_
  field_simp

end Cert.Attn

end
-- ==== Proof.Sum.lean ====
module

public import proofs.«01_k».proof.Proof.Ends
public import proofs.«01_k».proof.Proof.Soft
public import Idealize.ShloMosaic.Lib.Pointwise

@[expose] public section

set_option maxRecDepth 16384

noncomputable section

open Idealize.ShloMosaic

namespace Cert.KernelIdeal.Attn

open Cert.KernelIdeal Cert.KernelIdeal.Gen

/-- Before trip `k` of the loop the accumulator holds its first contents and the first `2 k` blocks' contributions. -/
theorem AC_sum (x0 : FVec Ideal S256x512 .bf16) (x3 : FVec Ideal S1x16384x64 .bf16) (x4 : FVec Ideal S1x80x16384 .bf16) (A : FVec Ideal S4x80x512 .f32) (y) :
    ∀ k : ℕ, AC x0 x3 x4 (PV x0 x3 0) A k y = (A y : EReal) + ∑ n ∈ Finset.range (2 * k), (WT x4 n (PV x0 x3 n) y : EReal) ∧ PP x0 x3 (PV x0 x3 0) k = PV x0 x3 (2 * k)
  | 0 => ⟨by simp [AC], rfl⟩
  | k + 1 => by
    obtain ⟨h1, h2⟩ := AC_sum x0 x3 x4 A y k
    refine ⟨?_, rfl⟩
    show (AC x0 x3 x4 (PV x0 x3 0) A k y + WT x4 (2 * k) (PP x0 x3 (PV x0 x3 0) k) y : EReal) + WT x4 (2 * k + 1) (PV x0 x3 (2 * k + 1)) y = _
    rw [h2, h1, show 2 * (k + 1) = 2 * k + 1 + 1 from rfl, Finset.sum_range_succ, Finset.sum_range_succ, add_assoc, add_assoc, add_assoc]

/-- The accumulator at the end, as the context's part and the sixteen blocks' contributions. -/
theorem ACC_sum (x0 : FVec Ideal S256x512 .bf16) (x1 : FVec Ideal S1x256x64 .bf16) (x2 : FVec Ideal S1x80x256 .bf16) (x3 : FVec Ideal S1x16384x64 .bf16) (x4 : FVec Ideal S1x80x16384 .bf16) (y) :
    ACC x0 x1 x2 x3 x4 y = (CX x0 x1 x2 y : EReal) + ∑ n : Fin 16, (WT x4 n.val (PV x0 x3 n.val) y : EReal) := by
  unfold ACC
  rw [(AC_sum x0 x3 x4 (fun y => (0 : EReal) + CX x0 x1 x2 y) y 7).1, ← Finset.sum_range (fun n => (WT x4 n (PV x0 x3 n) y : EReal)),
    show Finset.range 16 = Finset.range (2 * 7 + 1 + 1) from rfl, Finset.sum_range_succ _ (2 * 7 + 1), Finset.sum_range_succ _ (2 * 7), zero_add, add_assoc, add_assoc, add_assoc]

/-- A sum over all keys is the sum over the context's and over the sixteen blocks of the latent's. -/
theorem sum_keys (F : Fin 16640 → EReal) :
    ∑ k, F k = (∑ s : Fin 256, F ⟨s.val, by omega⟩) + ∑ n : Fin 16, ∑ s : Fin 1024, F ⟨256 + (blk n.val s).val, by omega⟩ := by
  rw [Fin.sum_univ_two_halves 256 16384 rfl F, Fin.sum_univ_tiles 16 1024 rfl (fun k : Fin 16384 => F ⟨256 + k.val, by omega⟩)]
  refine congrArg _ (Finset.sum_congr rfl fun n _ => Finset.sum_congr rfl fun s _ => congrArg F (Fin.ext ?_))
  show 256 + (n.val * 1024 + s.val) = 256 + (1024 * n.val + s.val) % 16384
  omega

/-- The accumulator at the end: every key's value row weighted by the exponential of its score. -/
theorem ACC_soft (x0 : FVec Ideal S256x512 .bf16) (x1 : FVec Ideal S1x256x64 .bf16) (x2 : FVec Ideal S1x80x256 .bf16) (x3 : FVec Ideal S1x16384x64 .bf16) (x4 : FVec Ideal S1x80x16384 .bf16)
    (h : Fin 4) (j : Fin 80) (e : Fin 512) (S : EReal) (hS : S = ((0.125 / Real.log 2 : ℝ) : EReal))
    (Q : Fin 64 → ℝ) (K : Fin 16640 → Fin 64 → ℝ) (v : Fin 16640 → EReal)
    (hq : ∀ d : Fin 64, x0 (ix2 ⟨64 * h.val + d.val, by omega⟩ e) = (Q d : EReal) * S)
    (hkc : ∀ (s : Fin 256) d, x1 (ix3 0 s d) = (K ⟨s.val, by omega⟩ d : EReal)) (hkl : ∀ (s : Fin 16384) d, x3 (ix3 0 s d) = (K ⟨256 + s.val, by omega⟩ d : EReal))
    (hvc : ∀ s : Fin 256, x2 (ix3 0 j s) = v ⟨s.val, by omega⟩) (hvl : ∀ s : Fin 16384, x4 (ix3 0 j s) = v ⟨256 + s.val, by omega⟩) :
    ACC x0 x1 x2 x3 x4 (ix3 h j e) = ∑ k, v k * ((Real.exp ((∑ d, K k d * Q d) * 0.125) : ℝ) : EReal) := by
  rw [ACC_sum, sum_keys]
  congr 1
  · unfold CX
    refine Finset.sum_congr rfl fun s _ => ?_
    rw [← Cert.Attn.exp2_scaled _ _ S hS]
    refine congrArg₂ _ (hvc s) (congrArg _ (Finset.sum_congr rfl fun d _ => congrArg₂ _ (hkc s d) (hq d)))
  · refine Finset.sum_congr rfl fun n _ => ?_
    unfold WT
    refine Finset.sum_congr rfl fun s _ => ?_
    unfold PV
    rw [← Cert.Attn.exp2_scaled _ _ S hS]
    refine congrArg₂ _ (hvl (blk n.val s)) (congrArg _ (Finset.sum_congr rfl fun d _ => congrArg₂ _ (hkl (blk n.val s) d) (hq d)))

end Cert.KernelIdeal.Attn

end
-- ==== Proof.RefVal.lean ====
module

public import proofs.«01_k».proof.Proof.Gen.ReferenceIdeal
public import proofs.«01_k».proof.Proof.Gen.ReferenceIdeal.Read
public import proofs.«01_k».proof.Proof.Soft
public import Idealize.ShloMosaic.Lib.Pipeline.ValueKit
public import Idealize.ShloMosaic.Lib.Pointwise

@[expose] public section

set_option maxRecDepth 65536

noncomputable section

open Idealize.ShloMosaic

namespace Cert.ReferenceIdeal.Attn

open Cert.ReferenceIdeal Cert.ReferenceIdeal.Gen Cert.ReferenceIdeal.Read

/-- The pattern of minus infinity. -/
theorem ofBits_ninf : Ideal.ofBits .f32 0xFF800000#32 = (⊥ : EReal) := by simp [Ideal.ofBits, Ideal.ieee]

/-- The pattern of an eighth. -/
theorem ofBits_eighth : Ideal.ofBits .f32 0x3E000000#32 = ((0.125 : ℝ) : EReal) := by
  simp [Ideal.ofBits, Ideal.ieee, -EReal.coe_mul]; norm_num

/-- The pattern of two. -/
theorem ofBits_two : Ideal.ofBits .f32 0x40000000#32 = ((2 : ℝ) : EReal) := by
  simp [Ideal.ofBits, Ideal.ieee, -EReal.coe_mul]; norm_num

/-- The context's rows followed by the latent's rows. -/
def KA (c : FVec Ideal S256x256 .f32) (l : FVec Ideal S16384x256 .f32) (k : Fin 16640) (b : Fin 256) : EReal :=
  if h : k.val < 256 then c (ix2 ⟨k.val, h⟩ b) else l (ix2 ⟨k.val - 256, by omega⟩ b)

/-- The joined keys at an index. -/
theorem v0_at (c : FVec Ideal S256x256 .f32) (l : FVec Ideal S16384x256 .f32) (k : Fin 16640) (b : Fin 256) :
    val_main_v0 (F := Ideal) c l (ix2 k b) = KA c l k b := by
  pointwise [val_main_v0, KA]

/-- The joined values at an index. -/
theorem v2_at (c : FVec Ideal S256x256 .f32) (l : FVec Ideal S16384x256 .f32) (k : Fin 16640) (b : Fin 256) :
    val_main_v2 (F := Ideal) c l (ix2 k b) = KA c l k b := by
  pointwise [val_main_v2, KA]

/-- The joined keys by group. -/
theorem v1_at (c : FVec Ideal S256x256 .f32) (l : FVec Ideal S16384x256 .f32) (k : Fin 16640) (g : Fin 4) (d : Fin 64) :
    val_main_v1 (F := Ideal) c l (ix3 k g d) = KA c l k ⟨64 * g.val + d.val, by omega⟩ := by
  rw [val_main_v1_apply, ← v0_at]
  refine congrArg _ ?_
  funext a; apply Fin.ext; fin_cases a <;> simp [ix2, ix3] <;> omega

/-- The joined values by group. -/
theorem v3_at (c : FVec Ideal S256x256 .f32) (l : FVec Ideal S16384x256 .f32) (k : Fin 16640) (g : Fin 4) (d : Fin 64) :
    val_main_v3 (F := Ideal) c l (ix3 k g d) = KA c l k ⟨64 * g.val + d.val, by omega⟩ := by
  rw [val_main_v3_apply, ← v2_at]
  refine congrArg _ ?_
  funext a; apply Fin.ext; fin_cases a <;> simp [ix2, ix3] <;> omega

/-- The queries by group and head. -/
theorem v4_at (q : FVec Ideal S16384x1024 .f32) (n : Fin 16384) (g h : Fin 4) (d : Fin 64) :
    val_main_v4 (F := Ideal) q (ix4 n g h d) = q (ix2 n ⟨256 * g.val + 64 * h.val + d.val, by omega⟩) := by
  rw [val_main_v4_apply]
  refine congrArg _ ?_
  funext a; apply Fin.ext; fin_cases a <;> simp [ix2, ix4] <;> omega

/-- The score of a query against a key, over eight. -/
def R (q : FVec Ideal S16384x1024 .f32) (kc : FVec Ideal S256x256 .f32) (kl : FVec Ideal S16384x256 .f32) (g h : Fin 4) (n : Fin 16384) (k : Fin 16640) : EReal :=
  (∑ d : Fin 64, KA kc kl k ⟨64 * g.val + d.val, by omega⟩ * q (ix2 n ⟨256 * g.val + 64 * h.val + d.val, by omega⟩)) * Ideal.ofBits .f32 0x3E000000#32

/-- The reference's scores. -/
theorem v8_at (q : FVec Ideal S16384x1024 .f32) (kc : FVec Ideal S256x256 .f32) (kl : FVec Ideal S16384x256 .f32) (g h : Fin 4) (n : Fin 16384) (k : Fin 16640) :
    val_main_v8 (F := Ideal) q kc kl (ix4 g h n k) = R q kc kl g h n k := by
  rw [val_main_v8_apply, val_main_v6_apply, val_main_v7_apply, val_main_v5_apply]
  show (∑ d, _) * Ideal.ofBits .f32 0x3E000000#32 = _
  unfold R
  congr 1
  refine Finset.sum_congr rfl fun d _ => ?_
  rw [← v1_at, ← v4_at q]
  congr 2
  · funext a; apply Fin.ext; fin_cases a <;> rfl
  · funext a; apply Fin.ext; fin_cases a <;> rfl

/-- The largest score of a row is a real where the scores are. -/
theorem v11_real (q : FVec Ideal S16384x1024 .f32) (kc : FVec Ideal S256x256 .f32) (kl : FVec Ideal S16384x256 .f32) (g h : Fin 4) (n : Fin 16384)
    (r : Fin 16640 → ℝ) (hr : ∀ k, R q kc kl g h n k = (r k : EReal)) :
    ∃ μ : ℝ, val_main_v11 (F := Ideal) q kc kl (ix3 g h n) = (μ : EReal) := by
  obtain ⟨μ, hμ⟩ := Cert.Attn.fold_max_real (Finset.univ : Finset (Fin 16640)) ⟨0, Finset.mem_univ _⟩ r
  refine ⟨μ, ?_⟩
  have h9 : val_main_v9 (F := Ideal) q kc kl (ix3 g h n) = Finset.univ.fold max (⊥ : EReal) (fun k => val_main_v8 (F := Ideal) q kc kl (ix4 g h n k)) := by
    unfold val_main_v9
    generalize val_main_v8 (F := Ideal) q kc kl = y
    pointwise [val_main_cst_0]
    rw [ofBits_ninf]
  rw [val_main_v11_apply, val_main_v10_apply, h9]
  simp only [v8_at, hr]
  rw [hμ]
  pointwise [val_main_cst_1]
  rw [ofBits_ninf]
  exact max_eq_right bot_le

/-- The reference's probabilities. -/
theorem v19_at (q : FVec Ideal S16384x1024 .f32) (kc : FVec Ideal S256x256 .f32) (kl : FVec Ideal S16384x256 .f32) (g h : Fin 4) (n : Fin 16384) (k : Fin 16640)
    (r : Fin 16640 → ℝ) (hr : ∀ k, R q kc kl g h n k = (r k : EReal)) (μ : ℝ) (hμ : val_main_v11 (F := Ideal) q kc kl (ix3 g h n) = (μ : EReal)) :
    val_main_v19 (F := Ideal) q kc kl (ix4 g h n k) = Ideal.div (Ideal.exp ((r k : EReal) - (μ : EReal))) (0 + ∑ j, Ideal.exp ((r j : EReal) - (μ : EReal))) := by
  have h15 : ∀ j, val_main_v15 (F := Ideal) q kc kl (ix4 g h n j) = Ideal.exp ((r j : EReal) - (μ : EReal)) := fun j => by
    rw [val_main_v15_apply, val_main_v14_apply, v8_at, val_main_v13_apply, val_main_v12_apply, hr, ← hμ]
    have e : idx_main_v12 (idx_main_v13 (ix4 g h n j)) = ix3 g h n := by funext a; apply Fin.ext; fin_cases a <;> rfl
    rw [e]
    generalize val_main_v11 (F := Ideal) q kc kl (ix3 g h n) = z
    rfl
  rw [val_main_v19_apply, val_main_v18_apply, val_main_v17_apply, val_main_v16_apply, h15]
  have e : ∀ j, idx_main_v16 (idx_main_v17 (idx_main_v18 (ix4 g h n k))) j = ix4 g h n j := fun j => by funext a; apply Fin.ext; fin_cases a <;> rfl
  simp only [e, h15]
  rw [val_main_cst_2_apply]
  have z : (FloatOps.ofBits .f32 0x00000000#32 : Ideal .f32) = (0 : EReal) := by pointwise
  rw [z]
  generalize Ideal.exp ((r k : EReal) - (μ : EReal)) = a
  generalize (0 + ∑ j, Ideal.exp ((r j : EReal) - (μ : EReal))) = b
  rfl

/-- The reference's result at an index. -/
theorem v23_at (q : FVec Ideal S16384x1024 .f32) (kc vc : FVec Ideal S256x256 .f32) (kl vl : FVec Ideal S16384x256 .f32) (g h : Fin 4) (n : Fin 16384) (e : Fin 64)
    (r : Fin 16640 → ℝ) (hr : ∀ k, R q kc kl g h n k = (r k : EReal)) :
    ∃ μ : ℝ, val_main_v23 (F := Ideal) q kc vc kl vl (ix2 n ⟨256 * g.val + 64 * h.val + e.val, by omega⟩)
      = ∑ k, KA vc vl k ⟨64 * g.val + e.val, by omega⟩ * Ideal.div (Ideal.exp ((r k : EReal) - (μ : EReal))) (0 + ∑ j, Ideal.exp ((r j : EReal) - (μ : EReal))) := by
  obtain ⟨μ, hμ⟩ := v11_real q kc kl g h n r hr
  refine ⟨μ, ?_⟩
  rw [val_main_v23_apply]
  show val_main_v22 (F := Ideal) q kc vc kl vl _ = _
  rw [val_main_v22_apply, val_main_v21_apply, val_main_v20_apply]
  refine Finset.sum_congr rfl fun k _ => ?_
  rw [← v19_at q kc kl g h n k r hr μ hμ, ← v3_at]
  refine congrArg₂ (· * ·) (congrArg _ ?_) (congrArg _ ?_)
  · funext a; apply Fin.ext; fin_cases a <;> simp [ix2, ix3] <;> omega
  · funext a; apply Fin.ext; fin_cases a <;> simp [ix2, ix4] <;> omega

end Cert.ReferenceIdeal.Attn

end
-- ==== Proof.Finite.lean ====
module

public import proofs.«01_k».proof.Defs
public import proofs.«01_k».proof.Proof.Gen.Pre_finite
public import Idealize.ShloMosaic.Lib.ReduceAll
public import Idealize.ShloMosaic.Lib.Pipeline.ValueKit
public import Idealize.ShloMosaic.Lib.Pointwise

@[expose] public section

set_option maxRecDepth 65536

noncomputable section

open Idealize.ShloMosaic

namespace Cert.Attn

open Cert.Pre_finite Cert.Pre_finite.Gen

/-- An extended real whose absolute value compares below infinity is a real. -/
theorem real_of_lt (x : EReal) (h : cmpf (F := Ideal) (φ := .f32) (s := S_) .olt (Host.absf (F := Ideal) (φ := .f32) (s := S_) fun _ => x) (constant S_ .f32 0x7F800000#32) ix0 = 1#1) : ∃ r : ℝ, x = (r : EReal) := by
  pointwise at h
  have ht : Ideal.ofBits .f32 0x7F800000#32 = (⊤ : EReal) := by simp [Ideal.ofBits, Ideal.ieee]
  have hx : max x (-x) < (⊤ : EReal) := by
    rw [← ht]
    have : decide (max x (-x) < Ideal.ofBits .f32 0x7F800000#32) = true := by
      by_contra hc
      rw [Bool.not_eq_true] at hc
      have h' : BitVec.ofBool (decide (max x (-x) < Ideal.ofBits .f32 0x7F800000#32)) = 1#1 := h
      rw [hc] at h'
      exact absurd h' (by decide)
    exact of_decide_eq_true this
  induction x using EReal.rec with
  | bot => simp at hx
  | top => simp at hx
  | coe r => exact ⟨r, rfl⟩

/-- Under the precondition the queries and both sets of keys are reals. -/
theorem finite_real (q : FVec Ideal S16384x1024 .f32) (kc vc : FVec Ideal S256x256 .f32) (kl vl : FVec Ideal S16384x256 .f32)
    (h : Cert.Pre_finite.fn (F := Ideal) q kc vc kl vl = fun _ => 1#1) :
    (∀ i, ∃ r : ℝ, q i = (r : EReal)) ∧ (∀ i, ∃ r : ℝ, kc i = (r : EReal)) ∧ (∀ i, ∃ r : ℝ, kl i = (r : EReal)) := by
  have h0 := congrFun h ix0
  unfold Cert.Pre_finite.fn at h0
  obtain ⟨h1, h3⟩ := IntOp.andi_eq_one.1 h0
  obtain ⟨h1, h2⟩ := IntOp.andi_eq_one.1 h1
  haveI : Subsingleton S_.Idx := ⟨fun a b => funext fun i => i.elim0⟩
  exact ⟨fun i => real_of_lt _ (Host.reduce_andi_all _ _ _ _ _ h1 i), fun i => real_of_lt _ (Host.reduce_andi_all _ _ _ _ _ h2 i), fun i => real_of_lt _ (Host.reduce_andi_all _ _ _ _ _ h3 i)⟩

end Cert.Attn

end
-- ==== Proof.Value.lean ====
module

public import proofs.«01_k».proof.Proof.Blocks
public import proofs.«01_k».proof.Proof.Sum
public import proofs.«01_k».proof.Proof.RefVal
public import proofs.«01_k».proof.Proof.Finite

@[expose] public section

set_option maxRecDepth 65536

noncomputable section

open Idealize.ShloMosaic Idealize.ShloMosaic.TcCoe Idealize.SL.Sem
open Idealize.ShloMosaic.Pipeline (Dat)

namespace Cert.KernelIdeal.Attn

open Cert.KernelIdeal Cert.KernelIdeal.Gen
open Cert.ReferenceIdeal.Attn (KA R)

/-- The queries' scale is an eighth over the logarithm of two. -/
theorem SC_real : SC = ((0.125 / Real.log 2 : ℝ) : EReal) := by
  unfold SC
  rw [Cert.ReferenceIdeal.Attn.ofBits_eighth, Cert.ReferenceIdeal.Attn.ofBits_two, Ideal.log_coe, if_neg (by norm_num),
    Cert.Attn.div_coe _ _ (Real.log_pos (by norm_num)), ← EReal.coe_mul, div_eq_mul_inv]

/-- What the kernel writes from one point's blocks is the reference's block. -/
theorem out_at (q : FVec Ideal S16384x1024 .f32) (kc vc : FVec Ideal S256x256 .f32) (kl vl : FVec Ideal S16384x256 .f32)
    (hq : ∀ i, ∃ r : ℝ, q i = (r : EReal)) (hkc : ∀ i, ∃ r : ℝ, kc i = (r : EReal)) (hkl : ∀ i, ∃ r : ℝ, kl i = (r : EReal))
    (g : Fin 4) (w : Fin 32) (x0 : FVec Ideal S256x512 .bf16) (x1 : FVec Ideal S1x256x64 .bf16) (x2 : FVec Ideal S1x80x256 .bf16) (x3 : FVec Ideal S1x16384x64 .bf16) (x4 : FVec Ideal S1x80x16384 .bf16)
    (h0 : ∀ (a : Fin 256) (e : Fin 512), x0 (ix2 a e) = qT q (ix2 ⟨256 * g.val + a.val, by omega⟩ ⟨512 * w.val + e.val, by omega⟩))
    (h1 : ∀ (s : Fin 256) (d : Fin 64), x1 (ix3 0 s d) = keys_c kc (ix3 g s d)) (h2 : ∀ (j : Fin 80) (s : Fin 256), x2 (ix3 0 j s) = vals_c vc (ix3 g j s))
    (h3 : ∀ (s : Fin 16384) (d : Fin 64), x3 (ix3 0 s d) = keys_l kl (ix3 g s d)) (h4 : ∀ (j : Fin 80) (s : Fin 16384), x4 (ix3 0 j s) = vals_l vl (ix3 g j s))
    (h : Fin 4) (e : Fin 64) (a : Fin 512) :
    OUT x0 x1 x2 x3 x4 (ix2 a ⟨64 * h.val + e.val, by omega⟩)
      = Cert.ReferenceIdeal.Read.val_main_v23 (F := Ideal) q kc vc kl vl (ix2 ⟨512 * w.val + a.val, by omega⟩ ⟨256 * g.val + 64 * h.val + e.val, by omega⟩) := by
  choose Q hQ using hq
  have hK : ∀ k b, ∃ r : ℝ, KA kc kl k b = (r : EReal) := fun k b => by
    unfold KA
    split
    · exact hkc _
    · exact hkl _
  choose K hK using hK
  have hr : ∀ k, R q kc kl g h ⟨512 * w.val + a.val, by omega⟩ k = (((∑ d : Fin 64, K k ⟨64 * g.val + d.val, by omega⟩ * Q (ix2 ⟨512 * w.val + a.val, by omega⟩ ⟨256 * g.val + 64 * h.val + d.val, by omega⟩)) * 0.125 : ℝ) : EReal) := fun k => by
    unfold R
    rw [Cert.ReferenceIdeal.Attn.ofBits_eighth, EReal.coe_mul, Cert.Attn.coe_sum]
    refine congrArg (· * _) (Finset.sum_congr rfl fun d _ => ?_)
    rw [hK, hQ, EReal.coe_mul]
  obtain ⟨μ, hμ⟩ := Cert.ReferenceIdeal.Attn.v23_at q kc vc kl vl g h ⟨512 * w.val + a.val, by omega⟩ e _ hr
  refine Eq.trans ?_ hμ.symm
  rw [← Cert.Attn.soft_eq (by norm_num)]
  have acc : ∀ (j : Fin 80) (v : Fin 16640 → EReal) (hvc : ∀ s : Fin 256, x2 (ix3 0 j s) = v ⟨s.val, by omega⟩) (hvl : ∀ s : Fin 16384, x4 (ix3 0 j s) = v ⟨256 + s.val, by omega⟩), _ := fun j v hvc hvl =>
    ACC_soft x0 x1 x2 x3 x4 h j a SC SC_real (fun d => Q (ix2 ⟨512 * w.val + a.val, by omega⟩ ⟨256 * g.val + 64 * h.val + d.val, by omega⟩)) (fun k d => K k ⟨64 * g.val + d.val, by omega⟩) v
      (fun d => by rw [h0, qT_apply, ← hQ]; refine congrArg (q · * SC) ?_; funext i; apply Fin.ext; fin_cases i <;> simp [ix2]; omega)
      (fun s d => by rw [h1, keys_c_apply, ← hK]; unfold KA; rw [dif_pos s.isLt])
      (fun s d => by rw [h3, keys_l_apply, ← hK]; unfold KA; rw [dif_neg (by simp)]; refine congrArg kl ?_; funext i; apply Fin.ext; fin_cases i <;> simp [ix2])
      hvc hvl
  unfold OUT NORM
  have e1 : (⟨(64 * h.val + e.val) / 64, by omega⟩ : Fin 4) = h := Fin.ext (by simp; omega)
  have e2 : (⟨(64 * h.val + e.val) % 64, by omega⟩ : Fin 80) = ⟨e.val, by omega⟩ := Fin.ext (by show (64 * h.val + e.val) % 64 = e.val; omega)
  show Ideal.div (ACC x0 x1 x2 x3 x4 (ix3 (⟨(64 * h.val + e.val) / 64, by omega⟩ : Fin 4) (⟨(64 * h.val + e.val) % 64, by omega⟩ : Fin 80) a)) (ACC x0 x1 x2 x3 x4 (ix3 (⟨(64 * h.val + e.val) / 64, by omega⟩ : Fin 4) 64 a)) = _
  rw [e1, e2]
  rw [acc ⟨e.val, by omega⟩ (fun k => KA vc vl k ⟨64 * g.val + e.val, by omega⟩)
      (fun s => by rw [h2, vals_c_row _ _ _ (by simp)]; unfold KA; rw [dif_pos s.isLt])
      (fun s => by rw [h4, vals_l_row _ _ _ (by simp)]; unfold KA; rw [dif_neg (by simp)]; refine congrArg vl ?_; funext i; apply Fin.ext; fin_cases i <;> simp [ix2]),
    acc 64 (fun _ => 1) (fun s => by rw [h2]; exact vals_c_one _ _ _) (fun s => by rw [h4]; exact vals_l_one _ _ _)]

variable (m : (ℓ : Loc nD τ sig) → Buf (Elt Ideal) ℓ)

/-- The block of queries a point stages. -/
theorem blk0 (c : Dev nD) (t : Fin cfg0.N) (a : Fin 256) (e : Fin 512) (g : Fin 4) (w : Fin 32) (hg : g.val = t.val / 32) (hw : w.val = t.val % 32) :
    iblk m c 0 t (ix2 a e) = qT (m ((c : Thread nD τ).loc main_arg0)) (ix2 ⟨256 * g.val + a.val, by omega⟩ ⟨512 * w.val + e.val, by omega⟩) := by
  rw [← entry0 m c]
  blk_simp [iblk]
  refine congrArg (V m c main_v5) ?_
  blk_ext [idx t, hg, hw]

/-- The block of context keys a point stages. -/
theorem blk1 (c : Dev nD) (t : Fin cfg0.N) (s : Fin 256) (d : Fin 64) (g : Fin 4) (hg : g.val = t.val / 32) :
    iblk m c 1 t (ix3 0 s d) = keys_c (m ((c : Thread nD τ).loc main_arg1)) (ix3 g s d) := by
  rw [← entry1 m c]
  blk_simp [iblk]
  refine congrArg (V m c main_v8) ?_
  blk_ext [idx t, hg]

/-- The block of context values a point stages. -/
theorem blk2 (c : Dev nD) (t : Fin cfg0.N) (j : Fin 80) (s : Fin 256) (g : Fin 4) (hg : g.val = t.val / 32) :
    iblk m c 2 t (ix3 0 j s) = vals_c (m ((c : Thread nD τ).loc main_arg2)) (ix3 g j s) := by
  rw [← entry2 m c]
  blk_simp [iblk]
  refine congrArg (V m c main_v14) ?_
  blk_ext [idx t, hg]

/-- The block of latent keys a point stages. -/
theorem blk3 (c : Dev nD) (t : Fin cfg0.N) (s : Fin 16384) (d : Fin 64) (g : Fin 4) (hg : g.val = t.val / 32) :
    iblk m c 3 t (ix3 0 s d) = keys_l (m ((c : Thread nD τ).loc main_arg3)) (ix3 g s d) := by
  rw [← entry3 m c]
  blk_simp [iblk]
  refine congrArg (V m c main_v17) ?_
  blk_ext [idx t, hg]

/-- The block of latent values a point stages. -/
theorem blk4 (c : Dev nD) (t : Fin cfg0.N) (j : Fin 80) (s : Fin 16384) (g : Fin 4) (hg : g.val = t.val / 32) :
    iblk m c 4 t (ix3 0 j s) = vals_l (m ((c : Thread nD τ).loc main_arg4)) (ix3 g j s) := by
  rw [← entry4 m c]
  blk_simp [iblk]
  refine congrArg (V m c main_v23) ?_
  blk_ext [idx t, hg]

/-- The output array after the last point is the reference's result. -/
theorem final (c : Dev nD) (hq : ∀ i, ∃ r : ℝ, (m ((c : Thread nD τ).loc main_arg0) : FVec Ideal S16384x1024 .f32) i = (r : EReal))
    (hkc : ∀ i, ∃ r : ℝ, (m ((c : Thread nD τ).loc main_arg1) : FVec Ideal S256x256 .f32) i = (r : EReal)) (hkl : ∀ i, ∃ r : ℝ, (m ((c : Thread nD τ).loc main_arg3) : FVec Ideal S16384x256 .f32) i = (r : EReal)) :
    (dats m 0 c).arrAt 5 cfg0.N = Cert.ReferenceIdeal.Read.val_main_v23 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  (dats m 0 c).arrAt_eq_of_covers 5 _ (by decide +kernel) fun t _ y => by
    have ht := (idx t).2.2.2.2.2.2
    have hy0 : (y 0).val < 512 := (y 0).isLt
    have hy1 : (y 1).val < 256 := (y 1).isLt
    rw [dats_after5]
    have hy : y = ix2 (⟨(y 0).val, hy0⟩ : Fin 512) (⟨64 * (⟨(y 1).val / 64, by omega⟩ : Fin 4).val + (⟨(y 1).val % 64, by omega⟩ : Fin 64).val, by simp; omega⟩ : Fin 256) := by
      funext i; apply Fin.ext; fin_cases i
      · rfl
      · simp [ix2]; omega
    have key := out_at (m ((c : Thread nD τ).loc main_arg0)) (m ((c : Thread nD τ).loc main_arg1)) (m ((c : Thread nD τ).loc main_arg2)) (m ((c : Thread nD τ).loc main_arg3)) (m ((c : Thread nD τ).loc main_arg4))
      hq hkc hkl ⟨t.val / 32, by omega⟩ ⟨t.val % 32, by omega⟩ _ _ _ _ _ (fun a e => blk0 m c t a e _ _ rfl rfl) (fun s d => blk1 m c t s d _ rfl) (fun j s => blk2 m c t j s _ rfl)
      (fun s d => blk3 m c t s d _ rfl) (fun j s => blk4 m c t j s _ rfl) ⟨(y 1).val / 64, by omega⟩ ⟨(y 1).val % 64, by omega⟩ ⟨(y 0).val, hy0⟩
    rw [← hy] at key
    refine key.trans ?_
    blk_simp
    refine congrArg _ ?_
    blk_ext [idx t]

end Cert.KernelIdeal.Attn

end
-- ==== Proof.Mlp.lean ====
/- The normalisation, the modulation and the MLP of one row, as functions of extended reals, and the MLP's
   sum cut in the four parts that the kernel adds. -/
module

public import Idealize.ShloMosaic.Lib.Pointwise

@[expose] public section

noncomputable section

open Idealize.ShloMosaic

namespace Cert.Mlp

/-- A row over the root of its mean square, times a gain. -/
def rms (x g : Fin 1024 → EReal) (d : Fin 1024) : EReal :=
  x d * Ideal.rsqrt (Ideal.div (∑ k, x k * x k) (Ideal.ofBits .f32 0x44800000#32) + Ideal.ofBits .f32 0x358637BD#32) * g d

/-- A row scaled by one plus a scale and shifted. -/
def modu (h sh sc : Fin 1024 → EReal) (d : Fin 1024) : EReal := h d * (1 + sc d) + sh d

/-- A row times a matrix. -/
def lin (h : Fin 1024 → EReal) (W : Fin 1024 → Fin 1024 → EReal) (d : Fin 1024) : EReal := ∑ k, h k * W k d

/-- One hidden unit: the square of the positive part of its product with the row. -/
def act (h : Fin 1024 → EReal) (W : Fin 1024 → Fin 4096 → EReal) (j : Fin 4096) : EReal :=
  max (∑ k, h k * W k j) 0 * max (∑ k, h k * W k j) 0

/-- The MLP of a row. -/
def mlp (h : Fin 1024 → EReal) (W1 : Fin 1024 → Fin 4096 → EReal) (W2 : Fin 4096 → Fin 1024 → EReal) (d : Fin 1024) : EReal :=
  ∑ j, act h W1 j * W2 j d

/-- The row after the MLP's residual step. -/
def tail (x sh sc g2 g3 gf : Fin 1024 → EReal) (W1 : Fin 1024 → Fin 4096 → EReal) (W2 : Fin 4096 → Fin 1024 → EReal) (d : Fin 1024) : EReal :=
  x d + gf d * rms (mlp (modu (rms x g2) sh sc) W1 W2) g3 d

/-- The row after the attention's residual step. -/
def attnout (x a : Fin 1024 → EReal) (W : Fin 1024 → Fin 1024 → EReal) (g gm : Fin 1024 → EReal) (d : Fin 1024) : EReal :=
  x d + gm d * rms (lin a W) g d

/-- The share of some of the hidden units in the MLP of a row. -/
def part (h : Fin 1024 → EReal) (W1 W2 : Fin 1024 → Fin 1024 → EReal) (d : Fin 1024) : EReal :=
  ∑ j, max (∑ k, h k * W1 k j) 0 * max (∑ k, h k * W1 k j) 0 * W2 j d

/-- The MLP's sum, a quarter of the hidden units at a time. -/
theorem mlp_parts (h : Fin 1024 → EReal) (W1 : Fin 1024 → Fin 4096 → EReal) (W2 : Fin 4096 → Fin 1024 → EReal) (d : Fin 1024) :
    mlp h W1 W2 d
      = part h (fun k j => W1 k ⟨j.val, by omega⟩) (fun j d => W2 ⟨j.val, by omega⟩ d) d
        + part h (fun k j => W1 k ⟨1024 + j.val, by omega⟩) (fun j d => W2 ⟨1024 + j.val, by omega⟩ d) d
        + part h (fun k j => W1 k ⟨2048 + j.val, by omega⟩) (fun j d => W2 ⟨2048 + j.val, by omega⟩ d) d
        + part h (fun k j => W1 k ⟨3072 + j.val, by omega⟩) (fun j d => W2 ⟨3072 + j.val, by omega⟩ d) d := by
  unfold mlp part
  rw [Fin.sum_univ_tiles 4 1024 rfl, Fin.sum_univ_four]
  have e : ∀ j : Fin 1024, (⟨(0 : Fin 4).val * 1024 + j.val, by simp; omega⟩ : Fin 4096) = ⟨j.val, by omega⟩ := fun j => Fin.ext (by simp)
  simp only [e]
  rfl

end Cert.Mlp

end
-- ==== Proof.AttnOut.lean ====
/- The attention's output projection and the MLP of the latent rows: what the kernel leaves is the reference's result. -/
module

public import proofs.«01_k».proof.Proof.Mlp
public import proofs.«01_k».proof.Proof.Gen.Kernel2Ideal.Value
public import proofs.«01_k».proof.Proof.Gen.Reference2Ideal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel2Ideal.AttnOut

open Cert.Kernel2Ideal Cert.Kernel2Ideal.Gen Cert.Mlp

/-- The rows after the attention's residual step at an index. -/
theorem pay2_at (a : FVec Ideal S512x1024 .bf16) (w : FVec Ideal S1024x1024 .bf16) (x : FVec Ideal S512x1024 .f32) (gm g : FVec Ideal S1x1024 .f32) (r : Fin 512) (d : Fin 1024) :
    k0_pay2 (F := Ideal) a w x gm g (ix2 r d)
      = attnout (fun k => x (ix2 r k)) (fun k => a (ix2 r k)) (fun k e => w (ix2 k e)) (fun k => g (ix2 0 k)) (fun k => gm (ix2 0 k)) d := by
  pointwise [k0_pay2]
  rfl

/-- The normalised rows at an index. -/
theorem pay3_at (a : FVec Ideal S512x1024 .bf16) (w : FVec Ideal S1024x1024 .bf16) (x : FVec Ideal S512x1024 .f32) (gm g g2 : FVec Ideal S1x1024 .f32) (r : Fin 512) (d : Fin 1024) :
    k0_pay3 (F := Ideal) a w x gm g g2 (ix2 r d)
      = rms (fun k => k0_pay2 (F := Ideal) a w x gm g (ix2 r k)) (fun k => g2 (ix2 0 k)) d := by
  unfold k0_pay3
  generalize k0_pay2 (F := Ideal) a w x gm g = h
  pointwise
  rfl

/-- The modulated rows at an index. -/
theorem pay4_at (y : FVec Ideal S512x1024 .f32) (sc sh : FVec Ideal S1x1024 .f32) (r : Fin 512) (d : Fin 1024) :
    k0_pay4 (F := Ideal) y sc sh (ix2 r d) = modu (fun k => y (ix2 r k)) (fun k => sh (ix2 0 k)) (fun k => sc (ix2 0 k)) d := by
  pointwise [k0_pay4]
  rfl

/-- The first two quarters of the hidden units at an index. -/
theorem pay5_at (y : FVec Ideal S512x1024 .f32) (sc sh : FVec Ideal S1x1024 .f32) (a0 b0 a1 b1 : FVec Ideal S1024x1024 .bf16) (r : Fin 512) (d : Fin 1024) :
    k0_pay5 (F := Ideal) y sc sh a0 b0 a1 b1 (ix2 r d)
      = part (fun k => k0_pay4 (F := Ideal) y sc sh (ix2 r k)) (fun k e => a0 (ix2 k e)) (fun k e => b0 (ix2 k e)) d
        + part (fun k => k0_pay4 (F := Ideal) y sc sh (ix2 r k)) (fun k e => a1 (ix2 k e)) (fun k e => b1 (ix2 k e)) d := by
  unfold k0_pay5
  generalize k0_pay4 (F := Ideal) y sc sh = h
  pointwise
  rfl

/-- The third quarter's hidden units before their squares, at an index. -/
theorem pay6_at (y : FVec Ideal S512x1024 .f32) (sc sh : FVec Ideal S1x1024 .f32) (a : FVec Ideal S1024x1024 .bf16) (r : Fin 512) (j : Fin 1024) :
    k0_pay6 (F := Ideal) y sc sh a (ix2 r j) = ∑ k, k0_pay4 (F := Ideal) y sc sh (ix2 r k) * a (ix2 k j) := by
  unfold k0_pay6
  generalize k0_pay4 (F := Ideal) y sc sh = h
  pointwise

/-- The stored block at an index, from the first two quarters' sum and the third's products. -/
theorem pay1_at (x : FVec Ideal S512x1024 .f32) (g : FVec Ideal S1x1024 .f32) (h : FVec Ideal S512x1024 .bf16) (p u : FVec Ideal S512x1024 .f32) (b2 a3 b3 : FVec Ideal S1024x1024 .bf16) (gf : FVec Ideal S1x1024 .f32) (r : Fin 512) (d : Fin 1024) :
    k0_pay1 (F := Ideal) x g h p u b2 a3 b3 gf (ix2 r d)
      = x (ix2 r d) + gf (ix2 0 d) * rms (fun e => p (ix2 r e) + (∑ j, max (u (ix2 r j)) 0 * max (u (ix2 r j)) 0 * b2 (ix2 j e))
          + part (fun k => h (ix2 r k)) (fun k e => a3 (ix2 k e)) (fun k e => b3 (ix2 k e)) e) (fun k => g (ix2 0 k)) d := by
  pointwise [k0_pay1]
  rfl

/-- The stored block at an index, from the staged blocks. -/
theorem out_at (x0 : FVec Ideal S512x1024 .f32) (x1 : FVec Ideal S512x1024 .bf16) (x2 : FVec Ideal S1024x1024 .bf16) (x3 : FVec Ideal S8x1024 .f32) (x4 : FVec Ideal S4x1024 .f32) (x5 : FVec Ideal S1024x4096 .bf16) (x6 : FVec Ideal S4096x1024 .bf16) (r : Fin 512) (d : Fin 1024) :
    out0_7 (F := Ideal) x0 x1 x2 x3 x4 x5 x6 (ix2 r d)
      = tail (attnout (fun k => x0 (ix2 r k)) (fun k => x1 (ix2 r k)) (fun k e => x2 (ix2 k e)) (fun k => x4 (ix2 1 k)) (fun k => x3 (ix2 2 k)))
          (fun k => x3 (ix2 3 k)) (fun k => x3 (ix2 4 k)) (fun k => x4 (ix2 2 k)) (fun k => x4 (ix2 3 k)) (fun k => x3 (ix2 5 k))
          (fun k e => x5 (ix2 k e)) (fun k e => x6 (ix2 k e)) d := by
  unfold_out out0_7
  rw [View.canon_unit_zero (S := S512x1024) (by decide)]
  rw [pay1_at]
  unfold tail
  rw [show mlp (modu _ _ _) _ _ = _ from funext fun e => mlp_parts _ _ _ e]
  simp only [pay6_at, pay5_at, pay4_at, pay3_at, pay2_at]
  pointwise
  rfl

/-- Every window's block at every grid point. -/
theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![0, 0] ∧ win0_7.index t = ![t.val, 0] ∧ t.val < 32 :=
  (by decide +kernel : ∀ t : Fin grid0.N, _)

/-- One of the six parts of the modulation. -/
def rows (x : FVec Ideal S6144 .f32) (j : Fin 6) (d : Fin 1024) : EReal := x (ix1 ⟨1024 * j.val + d.val, by omega⟩)

/-- The modulation's six rows over two rows of zeros, as the host prepares them. -/
def pads (x : FVec Ideal S6144 .f32) : FVec Ideal S8x1024 .f32 :=
  pad S8x1024 ![0, 0] ![2, 0] ![0, 0] (shapeCast S6x1024 x shapeCasts_S6144_S6x1024) (sitofp .f32 (constantI S_ 32 0#32)) pads_S6x1024_S8x1024_020_000 h_S_

/-- The prepared rows: the third. -/
theorem pads_2 (x : FVec Ideal S6144 .f32) (d : Fin 1024) : pads x (ix2 2 d) = rows x 2 d := by
  pointwise [pads, rows]
  blk_ext

/-- The prepared rows: the fourth. -/
theorem pads_3 (x : FVec Ideal S6144 .f32) (d : Fin 1024) : pads x (ix2 3 d) = rows x 3 d := by
  pointwise [pads, rows]
  blk_ext

/-- The prepared rows: the fifth. -/
theorem pads_4 (x : FVec Ideal S6144 .f32) (d : Fin 1024) : pads x (ix2 4 d) = rows x 4 d := by
  pointwise [pads, rows]
  blk_ext

/-- The prepared rows: the sixth. -/
theorem pads_5 (x : FVec Ideal S6144 .f32) (d : Fin 1024) : pads x (ix2 5 d) = rows x 5 d := by
  pointwise [pads, rows]
  blk_ext

variable (m : (ℓ : Loc nD τ sig) → Buf (Elt Ideal) ℓ)

set_option maxHeartbeats 2000000 in
/-- What window 1 stages: the attention's rows. -/
theorem entry1 (c : Dev nD) : V m c main_v4 = truncf (F := Ideal) .bf16 (m ((c : Thread nD τ).loc main_arg1)) bitsLt_bf16_f32 := by
  unfold V
  simp only [hostOps0, hostOps0_1, hostOps0_2, List.flatten_cons, List.flatten_nil, List.append_nil, List.cons_append, List.nil_append]
  after_results

set_option maxHeartbeats 2000000 in
/-- What window 2 stages: the output weights. -/
theorem entry2 (c : Dev nD) : V m c main_v5 = truncf (F := Ideal) .bf16 (m ((c : Thread nD τ).loc main_arg2)) bitsLt_bf16_f32 := by
  unfold V
  simp only [hostOps0, hostOps0_1, hostOps0_2, List.flatten_cons, List.flatten_nil, List.append_nil, List.cons_append, List.nil_append]
  after_results

set_option maxHeartbeats 2000000 in
/-- What window 3 stages: the prepared rows. -/
theorem entry3 (c : Dev nD) : V m c main_v1 = pads (m ((c : Thread nD τ).loc main_arg3)) := by
  unfold V
  simp only [hostOps0, hostOps0_1, hostOps0_2, List.flatten_cons, List.flatten_nil, List.append_nil, List.cons_append, List.nil_append]
  after_results
  rfl

set_option maxHeartbeats 2000000 in
/-- What window 5 stages: the first weights. -/
theorem entry5 (c : Dev nD) : V m c main_v2 = truncf (F := Ideal) .bf16 (m ((c : Thread nD τ).loc main_arg5)) bitsLt_bf16_f32 := by
  unfold V
  simp only [hostOps0, hostOps0_1, hostOps0_2, List.flatten_cons, List.flatten_nil, List.append_nil, List.cons_append, List.nil_append]
  after_results

set_option maxHeartbeats 2000000 in
/-- What window 6 stages: the second weights. -/
theorem entry6 (c : Dev nD) : V m c main_v3 = truncf (F := Ideal) .bf16 (m ((c : Thread nD τ).loc main_arg6)) bitsLt_bf16_f32 := by
  unfold V
  simp only [hostOps0, hostOps0_1, hostOps0_2, List.flatten_cons, List.flatten_nil, List.append_nil, List.cons_append, List.nil_append]
  after_results

/-- The block of rows a point stages. -/
theorem blk0 (c : Dev nD) (t : Fin cfg0.N) (r : Fin 512) (d : Fin 1024) (w : Fin 32) (hw : w.val = t.val) :
    iblk m c 0 t (ix2 r d) = (m ((c : Thread nD τ).loc main_arg0) : FVec Ideal S16384x1024 .f32) (ix2 ⟨512 * w.val + r.val, by omega⟩ d) := by
  have h : ∀ i : S16384x1024.Idx, (V m c main_arg0 : FVec Ideal S16384x1024 .f32) i = (m ((c : Thread nD τ).loc main_arg0) : FVec Ideal S16384x1024 .f32) i := fun i => by
    rw [V_main_arg0 m c]
  rw [← h]
  blk_simp [iblk]
  refine congrArg (V m c main_arg0) ?_
  blk_ext [idx t, hw]

/-- The block of the attention's rows a point stages. -/
theorem blk1 (c : Dev nD) (t : Fin cfg0.N) (r : Fin 512) (d : Fin 1024) (w : Fin 32) (hw : w.val = t.val) :
    iblk m c 1 t (ix2 r d) = (m ((c : Thread nD τ).loc main_arg1) : FVec Ideal S16384x1024 .f32) (ix2 ⟨512 * w.val + r.val, by omega⟩ d) := by
  have h : ∀ i : S16384x1024.Idx, (V m c main_v4 : FVec Ideal S16384x1024 .bf16) i = (m ((c : Thread nD τ).loc main_arg1) : FVec Ideal S16384x1024 .f32) i := fun i => by
    rw [entry1 m c]
    pointwise
  rw [← h]
  blk_simp [iblk]
  refine congrArg (V m c main_v4) ?_
  blk_ext [idx t, hw]

/-- The output weights a point stages. -/
theorem blk2 (c : Dev nD) (t : Fin cfg0.N) (k : Fin 1024) (d : Fin 1024) :
    iblk m c 2 t (ix2 k d) = (m ((c : Thread nD τ).loc main_arg2) : FVec Ideal S1024x1024 .f32) (ix2 k d) := by
  have h : (V m c main_v5 : FVec Ideal S1024x1024 .bf16) (ix2 k d) = (m ((c : Thread nD τ).loc main_arg2) : FVec Ideal S1024x1024 .f32) (ix2 k d) := by
    rw [entry2 m c]
    pointwise
  rw [← h]
  blk_simp [iblk]
  refine congrArg (V m c main_v5) ?_
  blk_ext [idx t]

/-- The modulation's rows a point stages. -/
theorem blk3 (c : Dev nD) (t : Fin cfg0.N) (k : Fin 8) (d : Fin 1024) :
    iblk m c 3 t (ix2 k d) = pads (m ((c : Thread nD τ).loc main_arg3)) (ix2 k d) := by
  have h : (V m c main_v1 : FVec Ideal S8x1024 .f32) (ix2 k d) = pads (m ((c : Thread nD τ).loc main_arg3)) (ix2 k d) := by
    rw [entry3 m c]
  rw [← h]
  blk_simp [iblk]
  refine congrArg (V m c main_v1) ?_
  blk_ext [idx t]

/-- The gains a point stages. -/
theorem blk4 (c : Dev nD) (t : Fin cfg0.N) (k : Fin 4) (d : Fin 1024) :
    iblk m c 4 t (ix2 k d) = (m ((c : Thread nD τ).loc main_arg4) : FVec Ideal S4x1024 .f32) (ix2 k d) := by
  have h : (V m c main_arg4 : FVec Ideal S4x1024 .f32) (ix2 k d) = (m ((c : Thread nD τ).loc main_arg4) : FVec Ideal S4x1024 .f32) (ix2 k d) := by
    rw [V_main_arg4 m c]
  rw [← h]
  blk_simp [iblk]
  refine congrArg (V m c main_arg4) ?_
  blk_ext [idx t]

/-- The first weights a point stages. -/
theorem blk5 (c : Dev nD) (t : Fin cfg0.N) (k : Fin 1024) (d : Fin 4096) :
    iblk m c 5 t (ix2 k d) = (m ((c : Thread nD τ).loc main_arg5) : FVec Ideal S1024x4096 .f32) (ix2 k d) := by
  have h : (V m c main_v2 : FVec Ideal S1024x4096 .bf16) (ix2 k d) = (m ((c : Thread nD τ).loc main_arg5) : FVec Ideal S1024x4096 .f32) (ix2 k d) := by
    rw [entry5 m c]
    pointwise
  rw [← h]
  blk_simp [iblk]
  refine congrArg (V m c main_v2) ?_
  blk_ext [idx t]

/-- The second weights a point stages. -/
theorem blk6 (c : Dev nD) (t : Fin cfg0.N) (k : Fin 4096) (d : Fin 1024) :
    iblk m c 6 t (ix2 k d) = (m ((c : Thread nD τ).loc main_arg6) : FVec Ideal S4096x1024 .f32) (ix2 k d) := by
  have h : (V m c main_v3 : FVec Ideal S4096x1024 .bf16) (ix2 k d) = (m ((c : Thread nD τ).loc main_arg6) : FVec Ideal S4096x1024 .f32) (ix2 k d) := by
    rw [entry6 m c]
    pointwise
  rw [← h]
  blk_simp [iblk]
  refine congrArg (V m c main_v3) ?_
  blk_ext [idx t]

open Cert.Reference2Ideal.Read in
/-- The reference's rows after the attention's residual step at an index. -/
theorem ref_mid (x a : FVec Ideal S16384x1024 .f32) (w : FVec Ideal S1024x1024 .f32) (md : FVec Ideal S6144 .f32) (g : FVec Ideal S4x1024 .f32) (r : Fin 16384) (d : Fin 1024) :
    val_main_v25 (F := Ideal) x a w md g (ix2 r d)
      = attnout (fun k => x (ix2 r k)) (fun k => a (ix2 r k)) (fun k e => w (ix2 k e)) (fun k => g (ix2 1 k)) (rows md 2) d := by
  pointwise [val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8]
  unfold attnout rms lin rows
  simp

open Cert.Reference2Ideal.Read in
/-- The reference's result at an index. -/
theorem ref_at (x a : FVec Ideal S16384x1024 .f32) (w : FVec Ideal S1024x1024 .f32) (md : FVec Ideal S6144 .f32) (g : FVec Ideal S4x1024 .f32) (w1 : FVec Ideal S1024x4096 .f32) (w2 : FVec Ideal S4096x1024 .f32) (r : Fin 16384) (d : Fin 1024) :
    val_main_v68 (F := Ideal) x a w md g w1 w2 (ix2 r d)
      = tail (attnout (fun k => x (ix2 r k)) (fun k => a (ix2 r k)) (fun k e => w (ix2 k e)) (fun k => g (ix2 1 k)) (rows md 2))
          (rows md 3) (rows md 4) (fun k => g (ix2 2 k)) (fun k => g (ix2 3 k)) (rows md 5)
          (fun k e => w1 (ix2 k e)) (fun k e => w2 (ix2 k e)) d := by
  pointwise [val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v6, val_main_v5, val_main_v4, val_main_v3, val_main_v2, val_main_v1, val_main_v0, ref_mid, val_main_cst, val_main_cst_0, val_main_cst_1, val_main_cst_2, val_main_cst_3, val_main_cst_4, val_main_cst_5, val_main_call0_cst, val_main_call0_v0, val_main_cst_6, val_main_cst_7, val_main_cst_8]
  unfold tail modu rms mlp act rows
  simp

/-- What a point stores is the reference's block. -/
theorem point (c : Dev nD) (t : Fin cfg0.N) (r : Fin 512) (d : Fin 1024) (w : Fin 32) (hw : w.val = t.val) :
    out0_7 (F := Ideal) (iblk m c 0 t) (iblk m c 1 t) (iblk m c 2 t) (iblk m c 3 t) (iblk m c 4 t) (iblk m c 5 t) (iblk m c 6 t) (ix2 r d)
      = Cert.Reference2Ideal.Read.val_main_v68 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 ⟨512 * w.val + r.val, by omega⟩ d) := by
  refine (out_at _ _ _ _ _ _ _ r d).trans (Eq.trans ?_ (ref_at _ _ _ _ _ _ _ _ d).symm)
  have e0 : (fun k => iblk m c 0 t (ix2 r k)) = fun k => (m ((c : Thread nD τ).loc main_arg0) : FVec Ideal S16384x1024 .f32) (ix2 ⟨512 * w.val + r.val, by omega⟩ k) := funext fun k => blk0 m c t r k w hw
  have e1 : (fun k => iblk m c 1 t (ix2 r k)) = fun k => (m ((c : Thread nD τ).loc main_arg1) : FVec Ideal S16384x1024 .f32) (ix2 ⟨512 * w.val + r.val, by omega⟩ k) := funext fun k => blk1 m c t r k w hw
  have e2 : (fun k e => iblk m c 2 t (ix2 k e)) = fun k e => (m ((c : Thread nD τ).loc main_arg2) : FVec Ideal S1024x1024 .f32) (ix2 k e) := funext fun k => funext fun e => blk2 m c t k e
  have e3 : (fun k => iblk m c 4 t (ix2 1 k)) = fun k => (m ((c : Thread nD τ).loc main_arg4) : FVec Ideal S4x1024 .f32) (ix2 1 k) := funext fun k => blk4 m c t 1 k
  have e4 : (fun k => iblk m c 3 t (ix2 2 k)) = rows (m ((c : Thread nD τ).loc main_arg3)) 2 := funext fun k => (blk3 m c t 2 k).trans (pads_2 _ k)
  have e5 : (fun k => iblk m c 3 t (ix2 3 k)) = rows (m ((c : Thread nD τ).loc main_arg3)) 3 := funext fun k => (blk3 m c t 3 k).trans (pads_3 _ k)
  have e6 : (fun k => iblk m c 3 t (ix2 4 k)) = rows (m ((c : Thread nD τ).loc main_arg3)) 4 := funext fun k => (blk3 m c t 4 k).trans (pads_4 _ k)
  have e7 : (fun k => iblk m c 4 t (ix2 2 k)) = fun k => (m ((c : Thread nD τ).loc main_arg4) : FVec Ideal S4x1024 .f32) (ix2 2 k) := funext fun k => blk4 m c t 2 k
  have e8 : (fun k => iblk m c 4 t (ix2 3 k)) = fun k => (m ((c : Thread nD τ).loc main_arg4) : FVec Ideal S4x1024 .f32) (ix2 3 k) := funext fun k => blk4 m c t 3 k
  have e9 : (fun k => iblk m c 3 t (ix2 5 k)) = rows (m ((c : Thread nD τ).loc main_arg3)) 5 := funext fun k => (blk3 m c t 5 k).trans (pads_5 _ k)
  have e10 : (fun k e => iblk m c 5 t (ix2 k e)) = fun k e => (m ((c : Thread nD τ).loc main_arg5) : FVec Ideal S1024x4096 .f32) (ix2 k e) := funext fun k => funext fun e => blk5 m c t k e
  have e11 : (fun k e => iblk m c 6 t (ix2 k e)) = fun k e => (m ((c : Thread nD τ).loc main_arg6) : FVec Ideal S4096x1024 .f32) (ix2 k e) := funext fun k => funext fun e => blk6 m c t k e
  rw [e0, e1, e2, e3, e4, e5, e6, e7, e8, e9, e10, e11]

/-- The output array after the last point is the reference's result. -/
theorem final (c : Dev nD) :
    (dats m 0 c).arrAt 7 cfg0.N = Cert.Reference2Ideal.Read.val_main_v68 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (dats m 0 c).arrAt_eq_of_covers 7 _ (by decide +kernel) fun t _ y => by
    have ht := (idx t).2.2.2.2.2.2.2.2
    have hy0 : (y 0).val < 512 := (y 0).isLt
    have hy1 : (y 1).val < 1024 := (y 1).isLt
    rw [after0_7]
    have hy : y = ix2 (⟨(y 0).val, hy0⟩ : Fin 512) (⟨(y 1).val, hy1⟩ : Fin 1024) := by
      funext i; apply Fin.ext; fin_cases i <;> rfl
    have key := point m c t ⟨(y 0).val, hy0⟩ ⟨(y 1).val, hy1⟩ ⟨t.val, ht⟩ rfl
    rw [← hy] at key
    generalize out0_7 (F := Ideal) (iblk m c 0 t) (iblk m c 1 t) (iblk m c 2 t) (iblk m c 3 t) (iblk m c 4 t) (iblk m c 5 t) (iblk m c 6 t) = f at key ⊢
    generalize Cert.Reference2Ideal.Read.val_main_v68 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) = G at key ⊢
    refine key.trans ?_
    blk_simp
    refine congrArg _ ?_
    blk_ext [idx t]

end Cert.Kernel2Ideal.AttnOut

end
-- ==== Proof.Layer0.lean ====
/- The MLP of the latent rows: what the kernel leaves is the reference's result. -/
module

public import proofs.«01_k».proof.Proof.Mlp
public import proofs.«01_k».proof.Proof.Gen.Kernel3Ideal.Value
public import proofs.«01_k».proof.Proof.Gen.Reference3Ideal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel3Ideal.Mlp

open Cert.Kernel3Ideal Cert.Kernel3Ideal.Gen Cert.Mlp

/-- The modulated rows at an index. -/
theorem pay2_at (x : FVec Ideal S512x1024 .f32) (g sc sh : FVec Ideal S1x1024 .f32) (r : Fin 512) (d : Fin 1024) :
    k0_pay2 (F := Ideal) x g sc sh (ix2 r d)
      = modu (rms (fun k => x (ix2 r k)) fun k => g (ix2 0 k)) (fun k => sh (ix2 0 k)) (fun k => sc (ix2 0 k)) d := by
  pointwise [k0_pay2]
  rfl

/-- The first quarter of the hidden units at an index. -/
theorem pay4_at (x : FVec Ideal S512x1024 .f32) (g sc sh : FVec Ideal S1x1024 .f32) (a b : FVec Ideal S1024x1024 .bf16) (r : Fin 512) (d : Fin 1024) :
    k0_pay4 (F := Ideal) x g sc sh a b (ix2 r d)
      = part (fun k => k0_pay2 (F := Ideal) x g sc sh (ix2 r k)) (fun k e => a (ix2 k e)) (fun k e => b (ix2 k e)) d := by
  unfold k0_pay4
  generalize k0_pay2 (F := Ideal) x g sc sh = h
  pointwise
  rfl

/-- The four quarters added at an index. -/
theorem pay5_at (h : FVec Ideal S512x1024 .bf16) (z p : FVec Ideal S512x1024 .f32) (a1 b1 a2 b2 a3 b3 : FVec Ideal S1024x1024 .bf16) (r : Fin 512) (d : Fin 1024) :
    k0_pay5 (F := Ideal) h z p a1 b1 a2 b2 a3 b3 (ix2 r d)
      = z (ix2 r d) + p (ix2 r d) + part (fun k => h (ix2 r k)) (fun k e => a1 (ix2 k e)) (fun k e => b1 (ix2 k e)) d
        + part (fun k => h (ix2 r k)) (fun k e => a2 (ix2 k e)) (fun k e => b2 (ix2 k e)) d
        + part (fun k => h (ix2 r k)) (fun k e => a3 (ix2 k e)) (fun k e => b3 (ix2 k e)) d := by
  pointwise [k0_pay5]
  rfl

/-- The stored block at an index, from the four quarters' sum. -/
theorem pay1_at (x y : FVec Ideal S512x1024 .f32) (g gf : FVec Ideal S1x1024 .f32) (r : Fin 512) (d : Fin 1024) :
    k0_pay1 (F := Ideal) x g y (k0_pay6 gf) (mulf y y) (ix2 r d)
      = x (ix2 r d) + gf (ix2 0 d) * rms (fun k => y (ix2 r k)) (fun k => g (ix2 0 k)) d := by
  pointwise [k0_pay1, k0_pay6]
  rfl

/-- The stored block at an index, from the staged blocks. -/
theorem out_at (x0 : FVec Ideal S512x1024 .f32) (x1 : FVec Ideal S8x1024 .f32) (x2 : FVec Ideal S4x1024 .f32) (x3 : FVec Ideal S1024x4096 .bf16) (x4 : FVec Ideal S4096x1024 .bf16) (r : Fin 512) (d : Fin 1024) :
    out0_5 (F := Ideal) x0 x1 x2 x3 x4 (ix2 r d)
      = tail (fun k => x0 (ix2 r k)) (fun k => x1 (ix2 3 k)) (fun k => x1 (ix2 4 k)) (fun k => x2 (ix2 2 k)) (fun k => x2 (ix2 3 k)) (fun k => x1 (ix2 5 k))
          (fun k e => x3 (ix2 k e)) (fun k e => x4 (ix2 k e)) d := by
  unfold_out out0_5
  rw [View.canon_unit_zero (S := S512x1024) (by decide)]
  unfold k0_pay7
  rw [pay1_at]
  unfold tail
  rw [show mlp (modu _ _ _) _ _ = _ from funext fun e => mlp_parts _ _ _ e]
  simp only [pay5_at, pay4_at, pay2_at]
  pointwise [k0_pay3]

/-- Every window's block at every grid point. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] ∧ t.val < 32 :=
  (by decide +kernel : ∀ t : Fin grid0.N, _)

/-- One of the six parts of the modulation. -/
def rows (x : FVec Ideal S6144 .f32) (j : Fin 6) (d : Fin 1024) : EReal := x (ix1 ⟨1024 * j.val + d.val, by omega⟩)

/-- The modulation's six rows over two rows of zeros, as the host prepares them. -/
def pads (x : FVec Ideal S6144 .f32) : FVec Ideal S8x1024 .f32 :=
  pad S8x1024 ![0, 0] ![2, 0] ![0, 0] (shapeCast S6x1024 x shapeCasts_S6144_S6x1024) (sitofp .f32 (constantI S_ 32 0#32)) pads_S6x1024_S8x1024_020_000 h_S_

/-- The prepared rows: the fourth. -/
theorem pads_3 (x : FVec Ideal S6144 .f32) (d : Fin 1024) : pads x (ix2 3 d) = rows x 3 d := by
  pointwise [pads, rows]
  blk_ext

/-- The prepared rows: the fifth. -/
theorem pads_4 (x : FVec Ideal S6144 .f32) (d : Fin 1024) : pads x (ix2 4 d) = rows x 4 d := by
  pointwise [pads, rows]
  blk_ext

/-- The prepared rows: the sixth. -/
theorem pads_5 (x : FVec Ideal S6144 .f32) (d : Fin 1024) : pads x (ix2 5 d) = rows x 5 d := by
  pointwise [pads, rows]
  blk_ext

variable (m : (ℓ : Loc nD τ sig) → Buf (Elt Ideal) ℓ)

set_option maxHeartbeats 2000000 in
/-- What window 1 stages: the prepared rows. -/
theorem entry1 (c : Dev nD) : V m c main_v1 = pads (m ((c : Thread nD τ).loc main_arg1)) := by
  unfold V
  simp only [hostOps0, hostOps0_1, hostOps0_2, List.flatten_cons, List.flatten_nil, List.append_nil, List.cons_append, List.nil_append]
  after_results
  rfl

set_option maxHeartbeats 2000000 in
/-- What window 3 stages: the first weights. -/
theorem entry3 (c : Dev nD) : V m c main_v2 = truncf (F := Ideal) .bf16 (m ((c : Thread nD τ).loc main_arg3)) bitsLt_bf16_f32 := by
  unfold V
  simp only [hostOps0, hostOps0_1, hostOps0_2, List.flatten_cons, List.flatten_nil, List.append_nil, List.cons_append, List.nil_append]
  after_results

set_option maxHeartbeats 2000000 in
/-- What window 4 stages: the second weights. -/
theorem entry4 (c : Dev nD) : V m c main_v3 = truncf (F := Ideal) .bf16 (m ((c : Thread nD τ).loc main_arg4)) bitsLt_bf16_f32 := by
  unfold V
  simp only [hostOps0, hostOps0_1, hostOps0_2, List.flatten_cons, List.flatten_nil, List.append_nil, List.cons_append, List.nil_append]
  after_results

/-- The block of rows a point stages. -/
theorem blk0 (c : Dev nD) (t : Fin cfg0.N) (r : Fin 512) (d : Fin 1024) (w : Fin 32) (hw : w.val = t.val) :
    iblk m c 0 t (ix2 r d) = (m ((c : Thread nD τ).loc main_arg0) : FVec Ideal S16384x1024 .f32) (ix2 ⟨512 * w.val + r.val, by omega⟩ d) := by
  have h : ∀ i : S16384x1024.Idx, (V m c main_arg0 : FVec Ideal S16384x1024 .f32) i = (m ((c : Thread nD τ).loc main_arg0) : FVec Ideal S16384x1024 .f32) i := fun i => by
    rw [V_main_arg0 m c]
  rw [← h]
  blk_simp [iblk]
  refine congrArg (V m c main_arg0) ?_
  blk_ext [idx t, hw]

/-- The modulation's rows a point stages. -/
theorem blk1 (c : Dev nD) (t : Fin cfg0.N) (k : Fin 8) (d : Fin 1024) :
    iblk m c 1 t (ix2 k d) = pads (m ((c : Thread nD τ).loc main_arg1)) (ix2 k d) := by
  have h : (V m c main_v1 : FVec Ideal S8x1024 .f32) (ix2 k d) = pads (m ((c : Thread nD τ).loc main_arg1)) (ix2 k d) := by
    rw [entry1 m c]
  rw [← h]
  blk_simp [iblk]
  refine congrArg (V m c main_v1) ?_
  blk_ext [idx t]

/-- The gains a point stages. -/
theorem blk2 (c : Dev nD) (t : Fin cfg0.N) (k : Fin 4) (d : Fin 1024) :
    iblk m c 2 t (ix2 k d) = (m ((c : Thread nD τ).loc main_arg2) : FVec Ideal S4x1024 .f32) (ix2 k d) := by
  have h : (V m c main_arg2 : FVec Ideal S4x1024 .f32) (ix2 k d) = (m ((c : Thread nD τ).loc main_arg2) : FVec Ideal S4x1024 .f32) (ix2 k d) := by
    rw [V_main_arg2 m c]
  rw [← h]
  blk_simp [iblk]
  refine congrArg (V m c main_arg2) ?_
  blk_ext [idx t]

/-- The first weights a point stages. -/
theorem blk3 (c : Dev nD) (t : Fin cfg0.N) (k : Fin 1024) (d : Fin 4096) :
    iblk m c 3 t (ix2 k d) = (m ((c : Thread nD τ).loc main_arg3) : FVec Ideal S1024x4096 .f32) (ix2 k d) := by
  have h : (V m c main_v2 : FVec Ideal S1024x4096 .bf16) (ix2 k d) = (m ((c : Thread nD τ).loc main_arg3) : FVec Ideal S1024x4096 .f32) (ix2 k d) := by
    rw [entry3 m c]
    pointwise
  rw [← h]
  blk_simp [iblk]
  refine congrArg (V m c main_v2) ?_
  blk_ext [idx t]

/-- The second weights a point stages. -/
theorem blk4 (c : Dev nD) (t : Fin cfg0.N) (k : Fin 4096) (d : Fin 1024) :
    iblk m c 4 t (ix2 k d) = (m ((c : Thread nD τ).loc main_arg4) : FVec Ideal S4096x1024 .f32) (ix2 k d) := by
  have h : (V m c main_v3 : FVec Ideal S4096x1024 .bf16) (ix2 k d) = (m ((c : Thread nD τ).loc main_arg4) : FVec Ideal S4096x1024 .f32) (ix2 k d) := by
    rw [entry4 m c]
    pointwise
  rw [← h]
  blk_simp [iblk]
  refine congrArg (V m c main_v3) ?_
  blk_ext [idx t]

open Cert.Reference3Ideal.Read in
/-- The reference's result at an index. -/
theorem ref_at (x : FVec Ideal S16384x1024 .f32) (md : FVec Ideal S6144 .f32) (g : FVec Ideal S4x1024 .f32) (w1 : FVec Ideal S1024x4096 .f32) (w2 : FVec Ideal S4096x1024 .f32) (r : Fin 16384) (d : Fin 1024) :
    val_main_v49 (F := Ideal) x md g w1 w2 (ix2 r d)
      = tail (fun k => x (ix2 r k)) (rows md 3) (rows md 4) (fun k => g (ix2 2 k)) (fun k => g (ix2 3 k)) (rows md 5)
          (fun k e => w1 (ix2 k e)) (fun k e => w2 (ix2 k e)) d := by
  pointwise [val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_call0_cst, val_main_call0_v0, val_main_cst_3, val_main_cst_4, val_main_cst_5]
  unfold tail modu rms mlp act rows
  simp

/-- What a point stores is the reference's block. -/
theorem point (c : Dev nD) (t : Fin cfg0.N) (r : Fin 512) (d : Fin 1024) (w : Fin 32) (hw : w.val = t.val) :
    out0_5 (F := Ideal) (iblk m c 0 t) (iblk m c 1 t) (iblk m c 2 t) (iblk m c 3 t) (iblk m c 4 t) (ix2 r d)
      = Cert.Reference3Ideal.Read.val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 ⟨512 * w.val + r.val, by omega⟩ d) := by
  refine (out_at _ _ _ _ _ r d).trans (Eq.trans ?_ (ref_at _ _ _ _ _ _ d).symm)
  have e0 : (fun k => iblk m c 0 t (ix2 r k)) = fun k => (m ((c : Thread nD τ).loc main_arg0) : FVec Ideal S16384x1024 .f32) (ix2 ⟨512 * w.val + r.val, by omega⟩ k) := funext fun k => blk0 m c t r k w hw
  have e1 : (fun k => iblk m c 1 t (ix2 3 k)) = rows (m ((c : Thread nD τ).loc main_arg1)) 3 := funext fun k => (blk1 m c t 3 k).trans (pads_3 _ k)
  have e2 : (fun k => iblk m c 1 t (ix2 4 k)) = rows (m ((c : Thread nD τ).loc main_arg1)) 4 := funext fun k => (blk1 m c t 4 k).trans (pads_4 _ k)
  have e3 : (fun k => iblk m c 2 t (ix2 2 k)) = fun k => (m ((c : Thread nD τ).loc main_arg2) : FVec Ideal S4x1024 .f32) (ix2 2 k) := funext fun k => blk2 m c t 2 k
  have e4 : (fun k => iblk m c 2 t (ix2 3 k)) = fun k => (m ((c : Thread nD τ).loc main_arg2) : FVec Ideal S4x1024 .f32) (ix2 3 k) := funext fun k => blk2 m c t 3 k
  have e5 : (fun k => iblk m c 1 t (ix2 5 k)) = rows (m ((c : Thread nD τ).loc main_arg1)) 5 := funext fun k => (blk1 m c t 5 k).trans (pads_5 _ k)
  have e6 : (fun k e => iblk m c 3 t (ix2 k e)) = fun k e => (m ((c : Thread nD τ).loc main_arg3) : FVec Ideal S1024x4096 .f32) (ix2 k e) := funext fun k => funext fun e => blk3 m c t k e
  have e7 : (fun k e => iblk m c 4 t (ix2 k e)) = fun k e => (m ((c : Thread nD τ).loc main_arg4) : FVec Ideal S4096x1024 .f32) (ix2 k e) := funext fun k => funext fun e => blk4 m c t k e
  rw [e0, e1, e2, e3, e4, e5, e6, e7]

/-- The output array after the last point is the reference's result. -/
theorem final (c : Dev nD) :
    (dats m 0 c).arrAt 5 cfg0.N = Cert.Reference3Ideal.Read.val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  (dats m 0 c).arrAt_eq_of_covers 5 _ (by decide +kernel) fun t _ y => by
    have ht := (idx t).2.2.2.2.2.2
    have hy0 : (y 0).val < 512 := (y 0).isLt
    have hy1 : (y 1).val < 1024 := (y 1).isLt
    rw [after0_5]
    have hy : y = ix2 (⟨(y 0).val, hy0⟩ : Fin 512) (⟨(y 1).val, hy1⟩ : Fin 1024) := by
      funext i; apply Fin.ext; fin_cases i <;> rfl
    have key := point m c t ⟨(y 0).val, hy0⟩ ⟨(y 1).val, hy1⟩ ⟨t.val, ht⟩ rfl
    rw [← hy] at key
    generalize out0_5 (F := Ideal) (iblk m c 0 t) (iblk m c 1 t) (iblk m c 2 t) (iblk m c 3 t) (iblk m c 4 t) = f at key ⊢
    generalize Cert.Reference3Ideal.Read.val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) = G at key ⊢
    refine key.trans ?_
    blk_simp
    refine congrArg _ ?_
    blk_ext [idx t]

end Cert.Kernel3Ideal.Mlp

end
-- ==== Proof.Inproj.lean ====
/- The input projection of the latent rows: what the kernel leaves is the reference's result. -/
module

public import proofs.«01_k».proof.Proof.Mlp
public import proofs.«01_k».proof.Proof.Gen.Kernel4Ideal.Value
public import proofs.«01_k».proof.Proof.Gen.Reference4Ideal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel4Ideal.Inproj

open Cert.Kernel4Ideal Cert.Kernel4Ideal.Gen Cert.Mlp

/-- The stored block at an index: the modulated row's product with the weights. -/
theorem pay1_at (x : FVec Ideal S512x1024 .f32) (g sc sh : FVec Ideal S1x1024 .f32) (w : FVec Ideal S1024x1024 .bf16) (r : Fin 512) (d : Fin 1024) :
    k0_pay1 (F := Ideal) x g sc sh w (ix2 r d)
      = lin (modu (rms (fun k => x (ix2 r k)) fun k => g (ix2 0 k)) (fun k => sh (ix2 0 k)) fun k => sc (ix2 0 k)) (fun k e => w (ix2 k e)) d := by
  pointwise [k0_pay1]
  rfl

/-- Every window's block at every grid point. -/
theorem idx : ∀ t : Fin cfg0.N, win0_0.index t = ![t.val, 0] ∧ win0_1.index t = ![0, 0] ∧ win0_2.index t = ![0, 0]
    ∧ win0_3.index t = ![0, 0] ∧ win0_4.index t = ![t.val, 0] ∧ t.val < 32 :=
  (by decide +kernel : ∀ t : Fin grid0.N, _)

/-- The modulation's six rows over two rows of zeros, as the host prepares them. -/
def rows (x : FVec Ideal S6144 .f32) (j : Fin 6) (d : Fin 1024) : EReal := x (ix1 ⟨1024 * j.val + d.val, by omega⟩)

variable (m : (ℓ : Loc nD τ sig) → Buf (Elt Ideal) ℓ)

/-- The modulation's six rows over two rows of zeros, as the host prepares them. -/
def pads (x : FVec Ideal S6144 .f32) : FVec Ideal S8x1024 .f32 :=
  pad S8x1024 ![0, 0] ![2, 0] ![0, 0] (shapeCast S6x1024 x shapeCasts_S6144_S6x1024) (sitofp .f32 (constantI S_ 32 0#32)) pads_S6x1024_S8x1024_020_000 h_S_

/-- The prepared rows: the first. -/
theorem pads_0 (x : FVec Ideal S6144 .f32) (d : Fin 1024) : pads x (ix2 0 d) = rows x 0 d := by
  pointwise [pads, rows]
  blk_ext

/-- The prepared rows: the second. -/
theorem pads_1 (x : FVec Ideal S6144 .f32) (d : Fin 1024) : pads x (ix2 1 d) = rows x 1 d := by
  pointwise [pads, rows]
  blk_ext

set_option maxHeartbeats 2000000 in
/-- What window 1 stages: the prepared rows. -/
theorem entry1 (c : Dev nD) : V m c main_v1 = pads (m ((c : Thread nD τ).loc main_arg1)) := by
  unfold V
  simp only [hostOps0, hostOps0_1, hostOps0_2, List.flatten_cons, List.flatten_nil, List.append_nil, List.cons_append, List.nil_append]
  after_results
  rfl

set_option maxHeartbeats 2000000 in
/-- What window 2 stages: the first of the four gains. -/
theorem entry2 (c : Dev nD) : V m c main_v2 = extractStridedSlice S1x1024 ![0, 0] (m ((c : Thread nD τ).loc main_arg2)) slices_S4x1024_S1x1024_0_0 := by
  unfold V
  simp only [hostOps0, hostOps0_1, hostOps0_2, List.flatten_cons, List.flatten_nil, List.append_nil, List.cons_append, List.nil_append]
  after_results

set_option maxHeartbeats 2000000 in
/-- What window 3 stages: the weights. -/
theorem entry3 (c : Dev nD) : V m c main_v3 = truncf (F := Ideal) .bf16 (m ((c : Thread nD τ).loc main_arg3)) bitsLt_bf16_f32 := by
  unfold V
  simp only [hostOps0, hostOps0_1, hostOps0_2, List.flatten_cons, List.flatten_nil, List.append_nil, List.cons_append, List.nil_append]
  after_results

/-- The stored block at an index, from the staged blocks. -/
theorem out_at (x0 : FVec Ideal S512x1024 .f32) (x1 : FVec Ideal S8x1024 .f32) (x2 : FVec Ideal S1x1024 .f32) (x3 : FVec Ideal S1024x1024 .bf16) (r : Fin 512) (d : Fin 1024) :
    out0_4 (F := Ideal) x0 x1 x2 x3 (ix2 r d)
      = lin (modu (rms (fun k => x0 (ix2 r k)) fun k => x2 (ix2 0 k)) (fun k => x1 (ix2 0 k)) fun k => x1 (ix2 1 k)) (fun k e => x3 (ix2 k e)) d := by
  unfold out0_4
  rw [View.canon_unit_zero (S := S512x1024) (by decide)]
  rw [pay1_at]
  pointwise

/-- The block of rows a point stages. -/
theorem blk0 (c : Dev nD) (t : Fin cfg0.N) (r : Fin 512) (d : Fin 1024) (w : Fin 32) (hw : w.val = t.val) :
    iblk m c 0 t (ix2 r d) = (m ((c : Thread nD τ).loc main_arg0) : FVec Ideal S16384x1024 .f32) (ix2 ⟨512 * w.val + r.val, by omega⟩ d) := by
  rw [← V_main_arg0 m c]
  blk_simp [iblk]
  refine congrArg (V m c main_arg0) ?_
  blk_ext [idx t, hw]

/-- The block of the modulation's rows a point stages. -/
theorem blk1 (c : Dev nD) (t : Fin cfg0.N) (r : Fin 8) (d : Fin 1024) :
    iblk m c 1 t (ix2 r d) = pads (m ((c : Thread nD τ).loc main_arg1)) (ix2 r d) := by
  rw [← entry1 m c]
  blk_simp [iblk]
  refine congrArg (V m c main_v1) ?_
  blk_ext [idx t]

/-- The block of gains a point stages. -/
theorem blk2 (c : Dev nD) (t : Fin cfg0.N) (d : Fin 1024) :
    iblk m c 2 t (ix2 0 d) = (m ((c : Thread nD τ).loc main_arg2) : FVec Ideal S4x1024 .f32) (ix2 0 d) := by
  have h : (V m c main_v2 : FVec Ideal S1x1024 .f32) (ix2 0 d) = (m ((c : Thread nD τ).loc main_arg2) : FVec Ideal S4x1024 .f32) (ix2 0 d) := by
    rw [entry2 m c]
    pointwise
  rw [← h]
  blk_simp [iblk]
  refine congrArg (V m c main_v2) ?_
  blk_ext [idx t]

/-- The block of weights a point stages. -/
theorem blk3 (c : Dev nD) (t : Fin cfg0.N) (k d : Fin 1024) :
    iblk m c 3 t (ix2 k d) = (m ((c : Thread nD τ).loc main_arg3) : FVec Ideal S1024x1024 .f32) (ix2 k d) := by
  have h : (V m c main_v3 : FVec Ideal S1024x1024 .bf16) (ix2 k d) = (m ((c : Thread nD τ).loc main_arg3) : FVec Ideal S1024x1024 .f32) (ix2 k d) := by
    rw [entry3 m c]
    pointwise
  rw [← h]
  blk_simp [iblk]
  refine congrArg (V m c main_v3) ?_
  blk_ext [idx t]

open Cert.Reference4Ideal.Read in
/-- The reference's result at an index. -/
theorem ref_at (x : FVec Ideal S16384x1024 .f32) (md : FVec Ideal S6144 .f32) (g : FVec Ideal S4x1024 .f32) (w : FVec Ideal S1024x1024 .f32) (r : Fin 16384) (d : Fin 1024) :
    val_main_v28 (F := Ideal) x md g w (ix2 r d)
      = lin (modu (rms (fun k => x (ix2 r k)) fun k => g (ix2 0 k)) (rows md 0) (rows md 1)) (fun k e => w (ix2 k e)) d := by
  pointwise [val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2]
  unfold lin modu rms rows
  simp

/-- What a point stores is the reference's block. -/
theorem point (c : Dev nD) (t : Fin cfg0.N) (r : Fin 512) (d : Fin 1024) (w : Fin 32) (hw : w.val = t.val) :
    out0_4 (F := Ideal) (iblk m c 0 t) (iblk m c 1 t) (iblk m c 2 t) (iblk m c 3 t) (ix2 r d)
      = Cert.Reference4Ideal.Read.val_main_v28 (F := Ideal) (m ((c : Thread nD τ).loc main_arg0)) (m ((c : Thread nD τ).loc main_arg1))
      (m ((c : Thread nD τ).loc main_arg2)) (m ((c : Thread nD τ).loc main_arg3)) (ix2 ⟨512 * w.val + r.val, by omega⟩ d) := by
  refine (out_at _ _ _ _ r d).trans (Eq.trans ?_ (ref_at _ _ _ _ _ d).symm)
  have e0 : (fun k => iblk m c 0 t (ix2 r k)) = fun k => (m ((c : Thread nD τ).loc main_arg0) : FVec Ideal S16384x1024 .f32) (ix2 ⟨512 * w.val + r.val, by omega⟩ k) := funext fun k => blk0 m c t r k w hw
  have e1 : (fun k => iblk m c 1 t (ix2 0 k)) = rows (m ((c : Thread nD τ).loc main_arg1)) 0 := funext fun k => (blk1 m c t 0 k).trans (pads_0 _ k)
  have e2 : (fun k => iblk m c 1 t (ix2 1 k)) = rows (m ((c : Thread nD τ).loc main_arg1)) 1 := funext fun k => (blk1 m c t 1 k).trans (pads_1 _ k)
  have e3 : (fun k => iblk m c 2 t (ix2 0 k)) = fun k => (m ((c : Thread nD τ).loc main_arg2) : FVec Ideal S4x1024 .f32) (ix2 0 k) := funext fun k => blk2 m c t k
  have e4 : (fun k e => iblk m c 3 t (ix2 k e)) = fun k e => (m ((c : Thread nD τ).loc main_arg3) : FVec Ideal S1024x1024 .f32) (ix2 k e) := funext fun k => funext fun e => blk3 m c t k e
  rw [e0, e1, e2, e3, e4]

/-- The output array after the last point is the reference's result. -/
theorem final (c : Dev nD) :
    (dats m 0 c).arrAt 4 cfg0.N = Cert.Reference4Ideal.Read.val_main_v28 (F := Ideal) (m ((c : Thread nD τ).loc main_arg0)) (m ((c : Thread nD τ).loc main_arg1))
      (m ((c : Thread nD τ).loc main_arg2)) (m ((c : Thread nD τ).loc main_arg3)) :=
  (dats m 0 c).arrAt_eq_of_covers 4 _ (by decide +kernel) fun t _ y => by
    have ht := (idx t).2.2.2.2.2
    have hy0 : (y 0).val < 512 := (y 0).isLt
    have hy1 : (y 1).val < 1024 := (y 1).isLt
    rw [after0_4]
    have hy : y = ix2 (⟨(y 0).val, hy0⟩ : Fin 512) (⟨(y 1).val, hy1⟩ : Fin 1024) := by
      funext i; apply Fin.ext; fin_cases i <;> rfl
    have key := point m c t ⟨(y 0).val, hy0⟩ ⟨(y 1).val, hy1⟩ ⟨t.val, ht⟩ rfl
    rw [← hy] at key
    generalize out0_4 (F := Ideal) (iblk m c 0 t) (iblk m c 1 t) (iblk m c 2 t) (iblk m c 3 t) = f at key ⊢
    generalize Cert.Reference4Ideal.Read.val_main_v28 (F := Ideal) (m ((c : Thread nD τ).loc main_arg0)) (m ((c : Thread nD τ).loc main_arg1)) (m ((c : Thread nD τ).loc main_arg2)) (m ((c : Thread nD τ).loc main_arg3)) = G at key ⊢
    refine key.trans ?_
    blk_simp
    refine congrArg _ ?_
    blk_ext [idx t]

end Cert.Kernel4Ideal.Inproj

end
-- ==== Proof.Finite5.lean ====
/- What the precondition of the projection to queries, keys and values says: the entries it names are reals. -/
module

public import proofs.«01_k».proof.Proof.Finite
public import proofs.«01_k».proof.Proof.Gen.Pre_finite5

@[expose] public section

set_option maxRecDepth 65536

noncomputable section

open Idealize.ShloMosaic

namespace Cert.Kernel5Ideal.Qkv

open Cert.Pre_finite5 Cert.Pre_finite5.Gen

/-- Under the precondition the first two rows of the modulation, the first norm's gain and the weights of the queries' and keys' columns are reals. -/
theorem finite5_real (x : FVec Ideal S16384x1024 .f32) (md : FVec Ideal S6144 .f32) (g : FVec Ideal S4x1024 .f32) (w : FVec Ideal S1024x1536 .f32) (qn kn : FVec Ideal S64 .f32)
    (h : Cert.Pre_finite5.fn (F := Ideal) x md g w qn kn = fun _ => 1#1) :
    (∀ i : Fin 2048, ∃ r : ℝ, md (ix1 ⟨i.val, by omega⟩) = (r : EReal)) ∧ (∀ d : Fin 1024, ∃ r : ℝ, g (ix2 0 d) = (r : EReal))
      ∧ (∀ (k : Fin 1024) (e : Fin 1280), ∃ r : ℝ, w (ix2 k ⟨e.val, by omega⟩) = (r : EReal)) := by
  have h0 := congrFun h ix0
  unfold Cert.Pre_finite5.fn at h0
  obtain ⟨h1, h3⟩ := IntOp.andi_eq_one.1 h0
  obtain ⟨h1, h2⟩ := IntOp.andi_eq_one.1 h1
  haveI : Subsingleton S_.Idx := ⟨fun a b => funext fun i => i.elim0⟩
  refine ⟨fun i => ?_, fun d => ?_, fun k e => ?_⟩
  · have hr := Cert.Attn.real_of_lt _ (Host.reduce_andi_all _ _ _ _ _ h1 (ix1 i))
    pointwise at hr
    exact hr
  · have hr := Cert.Attn.real_of_lt _ (Host.reduce_andi_all _ _ _ _ _ h2 (ix1 d))
    pointwise at hr
    exact hr
  · have hr := Cert.Attn.real_of_lt _ (Host.reduce_andi_all _ _ _ _ _ h3 (ix2 k e))
    pointwise at hr
    exact hr

end Cert.Kernel5Ideal.Qkv

end
-- ==== Proof.QkvRot.lean ====
/- The rotation of the queries' and the keys' heads, as the kernel computes it tile by tile. -/
module

public import proofs.«01_k».proof.Proof.Gen.Kernel5Ideal.Skeleton
public import Idealize.ShloMosaic.Lib.Pipeline.ValueKit
public import Idealize.ShloMosaic.Lib.Pointwise

@[expose] public section

set_option maxRecDepth 65536

noncomputable section

open Idealize.ShloMosaic Idealize.ShloMosaic.TcCoe

namespace Cert.Kernel5Ideal.Qkv

open Cert.Kernel5Ideal Cert.Kernel5Ideal.Gen

/-- Which lanes of a tile take the value sixteen lanes on: the first half of each run of thirty-two. -/
def low : IVec S512x128 1 :=
  let m : IVec S512x128 32 := remsi (iota .tc S512x128 32 [1] iota_S512x128_d1_w32) (broadcast S512x128 (Scalar.select (Scalar.cmpi .eq 32#32 0#32) 1#32 32#32))
  cmpi .slt (select (andi (xori (cmpi .slt m (broadcast S512x128 0#32)) (broadcastTo S512x128 (broadcast S512x128 (Scalar.cmpi .slt (Scalar.select (Scalar.cmpi .eq 32#32 0#32) 1#32 32#32) 0#32)) broadcasts_S512x128_S512x128)) (cmpi .ne m (broadcast S512x128 0#32)))
    (addi m (broadcast S512x128 (Scalar.select (Scalar.cmpi .eq 32#32 0#32) 1#32 32#32))) m) (broadcast S512x128 16#32)

/-- A rotated tile: the tile times the cosines plus its half-swapped copy times the sines. -/
def tile (t c s : FVec Ideal S512x128 .f32) : FVec Ideal S512x128 .f32 :=
  addf (mulf t c) (mulf (select low (dynamicRotate 1 112#32 none t rotates_S512x128_d1) (dynamicRotate 1 16#32 none t rotates_S512x128_d1)) s)

/-- The lanes that take the value sixteen lanes on. -/
theorem low_at (r : Fin 512) (l : Fin 128) : low (ix2 r l) = BitVec.ofBool (decide (l.val % 32 < 16)) := by
  have h : ∀ l : Fin 128, low (ix2 0 l) = BitVec.ofBool (decide (l.val % 32 < 16)) := by decide +kernel
  rw [← h l]
  rfl

/-- The lane a lane is paired with. -/
def par {n : Nat} (hn : n % 32 = 0) (d : Fin n) : Fin n :=
  if h : d.val % 32 < 16 then ⟨d.val + 16, by omega⟩ else ⟨d.val - 16, by omega⟩

/-- A rotated tile at an index. -/
theorem tile_at (t c s : FVec Ideal S512x128 .f32) (r : Fin 512) (l : Fin 128) :
    tile t c s (ix2 r l) = (t (ix2 r l) * c (ix2 r l) + t (ix2 r (par (by decide) l)) * s (ix2 r l) : EReal) := by
  pointwise [tile]
  rw [low_at]
  by_cases h : l.val % 32 < 16
  · simp only [h, decide_true, BitVec.ofBool_true, par, dif_pos]
    have e : (l.val + 16) % 128 = l.val + 16 := by omega
    simp [e, Scalar.select]
  · simp only [h, decide_false, BitVec.ofBool_false, par]
    have e : (l.val + 112) % 128 = l.val - 16 := by omega
    simp [e, Scalar.select]

/-- A row with its lanes rotated: each lane times its cosine plus its pair times its sine. -/
def rot {n : Nat} (hn : n % 32 = 0) (h : Fin n → EReal) (c s : Fin 128 → EReal) (d : Fin n) : EReal :=
  h d * c ⟨d.val % 128, by omega⟩ + h (par hn d) * s ⟨d.val % 128, by omega⟩

/-- A rotated tile of a wider array is the rotated row's lanes. -/
theorem tile_slice {n : Nat} (hn : n % 32 = 0) (o : Nat) (ho : o % 128 = 0) (h : FVec Ideal ⟨2, ![512, n]⟩ .f32) (sl : (⟨2, ![512, n]⟩ : Shape).Slices ![0, o] S512x128)
    (c s : FVec Ideal S512x128 .f32) (r : Fin 512) (l : Fin 128) (d : Fin n) (hd : d.val = o + l.val) :
    tile (extractStridedSlice S512x128 ![0, o] h sl) c s (ix2 r l) = rot hn (fun k => h (ix2 r k)) (fun k => c (ix2 r k)) (fun k => s (ix2 r k)) d := by
  have hb : ∀ l' : Fin 128, ∀ d' : Fin n, d'.val = o + l'.val → extractStridedSlice S512x128 ![0, o] h sl (ix2 r l') = h (ix2 r d') := fun l' d' hd' => by
    refine congrArg h ?_
    funext i; apply Fin.ext; fin_cases i <;> simp [hd', ix2, Shape.Idx.norm]
  have hp : (par hn d).val = o + (par (n := 128) (by decide) l).val := by
    unfold par
    split_ifs <;> simp <;> omega
  have e : (⟨d.val % 128, by omega⟩ : Fin 128) = l := Fin.ext (by have := l.isLt; simp; omega)
  rw [tile_at, hb l d hd, hb _ _ hp]
  unfold rot
  rw [e]

/-- The keys' rotated tiles side by side. -/
def rotk (h : FVec Ideal S512x256 .f32) (c s : FVec Ideal S512x128 .f32) : FVec Ideal S512x256 .f32 :=
  concatenate S512x256 1 [⟨S512x128, tile (extractStridedSlice S512x128 ![0, 0] h slices_S512x256_o0_0_S512x128) c s⟩,
      ⟨S512x128, tile (extractStridedSlice S512x128 ![0, 128] h slices_S512x256_o0_128_S512x128) c s⟩] concatenates_S512x128_S512x128_S512x256_d1

/-- The keys' rotated tiles at an index. -/
theorem rotk_at (h : FVec Ideal S512x256 .f32) (c s : FVec Ideal S512x128 .f32) (r : Fin 512) (d : Fin 256) :
    rotk h c s (ix2 r d) = rot (by decide) (fun k => h (ix2 r k)) (fun k => c (ix2 r k)) (fun k => s (ix2 r k)) d := by
  unfold rotk
  pointwise
  split_ifs <;> exact tile_slice _ _ (by decide) h _ c s r _ d (by simp <;> omega)

/-- The queries' rotated tiles side by side. -/
def rotq (h : FVec Ideal S512x1024 .f32) (c s : FVec Ideal S512x128 .f32) : FVec Ideal S512x1024 .f32 :=
  concatenate S512x1024 1 [⟨S512x128, tile (extractStridedSlice S512x128 ![0, 0] h slices_S512x1024_o0_0_S512x128) c s⟩,
      ⟨S512x128, tile (extractStridedSlice S512x128 ![0, 128] h slices_S512x1024_o0_128_S512x128) c s⟩,
      ⟨S512x128, tile (extractStridedSlice S512x128 ![0, 256] h slices_S512x1024_o0_256_S512x128) c s⟩,
      ⟨S512x128, tile (extractStridedSlice S512x128 ![0, 384] h slices_S512x1024_o0_384_S512x128) c s⟩,
      ⟨S512x128, tile (extractStridedSlice S512x128 ![0, 512] h slices_S512x1024_o0_512_S512x128) c s⟩,
      ⟨S512x128, tile (extractStridedSlice S512x128 ![0, 640] h slices_S512x1024_o0_640_S512x128) c s⟩,
      ⟨S512x128, tile (extractStridedSlice S512x128 ![0, 768] h slices_S512x1024_o0_768_S512x128) c s⟩,
      ⟨S512x128, tile (extractStridedSlice S512x128 ![0, 896] h slices_S512x1024_o0_896_S512x128) c s⟩]
    concatenates_S512x128_S512x128_S512x128_S512x128_S512x128_S512x128_S512x128_S512x128_S512x1024_d1

/-- The queries' rotated tiles at an index. -/
theorem rotq_at (h : FVec Ideal S512x1024 .f32) (c s : FVec Ideal S512x128 .f32) (r : Fin 512) (d : Fin 1024) :
    rotq h c s (ix2 r d) = rot (by decide) (fun k => h (ix2 r k)) (fun k => c (ix2 r k)) (fun k => s (ix2 r k)) d := by
  unfold rotq
  pointwise
  split_ifs <;> exact tile_slice _ _ (by decide) h _ c s r _ d (by simp <;> omega)

end Cert.Kernel5Ideal.Qkv

end
-- ==== Proof.QkvRef.lean ====
/- The reference of the projection to queries, keys and values, at an index. -/
module

public import proofs.«01_k».proof.Proof.Mlp
public import proofs.«01_k».proof.Proof.QkvRot
public import proofs.«01_k».proof.Proof.Gen.Reference5Ideal.Read
public import Idealize.ShloMosaic.Lib.Pipeline.ValueKit

@[expose] public section

set_option maxRecDepth 65536

noncomputable section

open Idealize.ShloMosaic Idealize.ShloMosaic.TcCoe

namespace Cert.Kernel5Ideal.Qkv

open Cert.Mlp Cert.Reference5Ideal Cert.Reference5Ideal.Read

/-- The modulation's rows, one after the other. -/
def rows (x : FVec Ideal S6144 .f32) (j : Fin 6) (d : Fin 1024) : EReal := x (ix1 ⟨1024 * j.val + d.val, by omega⟩)

/-- The queries, keys and values of a row side by side: the modulated row times the weights. -/
def uqkv (x : Fin 1024 → EReal) (g sh sc : Fin 1024 → EReal) (W : Fin 1024 → Fin 1536 → EReal) (e : Fin 1536) : EReal :=
  ∑ k, modu (rms x g) sh sc k * W k e

/-- A row of heads, each over the root of its mean square, times the gain of the lane. -/
def hrms {n : Nat} (hn : n % 64 = 0) (u : Fin n → EReal) (g : Fin 64 → EReal) (d : Fin n) : EReal :=
  u d * Ideal.rsqrt (Ideal.div (∑ j : Fin 64, u ⟨d.val / 64 * 64 + j.val, by omega⟩ * u ⟨d.val / 64 * 64 + j.val, by omega⟩) (Ideal.ofBits .f32 0x42800000#32) + Ideal.ofBits .f32 0x358637BD#32)
    * g ⟨d.val % 64, by omega⟩

variable (x : FVec Ideal S16384x1024 .f32) (md : FVec Ideal S6144 .f32) (g : FVec Ideal S4x1024 .f32) (w : FVec Ideal S1024x1536 .f32) (qn kn : FVec Ideal S64 .f32)

/-- One row of the projection, from the arguments. -/
def urow (r : Fin 16384) : Fin 1536 → EReal :=
  uqkv (fun k => x (ix2 r k)) (fun k => g (ix2 0 k)) (rows md 0) (rows md 1) fun k e => w (ix2 k e)

/-- The reference's projection at an index. -/
theorem ref_u (r : Fin 16384) (e : Fin 1536) : val_main_v61 (F := Ideal) x md g w (ix2 r e) = urow x md g w r e := by
  pointwise [val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v35, val_main_v34, val_main_v33, val_main_cst_3, val_main_cst_4, val_main_cst_5, val_main_cst_6]
  unfold urow uqkv modu rms rows
  simp

/-- The queries of a row. -/
def qpart (u : Fin 1536 → EReal) (d : Fin 1024) : EReal := u ⟨d.val, by omega⟩
/-- The keys of a row. -/
def kpart (u : Fin 1536 → EReal) (d : Fin 256) : EReal := u ⟨1024 + d.val, by omega⟩
/-- The values of a row. -/
def vpart (u : Fin 1536 → EReal) (d : Fin 256) : EReal := u ⟨1280 + d.val, by omega⟩

/-- The reference's normalised queries at an index. -/
theorem ref_qn (r : Fin 16384) (h : Fin 16) (j : Fin 64) : val_main_v76 (F := Ideal) x md g w qn (ix3 r h j) = hrms (by decide) (qpart (urow x md g w r)) (fun k => qn (ix1 k)) ⟨h.val * 64 + j.val, by omega⟩ := by
  pointwise [val_main_v76, val_main_v75, val_main_v74, val_main_v73, val_main_v72, val_main_v71, val_main_v70, val_main_v69, val_main_v68, val_main_v67, val_main_v66, val_main_v65, val_main_v64, val_main_v63, val_main_v62, val_main_cst_7, val_main_cst_8, val_main_cst_9]
  simp only [ref_u]
  unfold hrms qpart
  have e1 : (h.val * 64 + j.val) / 64 = h.val := by omega
  have e2 : (h.val * 64 + j.val) % 64 = j.val := by omega
  simp only [e1, e2]

/-- The reference's normalised keys at an index. -/
theorem ref_kn (r : Fin 16384) (h : Fin 4) (j : Fin 64) : val_main_v124 (F := Ideal) x md g w kn (ix3 r h j) = hrms (by decide) (kpart (urow x md g w r)) (fun k => kn (ix1 k)) ⟨h.val * 64 + j.val, by omega⟩ := by
  pointwise [val_main_v124, val_main_v123, val_main_v122, val_main_v121, val_main_v120, val_main_v119, val_main_v118, val_main_v117, val_main_v116, val_main_v115, val_main_v114, val_main_v113, val_main_v112, val_main_v111, val_main_v110, val_main_cst_10, val_main_cst_11, val_main_cst_12]
  simp only [ref_u]
  unfold hrms kpart
  have e1 : (h.val * 64 + j.val) / 64 = h.val := by omega
  have e2 : (h.val * 64 + j.val) % 64 = j.val := by omega
  simp only [e1, e2]

/-- The cosines of a row's lanes: those of its row number on the first half of a head, of its column on the second. -/
def cosL (c1 c2 : Fin 16 → EReal) (l : Fin 128) : EReal := if l.val % 64 < 32 then c1 ⟨l.val % 16, by omega⟩ else c2 ⟨l.val % 16, by omega⟩

/-- The sines of a row's lanes, with the sign of the first of each pair turned. -/
def sinL (s1 s2 : Fin 16 → EReal) (l : Fin 128) : EReal :=
  if l.val % 32 < 16 then -(if l.val % 64 < 32 then s1 ⟨l.val % 16, by omega⟩ else s2 ⟨l.val % 16, by omega⟩) else if l.val % 64 < 32 then s1 ⟨l.val % 16, by omega⟩ else s2 ⟨l.val % 16, by omega⟩

/-- A head rotated half by half is the row's rotation at the head's lanes. -/
theorem rope_eq {n : Nat} (hn : n % 32 = 0) (Y : Fin n → EReal) (c1 s1 c2 s2 : Fin 16 → EReal) (h : Nat) (hh : h * 64 + 64 ≤ n) (y : Fin 64 → EReal) (hy : ∀ i : Fin 64, y i = Y ⟨h * 64 + i.val, by omega⟩) (j : Fin 64) :
    (if h_1 : j.val < 32 then
        if h_2 : j.val < 16 then y j * c1 ⟨j.val, by omega⟩ - y ⟨16 + j.val, by omega⟩ * s1 ⟨j.val, by omega⟩
        else y ⟨j.val - 16, by omega⟩ * s1 ⟨j.val - 16, by omega⟩ + y ⟨16 + (j.val - 16), by omega⟩ * c1 ⟨j.val - 16, by omega⟩
      else
        if h_2 : j.val - 32 < 16 then y ⟨32 + (j.val - 32), by omega⟩ * c2 ⟨j.val - 32, by omega⟩ - y ⟨32 + (16 + (j.val - 32)), by omega⟩ * s2 ⟨j.val - 32, by omega⟩
        else y ⟨32 + (j.val - 32 - 16), by omega⟩ * s2 ⟨j.val - 32 - 16, by omega⟩ + y ⟨32 + (16 + (j.val - 32 - 16)), by omega⟩ * c2 ⟨j.val - 32 - 16, by omega⟩)
      = rot hn Y (cosL c1 c2) (sinL s1 s2) ⟨h * 64 + j.val, by omega⟩ := by
  have f : ∀ (a b : Nat) (ha : a < n) (hb : b < n), a = b → Y ⟨a, ha⟩ = Y ⟨b, hb⟩ := fun a b ha hb e => by subst e; rfl
  have f16 : ∀ (z : Fin 16 → EReal) (a b : Nat) (ha : a < 16) (hb : b < 16), a = b → z ⟨a, ha⟩ = z ⟨b, hb⟩ := fun z a b ha hb e => by subst e; rfl
  have e1 : (h * 64 + j.val) % 128 % 64 = j.val := by omega
  have e2 : (h * 64 + j.val) % 128 % 32 = j.val % 32 := by omega
  have e3 : (h * 64 + j.val) % 128 % 16 = j.val % 16 := by omega
  have e4 : (h * 64 + j.val) % 32 = j.val % 32 := by omega
  unfold rot par cosL sinL
  simp only [hy, e1, e2, e3, e4]
  have hj := j.isLt
  by_cases h1 : j.val < 32
  · by_cases h2 : j.val < 16
    · have h3 : j.val % 32 < 16 := by omega
      simp only [h1, h2, h3, dif_pos, if_true, mul_neg]
      rw [sub_eq_add_neg]
      refine congrArg₂ (· + ·) (congrArg₂ (· * ·) rfl (f16 _ _ _ _ _ (by omega))) (congrArg Neg.neg (congrArg₂ (· * ·) (f _ _ _ _ (by omega)) (f16 _ _ _ _ _ (by omega))))
    · have h3 : ¬ j.val % 32 < 16 := by omega
      simp only [h1, h2, h3, dif_pos, dif_neg, if_true, if_false, not_false_eq_true]
      rw [add_comm]
      refine congrArg₂ (· + ·) (congrArg₂ (· * ·) (f _ _ _ _ (by omega)) (f16 _ _ _ _ _ (by omega))) (congrArg₂ (· * ·) (f _ _ _ _ (by omega)) (f16 _ _ _ _ _ (by omega)))
  · by_cases h2 : j.val - 32 < 16
    · have h3 : j.val % 32 < 16 := by omega
      simp only [h1, h2, h3, dif_pos, dif_neg, if_true, if_false, not_false_eq_true, mul_neg]
      rw [sub_eq_add_neg]
      refine congrArg₂ (· + ·) (congrArg₂ (· * ·) (f _ _ _ _ (by omega)) (f16 _ _ _ _ _ (by omega))) (congrArg Neg.neg (congrArg₂ (· * ·) (f _ _ _ _ (by omega)) (f16 _ _ _ _ _ (by omega))))
    · have h3 : ¬ j.val % 32 < 16 := by omega
      simp only [h1, h2, h3, dif_neg, if_false, not_false_eq_true]
      rw [add_comm]
      refine congrArg₂ (· + ·) (congrArg₂ (· * ·) (f _ _ _ _ (by omega)) (f16 _ _ _ _ _ (by omega))) (congrArg₂ (· * ·) (f _ _ _ _ (by omega)) (f16 _ _ _ _ _ (by omega)))

/-- The cosines of a row of the latents. -/
def cosr (r : Fin 16384) : Fin 128 → EReal := cosL (fun k => val_main_v29 (F := Ideal) (ix2 r k)) fun k => val_main_v31 (F := Ideal) (ix2 r k)
/-- The sines of a row of the latents. -/
def sinr (r : Fin 16384) : Fin 128 → EReal := sinL (fun k => val_main_v30 (F := Ideal) (ix2 r k)) fun k => val_main_v32 (F := Ideal) (ix2 r k)

/-- A row's queries, normalised and rotated. -/
def qrow (r : Fin 16384) : Fin 1024 → EReal := rot (by decide) (hrms (by decide) (qpart (urow x md g w r)) fun k => qn (ix1 k)) (cosr r) (sinr r)
/-- A row's keys, normalised and rotated. -/
def krow (r : Fin 16384) : Fin 256 → EReal := rot (by decide) (hrms (by decide) (kpart (urow x md g w r)) fun k => kn (ix1 k)) (cosr r) (sinr r)

/-- The reference's rotated queries at an index. -/
theorem ref_q (r : Fin 16384) (h : Fin 16) (j : Fin 64) : val_main_v109 (F := Ideal) x md g w qn (ix3 r h j) = qrow x md g w qn r ⟨h.val * 64 + j.val, by omega⟩ := by
  pointwise [val_main_v109, val_main_v108, val_main_v107, val_main_v106, val_main_v105, val_main_v104, val_main_v103, val_main_v102, val_main_v101, val_main_v100, val_main_v99, val_main_v98, val_main_v97, val_main_v96, val_main_v95, val_main_v94, val_main_v93, val_main_v92, val_main_v91, val_main_v90, val_main_v89, val_main_v88, val_main_v87, val_main_v86, val_main_v85, val_main_v84, val_main_v83, val_main_v82, val_main_v81, val_main_v80, val_main_v79, val_main_v78, val_main_v77]
  exact rope_eq (by decide) _ (fun k => val_main_v29 (F := Ideal) (ix2 r k)) (fun k => val_main_v30 (F := Ideal) (ix2 r k)) (fun k => val_main_v31 (F := Ideal) (ix2 r k)) (fun k => val_main_v32 (F := Ideal) (ix2 r k)) h.val (by omega) (fun i => val_main_v76 (F := Ideal) x md g w qn (ix3 r h i)) (fun i => ref_qn x md g w qn r h i) j

/-- The reference's rotated keys at an index. -/
theorem ref_k (r : Fin 16384) (h : Fin 4) (j : Fin 64) : val_main_v157 (F := Ideal) x md g w kn (ix3 r h j) = krow x md g w kn r ⟨h.val * 64 + j.val, by omega⟩ := by
  pointwise [val_main_v157, val_main_v156, val_main_v155, val_main_v154, val_main_v153, val_main_v152, val_main_v151, val_main_v150, val_main_v149, val_main_v148, val_main_v147, val_main_v146, val_main_v145, val_main_v144, val_main_v143, val_main_v142, val_main_v141, val_main_v140, val_main_v139, val_main_v138, val_main_v137, val_main_v136, val_main_v135, val_main_v134, val_main_v133, val_main_v132, val_main_v131, val_main_v130, val_main_v129, val_main_v128, val_main_v127, val_main_v126, val_main_v125]
  exact rope_eq (by decide) _ (fun k => val_main_v29 (F := Ideal) (ix2 r k)) (fun k => val_main_v30 (F := Ideal) (ix2 r k)) (fun k => val_main_v31 (F := Ideal) (ix2 r k)) (fun k => val_main_v32 (F := Ideal) (ix2 r k)) h.val (by omega) (fun i => val_main_v124 (F := Ideal) x md g w kn (ix3 r h i)) (fun i => ref_kn x md g w kn r h i) j

/-- The reference's values at an index. -/
theorem ref_v (r : Fin 16384) (h : Fin 4) (j : Fin 64) : val_main_v159 (F := Ideal) x md g w (ix3 r h j) = vpart (urow x md g w r) ⟨h.val * 64 + j.val, by omega⟩ := by
  pointwise [val_main_v159, val_main_v158]
  simp only [ref_u]
  unfold vpart
  rfl

end Cert.Kernel5Ideal.Qkv

end
-- ==== Proof.QkvHead.lean ====
/- The kernel's projection and its normalised heads at an index, and why a finite row stays finite. -/
module

public import proofs.«01_k».proof.Proof.QkvRef
public import proofs.«01_k».proof.Proof.Soft

@[expose] public section

set_option maxRecDepth 65536

noncomputable section

open Idealize.ShloMosaic Idealize.ShloMosaic.TcCoe

namespace Cert.Kernel5Ideal.Qkv

open Cert.Mlp Cert.Kernel5Ideal Cert.Kernel5Ideal.Gen

/-- The kernel's projection at an index. -/
theorem proj_at (x : FVec Ideal S512x1024 .f32) (g sc sh : FVec Ideal S1x1024 .f32) (w : FVec Ideal S1024x1536 .bf16) (r : Fin 512) (e : Fin 1536) :
    k0_pay2 (F := Ideal) x g sc sh w (ix2 r e)
      = uqkv (fun k => x (ix2 r k)) (fun k => g (ix2 0 k)) (fun k => sh (ix2 0 k)) (fun k => sc (ix2 0 k)) (fun k e => w (ix2 k e)) e := by
  pointwise [k0_pay2]
  rfl

/-- The word of one sixty-fourth. -/
theorem ofBits_64th : Ideal.ofBits .f32 0x3C800000#32 = ((1 / 64 : ℝ) : EReal) := by
  simp [Ideal.ofBits, Ideal.ieee, -EReal.coe_mul]; norm_num
/-- The word of sixty-four. -/
theorem ofBits_64 : Ideal.ofBits .f32 0x42800000#32 = ((64 : ℝ) : EReal) := by
  simp [Ideal.ofBits, Ideal.ieee, -EReal.coe_mul]; norm_num
/-- The word of a thousand and twenty-four. -/
theorem ofBits_1024 : Ideal.ofBits .f32 0x44800000#32 = ((1024 : ℝ) : EReal) := by
  simp [Ideal.ofBits, Ideal.ieee, -EReal.coe_mul]; norm_num
/-- The word under the root is a positive real. -/
theorem ofBits_eps : ∃ e : ℝ, 0 < e ∧ Ideal.ofBits .f32 0x358637BD#32 = ((e : ℝ) : EReal) := by
  refine ⟨8796093 * (1 / 8796093022208), by norm_num, ?_⟩
  simp [Ideal.ofBits, Ideal.ieee, -EReal.coe_mul]; norm_num

/-- The sum of a row over the lanes of a head, as a product with the matrix of ones on the heads. -/
theorem sum_head {n : Nat} (hn : n % 64 = 0) (f B : Fin n → EReal) (d : Fin n) (hB : ∀ k : Fin n, B k = if k.val / 64 = d.val / 64 then 1 else 0) :
    (∑ k, f k * B k) = ∑ j : Fin 64, f ⟨d.val / 64 * 64 + j.val, by omega⟩ := by
  simp only [hB, mul_ite, mul_one, mul_zero]
  rw [← Finset.sum_filter]
  refine (Finset.sum_bij (fun (j : Fin 64) _ => (⟨d.val / 64 * 64 + j.val, by omega⟩ : Fin n)) ?_ ?_ ?_ ?_).symm
  · intro j _
    simp; omega
  · intro a _ b _ h
    simp at h; omega
  · intro k hk
    simp at hk
    exact ⟨⟨k.val % 64, by omega⟩, by simp, by ext; simp; omega⟩
  · intro j _
    rfl

/-- The kernel's two sums of squares, of the rounded squares and of what the rounding left, are the head's mean square. -/
theorem head_eq {n : Nat} (hn : n % 64 = 0) (u : Fin n → EReal) (hu : ∀ k, ∃ a : ℝ, u k = (a : EReal)) (B : Fin n → EReal) (g : Fin 64 → EReal) (d : Fin n) (hB : ∀ k : Fin n, B k = if k.val / 64 = d.val / 64 then 1 else 0) :
    u d * Ideal.rsqrt ((∑ k, u k * u k * B k + ∑ k, (u k * u k - u k * u k) * B k) * Ideal.ofBits .f32 0x3C800000#32 + Ideal.ofBits .f32 0x358637BD#32) * g ⟨d.val % 64, by omega⟩
      = hrms hn u g d := by
  have hz : ∀ k, u k * u k - u k * u k = 0 := fun k => by
    obtain ⟨a, ha⟩ := hu k
    rw [ha, ← EReal.coe_mul, ← EReal.coe_sub, sub_self]; rfl
  simp only [hz, zero_mul, Finset.sum_const_zero, add_zero]
  rw [sum_head hn (fun k => u k * u k) B d hB]
  unfold hrms
  rw [ofBits_64, Ideal.div_coe (by norm_num), ofBits_64th]

/-- The kernel's normalised queries at an index. -/
theorem normq_at (u : FVec Ideal S512x1024 .f32) (B : FVec Ideal S1024x1024 .bf16) (g : FVec Ideal S1x1024 .f32) (r : Fin 512) (d : Fin 1024) :
    k0_pay9 (F := Ideal) u B g (truncf .bf16 (mulf u u) bitsLt_bf16_f32) (truncf .bf16 (subf (mulf u u) (extf .f32 (truncf .bf16 (mulf u u) bitsLt_bf16_f32) bitsLt_bf16_f32)) bitsLt_bf16_f32) (constant S512x1024 .f32 0x00000000#32) (ix2 r d)
      = (u (ix2 r d) * Ideal.rsqrt ((∑ k, u (ix2 r k) * u (ix2 r k) * B (ix2 k d) + ∑ k, (u (ix2 r k) * u (ix2 r k) - u (ix2 r k) * u (ix2 r k)) * B (ix2 k d)) * Ideal.ofBits .f32 0x3C800000#32 + Ideal.ofBits .f32 0x358637BD#32) * g (ix2 0 d) : EReal) := by
  pointwise [k0_pay9]

/-- The kernel's normalised keys at an index. -/
theorem normk_at (v : FVec Ideal S512x1536 .f32) (B : FVec Ideal S256x256 .bf16) (g : FVec Ideal S1x256 .f32) (r : Fin 512) (d : Fin 256) :
    k0_pay10 (F := Ideal) v B g (ix2 r d)
      = ((fun k : Fin 256 => v (ix2 r ⟨1024 + k.val, by omega⟩)) d * Ideal.rsqrt ((∑ k : Fin 256, v (ix2 r ⟨1024 + k.val, by omega⟩) * v (ix2 r ⟨1024 + k.val, by omega⟩) * B (ix2 k d)
        + ∑ k : Fin 256, (v (ix2 r ⟨1024 + k.val, by omega⟩) * v (ix2 r ⟨1024 + k.val, by omega⟩) - v (ix2 r ⟨1024 + k.val, by omega⟩) * v (ix2 r ⟨1024 + k.val, by omega⟩)) * B (ix2 k d)) * Ideal.ofBits .f32 0x3C800000#32 + Ideal.ofBits .f32 0x358637BD#32) * g (ix2 0 d) : EReal) := by
  pointwise [k0_pay10]

/-- An entry of a row over the root of its mean square is a real, whatever the row holds. -/
theorem rms_real (x g : Fin 1024 → EReal) (hg : ∀ d, ∃ a : ℝ, g d = (a : EReal)) (d : Fin 1024) : ∃ a : ℝ, rms x g d = (a : EReal) := by
  obtain ⟨b, hb⟩ := hg d
  obtain ⟨e, he, hee⟩ := ofBits_eps
  unfold rms
  rw [hb, hee, ofBits_1024, Ideal.div_coe (by norm_num)]
  have hsq : ∀ k, 0 ≤ x k * x k := fun k => by
    rcases le_total 0 (x k) with h | h
    · exact mul_nonneg h h
    · rw [← neg_mul_neg]; exact mul_nonneg (EReal.neg_nonneg.2 h) (EReal.neg_nonneg.2 h)
  have hle : x d * x d ≤ ∑ k, x k * x k := Finset.single_le_sum (f := fun k => x k * x k) (fun k _ => hsq k) (Finset.mem_univ d)
  have hS : 0 ≤ ∑ k, x k * x k := Finset.sum_nonneg fun k _ => hsq k
  generalize (∑ k, x k * x k) = S at hle hS
  induction S using EReal.rec with
  | bot => simp at hS
  | top =>
    rw [EReal.top_mul_coe_of_pos (by norm_num), EReal.top_add_coe]
    exact ⟨0, by simp⟩
  | coe s =>
    have hs : 0 ≤ s := by exact_mod_cast hS
    have hp : 0 < s * (1 / 1024) + e := by positivity
    obtain ⟨y, hy⟩ : ∃ y : ℝ, x d = (y : EReal) := by
      revert hle
      induction x d using EReal.rec with
      | bot => intro h; simp at h
      | top => intro h; simp at h
      | coe y => intro _; exact ⟨y, rfl⟩
    rw [hy, ← EReal.coe_mul, ← EReal.coe_add, Ideal.rsqrt_coe, if_neg (not_lt.2 hp.le), if_neg hp.ne', ← EReal.coe_mul, ← EReal.coe_mul]
    exact ⟨_, rfl⟩

/-- The projection of a row is real where the gain, the modulation and the column of weights are. -/
theorem uqkv_real (x g sh sc : Fin 1024 → EReal) (W : Fin 1024 → Fin 1536 → EReal) (e : Fin 1536) (hg : ∀ d, ∃ a : ℝ, g d = (a : EReal)) (hsh : ∀ d, ∃ a : ℝ, sh d = (a : EReal))
    (hsc : ∀ d, ∃ a : ℝ, sc d = (a : EReal)) (hW : ∀ k, ∃ a : ℝ, W k e = (a : EReal)) : ∃ a : ℝ, uqkv x g sh sc W e = (a : EReal) := by
  have h : ∀ k, ∃ a : ℝ, modu (rms x g) sh sc k * W k e = (a : EReal) := fun k => by
    obtain ⟨a, ha⟩ := rms_real x g hg k
    obtain ⟨b, hb⟩ := hsh k
    obtain ⟨c, hc⟩ := hsc k
    obtain ⟨w, hw⟩ := hW k
    refine ⟨(a * (1 + c) + b) * w, ?_⟩
    unfold modu
    rw [ha, hb, hc, hw]
    norm_cast
  choose f hf using h
  refine ⟨∑ k, f k, ?_⟩
  unfold uqkv
  simp only [hf]
  exact (Cert.Attn.coe_sum _ _).symm

end Cert.Kernel5Ideal.Qkv

end
-- ==== Proof.QkvOut.lean ====
/- What the projection to queries, keys and values leaves of its block of rows. -/
module

public import proofs.«01_k».proof.Proof.QkvHead
public import proofs.«01_k».proof.Proof.Gen.Kernel5Ideal.Run
public import Idealize.ShloMosaic.Lib.Pipeline.ValueKit

@[expose] public section

set_option maxRecDepth 65536

noncomputable section

open Idealize.ShloMosaic Idealize.ShloMosaic.TcCoe Idealize.SL.Sem
open Idealize.ShloMosaic.Pipeline (Dat)

namespace Cert.Kernel5Ideal.Qkv

open Cert.Mlp Cert.Kernel5Ideal Cert.Kernel5Ideal.Gen

/-- The first of the modulation's rows. -/
def row0 (x1 : FVec Ideal S8x1024 .f32) : FVec Ideal S1x1024 .f32 := View.ld (Val := Elt Ideal) (e' := .f32) x1 (Rect.unit (s := S8x1024) ![0, 0] S1x1024.size inb_S8x1024_S1x1024_0_0)
/-- The second of the modulation's rows. -/
def row1 (x1 : FVec Ideal S8x1024 .f32) : FVec Ideal S1x1024 .f32 := View.ld (Val := Elt Ideal) (e' := .f32) x1 (Rect.unit (s := S8x1024) ![1, 0] S1x1024.size inb_S8x1024_S1x1024_1_0)

/-- The first row at an index. -/
theorem row0_at (x1 : FVec Ideal S8x1024 .f32) (k : Fin 1024) : row0 x1 (ix2 0 k) = x1 (ix2 0 k) := by
  pointwise [row0]
/-- The second row at an index. -/
theorem row1_at (x1 : FVec Ideal S8x1024 .f32) (k : Fin 1024) : row1 x1 (ix2 0 k) = x1 (ix2 1 k) := by
  pointwise [row1]

variable (x0 : FVec Ideal S512x1024 .f32) (x1 : FVec Ideal S8x1024 .f32) (x2 : FVec Ideal S1x1024 .f32) (x3 : FVec Ideal S1024x1536 .bf16) (x4 : FVec Ideal S1x1024 .f32) (x5 : FVec Ideal S1x256 .f32)
  (x6 x7 : FVec Ideal S512x128 .f32) (x8 : FVec Ideal S1024x1024 .bf16) (x9 : FVec Ideal S256x256 .bf16) (x10 : FVec Ideal S1024x1024 .bf16) (x11 : FVec Ideal S256x256 .bf16)

/-- The block's projection. -/
def proj : FVec Ideal S512x1536 .f32 := k0_pay2 (F := Ideal) x0 x2 (row1 x1) (row0 x1) x3

/-- The block's queries. -/
def qblk : FVec Ideal S512x1024 .f32 := extractStridedSlice S512x1024 ![0, 0] (proj x0 x1 x2 x3) slices_S512x1536_o0_0_S512x1024

/-- The block's queries, normalised. -/
def normq : FVec Ideal S512x1024 .f32 :=
  k0_pay9 (F := Ideal) (qblk x0 x1 x2 x3) (k0_pay4 x8) (k0_pay5 x4) (truncf .bf16 (mulf (qblk x0 x1 x2 x3) (qblk x0 x1 x2 x3)) bitsLt_bf16_f32)
    (truncf .bf16 (subf (mulf (qblk x0 x1 x2 x3) (qblk x0 x1 x2 x3)) (extf .f32 (truncf .bf16 (mulf (qblk x0 x1 x2 x3) (qblk x0 x1 x2 x3)) bitsLt_bf16_f32) bitsLt_bf16_f32)) bitsLt_bf16_f32) (constant S512x1024 .f32 0x00000000#32)

/-- The block's keys, normalised. -/
def normk : FVec Ideal S512x256 .f32 := k0_pay10 (F := Ideal) (proj x0 x1 x2 x3) x9 x5

section
variable (c : Dev nD) (i : grid0.Coords) (arg1 : Memref sig .tc .vmem S512x1024 .f32) (harg1 : arg1.IsWhole) (arg2 : Memref sig .tc .vmem S8x1024 .f32) (harg2 : arg2.IsWhole) (arg3 : Memref sig .tc .vmem S1x1024 .f32) (harg3 : arg3.IsWhole) (arg4 : Memref sig .tc .vmem S1024x1536 .bf16) (harg4 : arg4.IsWhole) (arg5 : Memref sig .tc .vmem S1x1024 .f32) (harg5 : arg5.IsWhole) (arg6 : Memref sig .tc .vmem S1x256 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S1024x1024 .bf16) (harg9 : arg9.IsWhole) (arg10 : Memref sig .tc .vmem S256x256 .bf16) (harg10 : arg10.IsWhole) (arg11 : Memref sig .tc .vmem S1024x1024 .bf16) (harg11 : arg11.IsWhole) (arg12 : Memref sig .tc .vmem S256x256 .bf16) (harg12 : arg12.IsWhole) (arg13 : Memref sig .tc .vmem S1024x512 .bf16) (harg13 : arg13.IsWhole) (arg14 : Memref sig .tc .vmem S4x512x64 .bf16) (harg14 : arg14.IsWhole) (arg15 : Memref sig .tc .vmem S4x80x512 .bf16) (harg15 : arg15.IsWhole)

/-- A load of a whole block is the block. -/
theorem z2 : (![0, 0] : Fin 2 → ℕ) = fun _ => 0 := by decide

/-- The projection the run binds. -/
theorem run_proj : kernelRun0_A.sl.r c arg1 harg1 arg2 harg2 arg3 harg3 arg4 harg4 x0 x1 x2 x3 = proj x0 x1 x2 x3 := by
  unfold kernelRun0_A.sl.r proj row0 row1
  simp only [View.readAt_eq_ld, Memref.IsWhole.read_unread]
  rw [View.ld_unit_zero z2, View.ld_unit_zero z2, View.ld_unit_zero z2]

/-- The rotated queries the run binds. -/
theorem run_q : kernelRun0_A.sl.r_28 c arg1 harg1 arg2 harg2 arg3 harg3 arg4 harg4 arg5 harg5 arg7 harg7 arg8 harg8 arg9 harg9 x0 x1 x2 x3 x4 x6 x7 x8
    = rotq (normq x0 x1 x2 x3 x4 x8) (k0_pay12 x6) (k0_pay13 x7) := by
  simp only [kernelRun0_A.sl.r_1, kernelRun0_A.sl.r_2, kernelRun0_A.sl.r_3, kernelRun0_A.sl.r_4, kernelRun0_A.sl.r_5, kernelRun0_A.sl.r_6, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.v78, View.readAt_eq_ld, Memref.IsWhole.read_unread]
  simp only [View.ld_unit_zero (Val := Elt Ideal) (S := S512x1024) z2, View.ld_unit_zero (Val := Elt Ideal) (S := S1x1024) z2, View.ld_unit_zero (Val := Elt Ideal) (S := S1024x1536) z2, View.ld_unit_zero (Val := Elt Ideal) (S := S1024x1024) z2, View.ld_unit_zero (Val := Elt Ideal) (S := S512x128) z2]
  rfl

/-- The rotated keys the run binds. -/
theorem run_k : kernelRun0_A.sl.r_33 c arg1 harg1 arg2 harg2 arg3 harg3 arg4 harg4 arg6 harg6 arg7 harg7 arg8 harg8 arg10 harg10 x0 x1 x2 x3 x5 x6 x7 x9
    = rotk (normk x0 x1 x2 x3 x5 x9) (k0_pay38 x6) (k0_pay39 x7) := by
  simp only [kernelRun0_A.sl.r_7, kernelRun0_A.sl.r_29, kernelRun0_A.sl.r_30, kernelRun0_A.sl.r_31, kernelRun0_A.sl.r_32, kernelRun0_A.sl.r_33, run_proj, View.readAt_eq_ld, Memref.IsWhole.read_unread]
  simp only [View.ld_unit_zero (Val := Elt Ideal) (S := S512x128) z2, View.ld_unit_zero (Val := Elt Ideal) (S := S256x256) z2, View.ld_unit_zero (Val := Elt Ideal) (S := S1x256) z2]
  rfl

/-- The transposed values the run binds. -/
theorem run_v : kernelRun0_A.sl.r_36 c arg1 harg1 arg2 harg2 arg3 harg3 arg4 harg4 arg12 harg12 x0 x1 x2 x3 x11 = k0_pay50 (k0_pay11 (proj x0 x1 x2 x3)) x11 := by
  simp only [kernelRun0_A.sl.r_36, kernelRun0_A.sl.r_8, run_proj, View.readAt_eq_ld, Memref.IsWhole.read_unread]
  rw [View.ld_unit_zero z2]

/-- The queries' block: the scaled rotated queries, transposed. -/
def qout : FVec Ideal S1024x512 .bf16 := k0_pay49 (k0_pay47 (rotq (normq x0 x1 x2 x3 x4 x8) (k0_pay12 x6) (k0_pay13 x7))) (k0_pay48 x10)

/-- The keys' block: by head, the rotated keys. -/
def kout : FVec Ideal S4x512x64 .bf16 := fun y => rotk (normk x0 x1 x2 x3 x5 x9) (k0_pay38 x6) (k0_pay39 x7) (ix2 (y 1) ⟨(y 0).val * 64 + (y 2).val, by have : (y 0).val < 4 := (y 0).isLt; have : (y 2).val < 64 := (y 2).isLt; omega⟩)

/-- The values' block: by head, the transposed values over a row of ones and rows of zeros. -/
def vout : FVec Ideal S4x80x512 .bf16 := fun y =>
  if h : (y 1).val < 64 then k0_pay50 (k0_pay11 (proj x0 x1 x2 x3)) x11 (ix2 ⟨(y 0).val * 64 + (y 1).val, by have : (y 0).val < 4 := (y 0).isLt; omega⟩ (y 2))
  else k0_pay52 (F := Ideal) (ix2 ⟨(y 1).val - 64, by have : (y 1).val < 80 := (y 1).isLt; omega⟩ (y 2))

/-- What the run leaves in the first output's block. -/
theorem out_q : out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11
    = qout x0 x1 x2 x3 x4 x6 x7 x8 x10 := by
  unfold out0_A_12
  rw [View.read_writes_eq_canon _ _ _ (fun y => cover0_A_12 .. )]
  unfold kernelRun0_A
  dsimp only
  rw [View.canon_unit_zero z2]
  simp only [kernelRun0_A.sl.r_34, kernelRun0_A.sl.r_35, run_q, View.readAt_eq_ld, Memref.IsWhole.read_unread]
  rw [View.ld_unit_zero z2]
  rfl

/-- What the run leaves in the second output's block. -/
theorem out_k : out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11
    = kout x0 x1 x2 x3 x5 x6 x7 x9 := by
  funext y
  unfold out0_A_13
  have hc := cover0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11
  rw [View.read_writes_eq_canon _ _ _ hc]
  refine View.canon_apply_of_pieces (kout x0 x1 x2 x3 x5 x6 x7 x9) _ (fun p hp j => ?_) y (hc y)
  unfold kernelRun0_A at hp
  dsimp only at hp
  simp only [kernelRun0_A.sl.r_37, run_k, List.mem_cons, List.not_mem_nil, or_false] at hp
  rcases hp with rfl | rfl | rfl | rfl
  all_goals
    obtain ⟨a, b, e, rfl⟩ : ∃ (a : Fin 1) (b : Fin 512) (e : Fin 64), j = ix3 a b e := ⟨j 0, j 1, j 2, by funext k; fin_cases k <;> rfl⟩
    pointwise [kout, k0_pay63, k0_pay60, k0_pay56, k0_pay53, k0_pay51]
    refine congrArg _ ?_
    blk_ext

/-- What the run leaves in the third output's block. -/
theorem out_v : out0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11
    = vout x0 x1 x2 x3 x11 := by
  funext y
  unfold out0_A_14
  have hc := cover0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11
  rw [View.read_writes_eq_canon _ _ _ hc]
  refine View.canon_apply_of_pieces (vout x0 x1 x2 x3 x11) _ (fun p hp j => ?_) y (hc y)
  unfold kernelRun0_A at hp
  dsimp only at hp
  simp only [kernelRun0_A.sl.r_38, kernelRun0_A.sl.r_8, run_proj, run_v, View.readAt_eq_ld, Memref.IsWhole.read_unread, View.ld_unit_zero (Val := Elt Ideal) (S := S256x256) z2, List.mem_cons, List.not_mem_nil, or_false] at hp
  rcases hp with rfl | rfl | rfl | rfl | rfl | rfl | rfl | rfl
  all_goals
    clear hc y
    obtain ⟨a, b, e, rfl⟩ : ∃ a b e, j = ix3 a b e := ⟨j 0, j 1, j 2, by funext k; fin_cases k <;> rfl⟩
    pointwise [k0_pay1, k0_pay64, k0_pay62, k0_pay61, k0_pay59, k0_pay58, k0_pay57, k0_pay55, k0_pay54]
    have hb : b.1 < 64 := by omega
    unfold vout
    first
      | refine Eq.trans ?_ (dif_pos (show (_ : Nat) < 64 by
          simp only [Rect.emb, Rect.unit]; show 0 + 1 * b.1 < 64; omega)).symm
        refine congrArg _ ?_
        blk_ext
      | refine Eq.trans ?_ (dif_neg (show ¬ (_ : Nat) < 64 by
          show ¬ 64 + 1 * b.1 < 64; omega)).symm
        refine congrArg _ ?_
        blk_ext

end

end Cert.Kernel5Ideal.Qkv

end
-- ==== Proof.QkvAt.lean ====
/- The blocks the projection to queries, keys and values leaves, at an index. -/
module

public import proofs.«01_k».proof.Proof.QkvOut

@[expose] public section

set_option maxRecDepth 65536

noncomputable section

open Idealize.ShloMosaic Idealize.ShloMosaic.TcCoe

namespace Cert.Kernel5Ideal.Qkv

open Cert.Mlp Cert.Kernel5Ideal Cert.Kernel5Ideal.Gen

variable (x0 : FVec Ideal S512x1024 .f32) (x1 : FVec Ideal S8x1024 .f32) (x2 : FVec Ideal S1x1024 .f32) (x3 : FVec Ideal S1024x1536 .bf16) (x4 : FVec Ideal S1x1024 .f32) (x5 : FVec Ideal S1x256 .f32)
  (x6 x7 : FVec Ideal S512x128 .f32) (x8 : FVec Ideal S1024x1024 .bf16) (x9 : FVec Ideal S256x256 .bf16) (x10 : FVec Ideal S1024x1024 .bf16) (x11 : FVec Ideal S256x256 .bf16)

/-- A row of the block's projection. -/
def ublk (r : Fin 512) : Fin 1536 → EReal :=
  uqkv (fun k => x0 (ix2 r k)) (fun k => x2 (ix2 0 k)) (fun k => x1 (ix2 0 k)) (fun k => x1 (ix2 1 k)) fun k e => x3 (ix2 k e)

/-- The block's projection at an index. -/
theorem projb_at (r : Fin 512) (e : Fin 1536) : proj x0 x1 x2 x3 (ix2 r e) = ublk x0 x1 x2 x3 r e := by
  unfold proj
  rw [proj_at]
  simp only [row0_at, row1_at]
  rfl

/-- The block's queries at an index. -/
theorem qblk_at (r : Fin 512) (d : Fin 1024) : qblk x0 x1 x2 x3 (ix2 r d) = qpart (ublk x0 x1 x2 x3 r) d := by
  pointwise [qblk]
  rw [projb_at]
  rfl

/-- The block's normalised queries at an index: the reference's, where the row's queries are reals. -/
theorem normqb_at (g : Fin 64 → EReal) (r : Fin 512) (d : Fin 1024) (hu : ∀ k, ∃ a : ℝ, qpart (ublk x0 x1 x2 x3 r) k = (a : EReal))
    (hB : ∀ k d, x8 (ix2 k d) = if k.val / 64 = d.val / 64 then 1 else 0) (hg : ∀ d, x4 (ix2 0 d) = g ⟨d.val % 64, by omega⟩) :
    normq x0 x1 x2 x3 x4 x8 (ix2 r d) = hrms (by decide) (qpart (ublk x0 x1 x2 x3 r)) g d := by
  have e8 : k0_pay4 x8 = x8 := by pointwise [k0_pay4]
  have e4 : k0_pay5 x4 = x4 := by pointwise [k0_pay5]
  unfold normq
  rw [e8, e4, normq_at]
  simp only [qblk_at, hg]
  exact head_eq (by decide) _ hu (fun k => x8 (ix2 k d)) g d fun k => hB k d

/-- The block's normalised keys at an index: the reference's, where the row's keys are reals. -/
theorem normkb_at (g : Fin 64 → EReal) (r : Fin 512) (d : Fin 256) (hu : ∀ k, ∃ a : ℝ, kpart (ublk x0 x1 x2 x3 r) k = (a : EReal))
    (hB : ∀ k d, x9 (ix2 k d) = if k.val / 64 = d.val / 64 then 1 else 0) (hg : ∀ d, x5 (ix2 0 d) = g ⟨d.val % 64, by omega⟩) :
    normk x0 x1 x2 x3 x5 x9 (ix2 r d) = hrms (by decide) (kpart (ublk x0 x1 x2 x3 r)) g d := by
  unfold normk
  rw [normk_at]
  simp only [projb_at, hg]
  exact head_eq (by decide) _ hu (fun k => x9 (ix2 k d)) g d fun k => hB k d

/-- A row of the identity times a column is the column's entry. -/
theorem eye_sum {n : Nat} (f E : Fin n → EReal) (d : Fin n) (hE : ∀ k, E k = if k = d then 1 else 0) : (∑ k, E k * f k) = f d := by
  simp [hE]

/-- The first output's block at an index. -/
theorem qout_at (g : Fin 64 → EReal) (r : Fin 512) (d : Fin 1024) (hu : ∀ k, ∃ a : ℝ, qpart (ublk x0 x1 x2 x3 r) k = (a : EReal))
    (hB : ∀ k d, x8 (ix2 k d) = if k.val / 64 = d.val / 64 then 1 else 0) (hg : ∀ d, x4 (ix2 0 d) = g ⟨d.val % 64, by omega⟩) (hE : ∀ d k, x10 (ix2 d k) = if k = d then 1 else 0) :
    qout x0 x1 x2 x3 x4 x6 x7 x8 x10 (ix2 d r) = (rot (by decide) (hrms (by decide) (qpart (ublk x0 x1 x2 x3 r)) g) (fun k => x6 (ix2 r k)) (fun k => x7 (ix2 r k)) d * Ideal.ofBits .f32 0x3E38AA3B#32 : EReal) := by
  have e6 : k0_pay12 x6 = x6 := by pointwise [k0_pay12]
  have e7 : k0_pay13 x7 = x7 := by pointwise [k0_pay13]
  unfold qout
  rw [e6, e7]
  pointwise [k0_pay49, k0_pay48, k0_pay47]
  refine (eye_sum (fun k => (rotq (normq x0 x1 x2 x3 x4 x8) x6 x7 (ix2 r k) * Ideal.ofBits .f32 0x3E38AA3B#32 : EReal)) _ d (hE d)).trans ?_
  rw [rotq_at]
  simp only [normqb_at x0 x1 x2 x3 x4 x8 g r _ hu hB hg]

/-- The second output's block at an index. -/
theorem kout_at (g : Fin 64 → EReal) (h : Fin 4) (r : Fin 512) (j : Fin 64) (hu : ∀ k, ∃ a : ℝ, kpart (ublk x0 x1 x2 x3 r) k = (a : EReal))
    (hB : ∀ k d, x9 (ix2 k d) = if k.val / 64 = d.val / 64 then 1 else 0) (hg : ∀ d, x5 (ix2 0 d) = g ⟨d.val % 64, by omega⟩) :
    kout x0 x1 x2 x3 x5 x6 x7 x9 (ix3 h r j) = rot (by decide) (hrms (by decide) (kpart (ublk x0 x1 x2 x3 r)) g) (fun k => x6 (ix2 r k)) (fun k => x7 (ix2 r k)) ⟨h.val * 64 + j.val, by omega⟩ := by
  have e6 : k0_pay38 x6 = x6 := by pointwise [k0_pay38]
  have e7 : k0_pay39 x7 = x7 := by pointwise [k0_pay39]
  unfold kout
  rw [e6, e7]
  refine (rotk_at _ x6 x7 r ⟨h.val * 64 + j.val, by omega⟩).trans ?_
  simp only [normkb_at x0 x1 x2 x3 x5 x9 g r _ hu hB hg]

/-- The transposed values at an index. -/
theorem vals_at (r : Fin 512) (d : Fin 256) (hE : ∀ d k, x11 (ix2 d k) = if k = d then 1 else 0) :
    k0_pay50 (k0_pay11 (proj x0 x1 x2 x3)) x11 (ix2 d r) = vpart (ublk x0 x1 x2 x3 r) d := by
  pointwise [k0_pay50, k0_pay11]
  refine (eye_sum _ _ d (hE d)).trans ?_
  rw [projb_at]
  rfl

/-- The row of ones over rows of zeros at an index. -/
theorem ones_at (l : Fin 16) (r : Fin 512) : k0_pay52 (F := Ideal) (ix2 l r) = (if l.val = 0 then Ideal.ofBits .f32 0x3F800000#32 else Ideal.ofBits .f32 0x00000000#32 : EReal) := by
  pointwise [k0_pay52]
  have h : ∀ l : Fin 16, IntOp.cmpi .eq (BitVec.ofNat 32 l.val) 0#32 = BitVec.ofBool (decide (l.val = 0)) := by decide
  rw [h l]
  by_cases hl : l.val = 0 <;> simp only [hl, decide_true, decide_false, BitVec.ofBool_true, BitVec.ofBool_false, if_true, if_false] <;> rfl

/-- The third output's block at an index. -/
theorem vout_at (h : Fin 4) (l : Fin 80) (r : Fin 512) (hE : ∀ d k, x11 (ix2 d k) = if k = d then 1 else 0) :
    vout x0 x1 x2 x3 x11 (ix3 h l r) = (if hl : l.val < 64 then vpart (ublk x0 x1 x2 x3 r) ⟨h.val * 64 + l.val, by omega⟩ else if l.val = 64 then Ideal.ofBits .f32 0x3F800000#32 else Ideal.ofBits .f32 0x00000000#32 : EReal) := by
  unfold vout
  by_cases hl : l.val < 64
  · refine (dif_pos hl).trans ((vals_at x0 x1 x2 x3 x11 r _ hE).trans ?_)
    rw [dif_pos hl]
    rfl
  · refine (dif_neg hl).trans ((ones_at _ r).trans ?_)
    rw [dif_neg hl]
    have e : (l.val - 64 = 0) = (l.val = 64) := by apply propext; omega
    show (if l.val - 64 = 0 then _ else _) = _
    simp only [e]

end Cert.Kernel5Ideal.Qkv

end
-- ==== Proof.QkvEntry.lean ====
/- What the host prepares for the projection to queries, keys and values. -/
module

public import proofs.«01_k».proof.Proof.QkvRef
public import proofs.«01_k».proof.Proof.Gen.Kernel5Ideal.Run
public import Idealize.ShloMosaic.Lib.Pipeline.ValueKit

@[expose] public section

set_option maxRecDepth 65536

noncomputable section

open Idealize.ShloMosaic Idealize.ShloMosaic.TcCoe Idealize.SL.Sem
open Idealize.ShloMosaic.Pipeline (Dat)

namespace Cert.Kernel5Ideal.Qkv

open Cert.Mlp Cert.Kernel5Ideal Cert.Kernel5Ideal.Gen

variable (m : (ℓ : Loc nD τ sig) → Buf (Elt Ideal) ℓ)

/-- The modulation's six rows over two rows of zeros, as the host prepares them. -/
def pads (x : FVec Ideal S6144 .f32) : FVec Ideal S8x1024 .f32 :=
  pad S8x1024 ![0, 0] ![2, 0] ![0, 0] (shapeCast S6x1024 x shapeCasts_S6144_S6x1024) (sitofp .f32 (constantI S_ 32 0#32)) pads_S6x1024_S8x1024_020_000 h_S_

/-- The prepared rows: the first. -/
theorem pads_0 (x : FVec Ideal S6144 .f32) (d : Fin 1024) : pads x (ix2 0 d) = rows x 0 d := by
  pointwise [pads, rows]
  blk_ext

/-- The prepared rows: the second. -/
theorem pads_1 (x : FVec Ideal S6144 .f32) (d : Fin 1024) : pads x (ix2 1 d) = rows x 1 d := by
  pointwise [pads, rows]
  blk_ext

/-- A row of lane numbers over the lanes of a head, rounded down, as the host computes it. -/
def heads (s : Shape) (b : S_.BroadcastsInDim s (![] : Fin 0 → Fin s.rank)) (x : IVec s 32) : IVec s 32 :=
  select (andi (cmpi .ne (signi x) (broadcastInDim s ![] b (signi (constantI S_ 32 64#32))))
      (cmpi .ne (Host.remsi x (broadcastInDim s ![] b (constantI S_ 32 64#32))) (broadcastInDim s ![] b (constantI S_ 32 0#32))))
    (subi (Host.divsi x (broadcastInDim s ![] b (constantI S_ 32 64#32))) (broadcastInDim s ![] b (constantI S_ 32 1#32)))
    (Host.divsi x (broadcastInDim s ![] b (constantI S_ 32 64#32)))

set_option maxHeartbeats 2000000 in
/-- What window 1 stages: the prepared rows. -/
theorem entry1 (c : Dev nD) : V m c main_v46 = pads (m ((c : Thread nD τ).loc main_arg1)) := by
  unfold V V0
  simp only [hostOps0, hostOps0_1, hostOps0_2, hostOps0_3, hostOps0_4, hostOps0_5, hostOps0_6, List.flatten_cons, List.flatten_nil, List.append_nil, List.cons_append, List.nil_append]
  after_results
  rfl

/-- Four tables of sixteen lanes side by side. -/
def quad (a b c d : FVec Ideal S16384x16 .f32) : FVec Ideal S16384x64 .f32 :=
  concatenate S16384x64 1 [⟨S16384x16, a⟩, ⟨S16384x16, b⟩, ⟨S16384x16, c⟩, ⟨S16384x16, d⟩] concatenates_S16384x16_S16384x16_S16384x16_S16384x16_S16384x64_d1

/-- A table of a head's lanes over the lanes of two heads. -/
def twice (t : FVec Ideal S16384x64 .f32) : FVec Ideal S16384x128 .f32 :=
  shapeCast S16384x128 (broadcastInDim S1x16384x2x64 ![0, 1, 2, 3] bcast_S1x16384x1x64_S1x16384x2x64_0_1_2_3 (shapeCast S1x16384x1x64 t shapeCasts_S16384x64_S1x16384x1x64)) shapeCasts_S1x16384x2x64_S16384x128

/-- The cosines of the angles of a row's number and of its column, over the lanes of two heads. -/
def cosT : FVec Ideal S16384x128 .f32 :=
  twice (quad (Cert.Reference5Ideal.Read.val_main_v29 (F := Ideal)) (Cert.Reference5Ideal.Read.val_main_v29 (F := Ideal)) (Cert.Reference5Ideal.Read.val_main_v31 (F := Ideal)) (Cert.Reference5Ideal.Read.val_main_v31 (F := Ideal)))

/-- The sines of the angles of a row's number and of its column, over the lanes of two heads, with the sign of the first of each pair turned. -/
def sinT : FVec Ideal S16384x128 .f32 :=
  twice (quad (Host.negf (Cert.Reference5Ideal.Read.val_main_v30 (F := Ideal))) (Cert.Reference5Ideal.Read.val_main_v30 (F := Ideal)) (Host.negf (Cert.Reference5Ideal.Read.val_main_v32 (F := Ideal))) (Cert.Reference5Ideal.Read.val_main_v32 (F := Ideal)))

/-- Two tables, each twice, over the lanes of two heads at an index. -/
theorem twice_cos (a b : FVec Ideal S16384x16 .f32) (r : Fin 16384) (l : Fin 128) :
    twice (quad a a b b) (ix2 r l) = cosL (fun k => a (ix2 r k)) (fun k => b (ix2 r k)) l := by
  pointwise [twice, quad]
  unfold cosL
  have f : ∀ (z : FVec Ideal S16384x16 .f32) (a b : Nat) (ha : a < 16) (hb : b < 16), a = b → z (ix2 r ⟨a, ha⟩) = z (ix2 r ⟨b, hb⟩) := fun z a b ha hb e => by subst e; rfl
  by_cases h1 : l.val % 64 < 16
  · exact (dif_pos h1).trans (Eq.trans (f a _ _ _ _ (by omega)) (if_pos (by omega)).symm)
  · refine (dif_neg h1).trans ?_
    by_cases h2 : l.val % 64 - 16 < 16
    · exact (dif_pos h2).trans (Eq.trans (f a _ _ _ _ (by omega)) (if_pos (by omega)).symm)
    · refine (dif_neg h2).trans ?_
      by_cases h3 : l.val % 64 - 16 - 16 < 16
      · exact (dif_pos h3).trans (Eq.trans (f b _ _ _ _ (by omega)) (if_neg (by omega)).symm)
      · exact (dif_neg h3).trans (Eq.trans (f b _ _ _ _ (by omega)) (if_neg (by omega)).symm)

/-- Two tables, each negated and as it is, over the lanes of two heads at an index. -/
theorem twice_sin (a b : FVec Ideal S16384x16 .f32) (r : Fin 16384) (l : Fin 128) :
    twice (quad (Host.negf a) a (Host.negf b) b) (ix2 r l) = sinL (fun k => a (ix2 r k)) (fun k => b (ix2 r k)) l := by
  pointwise [twice, quad]
  unfold sinL
  have f : ∀ (z : FVec Ideal S16384x16 .f32) (a b : Nat) (ha : a < 16) (hb : b < 16), a = b → z (ix2 r ⟨a, ha⟩) = z (ix2 r ⟨b, hb⟩) := fun z a b ha hb e => by subst e; rfl
  by_cases h1 : l.val % 64 < 16
  · refine (dif_pos h1).trans (Eq.trans ?_ (if_pos (by omega)).symm)
    exact congrArg Neg.neg (Eq.trans (f a _ _ _ _ (by omega)) (if_pos (by omega)).symm)
  · refine (dif_neg h1).trans ?_
    by_cases h2 : l.val % 64 - 16 < 16
    · refine (dif_pos h2).trans (Eq.trans ?_ (if_neg (by omega)).symm)
      exact Eq.trans (f a _ _ _ _ (by omega)) (if_pos (by omega)).symm
    · refine (dif_neg h2).trans ?_
      by_cases h3 : l.val % 64 - 16 - 16 < 16
      · refine (dif_pos h3).trans (Eq.trans ?_ (if_pos (by omega)).symm)
        exact congrArg Neg.neg (Eq.trans (f b _ _ _ _ (by omega)) (if_neg (by omega)).symm)
      · refine (dif_neg h3).trans (Eq.trans ?_ (if_neg (by omega)).symm)
        exact Eq.trans (f b _ _ _ _ (by omega)) (if_neg (by omega)).symm

/-- The prepared cosines at an index. -/
theorem cosT_at (r : Fin 16384) (l : Fin 128) : cosT (ix2 r l) = cosr r l := twice_cos _ _ r l

/-- The prepared sines at an index. -/
theorem sinT_at (r : Fin 16384) (l : Fin 128) : sinT (ix2 r l) = sinr r l := twice_sin _ _ r l

/-- A matrix of ones where two lanes are of one head, over the lanes of the queries. -/
def onesq : FVec Ideal S1024x1024 .bf16 :=
  uitofp .bf16 (cmpi .eq (broadcastInDim S1024x1024 ![0, 1] bcast_S1024x1_S1024x1024_0_1 (broadcastInDim S1024x1 ![0] bcast_S1024_S1024x1_0 (heads S1024 bcast_S_S1024 (iotaInDim S1024 32 0))))
    (broadcastInDim S1024x1024 ![0, 1] bcast_S1x1024_S1024x1024_0_1 (broadcastInDim S1x1024 ![1] bcast_S1024_S1x1024_1 (heads S1024 bcast_S_S1024 (iotaInDim S1024 32 0)))))

/-- A matrix of ones where two lanes are of one head, over the lanes of the keys. -/
def onesk : FVec Ideal S256x256 .bf16 :=
  uitofp .bf16 (cmpi .eq (broadcastInDim S256x256 ![0, 1] bcast_S256x1_S256x256_0_1 (broadcastInDim S256x1 ![0] bcast_S256_S256x1_0 (heads S256 bcast_S_S256 (iotaInDim S256 32 0))))
    (broadcastInDim S256x256 ![0, 1] bcast_S1x256_S256x256_0_1 (broadcastInDim S1x256 ![1] bcast_S256_S1x256_1 (heads S256 bcast_S_S256 (iotaInDim S256 32 0)))))

/-- The identity over the queries' lanes. -/
def eyeq : FVec Ideal S1024x1024 .bf16 :=
  uitofp .bf16 (cmpi .eq (addi (iotaInDim S1024x1024 32 0) (broadcastInDim S1024x1024 ![] bcast_S_S1024x1024 (constantI S_ 32 0#32))) (iotaInDim S1024x1024 32 1))

/-- The identity over the values' lanes. -/
def eyek : FVec Ideal S256x256 .bf16 :=
  uitofp .bf16 (cmpi .eq (addi (iotaInDim S256x256 32 0) (broadcastInDim S256x256 ![] bcast_S_S256x256 (constantI S_ 32 0#32))) (iotaInDim S256x256 32 1))

/-- The heads of the queries' lanes. -/
theorem headsq : ∀ k : Fin 1024, heads S1024 bcast_S_S1024 (iotaInDim S1024 32 0) (ix1 k) = BitVec.ofNat 32 (k.val / 64) := by decide +kernel

/-- The heads of the keys' lanes. -/
theorem headsk : ∀ k : Fin 256, heads S256 bcast_S_S256 (iotaInDim S256 32 0) (ix1 k) = BitVec.ofNat 32 (k.val / 64) := by decide +kernel

/-- The comparison of two numbers, as a float: one where they are one number, else zero. -/
theorem eq_at (a b : Nat) (ha : a < 2048) (hb : b < 2048) :
    (FloatOps.uitofp (F := Ideal) .bf16 (IntOp.cmpi .eq (BitVec.ofNat 32 a) (BitVec.ofNat 32 b)) : EReal) = if a = b then 1 else 0 := by
  have h : (BitVec.ofNat 32 a = BitVec.ofNat 32 b) = (a = b) := by
    apply propext
    constructor
    · intro h
      have := congrArg BitVec.toNat h
      simp only [BitVec.toNat_ofNat] at this
      omega
    · intro h; rw [h]
  unfold IntOp.cmpi
  by_cases e : a = b
  · subst e
    simp
    show ((((1#1 : BitVec 1).toNat : ℝ)) : EReal) = 1
    simp
  · have hb : (BitVec.ofNat 32 a == BitVec.ofNat 32 b) = false := by
      rw [beq_eq_false_iff_ne, ne_eq, h]; exact e
    simp only [hb, e, if_false]
    show ((((BitVec.ofBool false).toNat : ℝ)) : EReal) = 0
    simp

/-- The matrix of ones over the queries' lanes at an index. -/
theorem onesq_at (k d : Fin 1024) : onesq (ix2 k d) = (if k.val / 64 = d.val / 64 then 1 else 0 : EReal) := by
  pointwise [onesq]
  rw [headsq, headsq]
  exact eq_at _ _ (by omega) (by omega)

/-- The matrix of ones over the keys' lanes at an index. -/
theorem onesk_at (k d : Fin 256) : onesk (ix2 k d) = (if k.val / 64 = d.val / 64 then 1 else 0 : EReal) := by
  pointwise [onesk]
  rw [headsk, headsk]
  exact eq_at _ _ (by omega) (by omega)

/-- The identity over the queries' lanes at an index. -/
theorem eyeq_at (d k : Fin 1024) : eyeq (ix2 d k) = (if k = d then 1 else 0 : EReal) := by
  pointwise [eyeq]
  have e : IntOp.addi (BitVec.ofNat 32 d.val) 0#32 = BitVec.ofNat 32 d.val := BitVec.add_zero _
  rw [e, eq_at _ _ (by omega) (by omega)]
  simp only [Fin.ext_iff, eq_comm]

/-- The identity over the values' lanes at an index. -/
theorem eyek_at (d k : Fin 256) : eyek (ix2 d k) = (if k = d then 1 else 0 : EReal) := by
  pointwise [eyek]
  have e : IntOp.addi (BitVec.ofNat 32 d.val) 0#32 = BitVec.ofNat 32 d.val := BitVec.add_zero _
  rw [e, eq_at _ _ (by omega) (by omega)]
  simp only [Fin.ext_iff, eq_comm]

set_option maxHeartbeats 2000000 in
/-- What window 2 stages: the first of the four gains. -/
theorem entry2 (c : Dev nD) : V m c main_v47 = extractStridedSlice S1x1024 ![0, 0] (m ((c : Thread nD τ).loc main_arg2)) slices_S4x1024_S1x1024_0_0 := by
  unfold V V0
  simp only [hostOps0, hostOps0_1, hostOps0_2, hostOps0_3, hostOps0_4, hostOps0_5, hostOps0_6, List.flatten_cons, List.flatten_nil, List.append_nil, List.cons_append, List.nil_append]
  after_results

set_option maxHeartbeats 2000000 in
/-- What window 3 stages: the weights. -/
theorem entry3 (c : Dev nD) : V m c main_v48 = truncf (F := Ideal) .bf16 (m ((c : Thread nD τ).loc main_arg3)) bitsLt_bf16_f32 := by
  unfold V V0
  simp only [hostOps0, hostOps0_1, hostOps0_2, hostOps0_3, hostOps0_4, hostOps0_5, hostOps0_6, List.flatten_cons, List.flatten_nil, List.append_nil, List.cons_append, List.nil_append]
  after_results

set_option maxHeartbeats 2000000 in
/-- What window 4 stages: the queries' gains, head by head. -/
theorem entry4 (c : Dev nD) : V m c main_v52 = shapeCast S1x1024 (shapeCast S1024 (broadcastInDim S16x64 ![0, 1] bcast_S1x64_S16x64_0_1 (shapeCast S1x64 ((m ((c : Thread nD τ).loc main_arg4)) : FVec Ideal S64 .f32) shapeCasts_S64_S1x64)) shapeCasts_S16x64_S1024) shapeCasts_S1024_S1x1024 := by
  unfold V V0
  simp only [hostOps0, hostOps0_1, hostOps0_2, hostOps0_3, hostOps0_4, hostOps0_5, hostOps0_6, List.flatten_cons, List.flatten_nil, List.append_nil, List.cons_append, List.nil_append]
  after_results
  rfl

set_option maxHeartbeats 2000000 in
/-- What window 5 stages: the keys' gains, head by head. -/
theorem entry5 (c : Dev nD) : V m c main_v56 = shapeCast S1x256 (shapeCast S256 (broadcastInDim S4x64 ![0, 1] bcast_S1x64_S4x64_0_1 (shapeCast S1x64 ((m ((c : Thread nD τ).loc main_arg5)) : FVec Ideal S64 .f32) shapeCasts_S64_S1x64)) shapeCasts_S4x64_S256) shapeCasts_S256_S1x256 := by
  unfold V V0
  simp only [hostOps0, hostOps0_1, hostOps0_2, hostOps0_3, hostOps0_4, hostOps0_5, hostOps0_6, List.flatten_cons, List.flatten_nil, List.append_nil, List.cons_append, List.nil_append]
  after_results
  rfl

set_option maxHeartbeats 2000000 in
/-- What window 6 stages: the cosines. -/
theorem entry6 (c : Dev nD) : V m c main_v41 = cosT := by
  unfold V V0
  simp only [hostOps0, hostOps0_1, hostOps0_2, hostOps0_3, hostOps0_4, hostOps0_5, hostOps0_6, List.flatten_cons, List.flatten_nil, List.append_nil, List.cons_append, List.nil_append]
  after_results
  rfl

set_option maxHeartbeats 2000000 in
/-- What window 7 stages: the sines. -/
theorem entry7 (c : Dev nD) : V m c main_v44 = sinT := by
  unfold V V0
  simp only [hostOps0, hostOps0_1, hostOps0_2, hostOps0_3, hostOps0_4, hostOps0_5, hostOps0_6, List.flatten_cons, List.flatten_nil, List.append_nil, List.cons_append, List.nil_append]
  after_results
  rfl

set_option maxHeartbeats 2000000 in
/-- What window 8 stages: the ones over the queries' heads. -/
theorem entry8 (c : Dev nD) : V m c main_v64 = onesq := by
  unfold V V0
  simp only [hostOps0, hostOps0_1, hostOps0_2, hostOps0_3, hostOps0_4, hostOps0_5, hostOps0_6, List.flatten_cons, List.flatten_nil, List.append_nil, List.cons_append, List.nil_append]
  after_results
  rfl

set_option maxHeartbeats 2000000 in
/-- What window 9 stages: the ones over the keys' heads. -/
theorem entry9 (c : Dev nD) : V m c main_v72 = onesk := by
  unfold V V0
  simp only [hostOps0, hostOps0_1, hostOps0_2, hostOps0_3, hostOps0_4, hostOps0_5, hostOps0_6, List.flatten_cons, List.flatten_nil, List.append_nil, List.cons_append, List.nil_append]
  after_results
  rfl

set_option maxHeartbeats 2000000 in
/-- What window 10 stages: the identity over the queries' lanes. -/
theorem entry10 (c : Dev nD) : V m c main_v78 = eyeq := by
  unfold V V0
  simp only [hostOps0, hostOps0_1, hostOps0_2, hostOps0_3, hostOps0_4, hostOps0_5, hostOps0_6, List.flatten_cons, List.flatten_nil, List.append_nil, List.cons_append, List.nil_append]
  after_results
  rfl

set_option maxHeartbeats 2000000 in
/-- What window 11 stages: the identity over the values' lanes. -/
theorem entry11 (c : Dev nD) : V m c main_v84 = eyek := by
  unfold V V0
  simp only [hostOps0, hostOps0_1, hostOps0_2, hostOps0_3, hostOps0_4, hostOps0_5, hostOps0_6, List.flatten_cons, List.flatten_nil, List.append_nil, List.cons_append, List.nil_append]
  after_results
  rfl

end Cert.Kernel5Ideal.Qkv

end
-- ==== Proof.Qkv.lean ====
/- The projection to queries, keys and values of the latent rows: what the kernel leaves is the reference's three results. -/
module

public import proofs.«01_k».proof.Proof.Finite5
public import proofs.«01_k».proof.Proof.QkvAt
public import proofs.«01_k».proof.Proof.QkvEntry
public import proofs.«01_k».proof.Proof.Gen.Reference5Ideal.Run
public import proofs.«01_k».proof.Proof.Gen.Kernel5.Frame
public import Idealize.ShloMosaic.Lib.Claim

@[expose] public section

set_option maxRecDepth 65536

noncomputable section

open Idealize.ShloMosaic Idealize.ShloMosaic.TcCoe Idealize.SL.Sem
open Idealize.ShloMosaic.Pipeline (Dat)

namespace Cert.Kernel5Ideal.Qkv

open Cert.Mlp Cert.Kernel5Ideal Cert.Kernel5Ideal.Gen

/-- Every window's block at every grid point. -/
theorem idx : ∀ t : Fin cfg0.N, (win0_0.index t = ![t.val, 0] ∧ win0_6.index t = ![t.val, 0] ∧ win0_7.index t = ![t.val, 0]) ∧ (win0_1.index t = ![0, 0] ∧ win0_2.index t = ![0, 0]
    ∧ win0_3.index t = ![0, 0] ∧ win0_4.index t = ![0, 0] ∧ win0_5.index t = ![0, 0]) ∧ (win0_8.index t = ![0, 0] ∧ win0_9.index t = ![0, 0] ∧ win0_10.index t = ![0, 0] ∧ win0_11.index t = ![0, 0])
    ∧ (win0_12.index t = ![0, t.val] ∧ win0_13.index t = ![0, t.val, 0] ∧ win0_14.index t = ![0, 0, t.val]) ∧ t.val < 32 :=
  (by decide +kernel : ∀ t : Fin grid0.N, _)

variable (m : (ℓ : Loc nD τ sig) → Buf (Elt Ideal) ℓ)

/-- The block of rows a point stages. -/
theorem blk0 (c : Dev nD) (t : Fin cfg0.N) (r : Fin 512) (d : Fin 1024) (w : Fin 32) (hw : w.val = t.val) :
    iblk m c 0 t (ix2 r d) = (m ((c : Thread nD τ).loc main_arg0) : FVec Ideal S16384x1024 .f32) (ix2 ⟨512 * w.val + r.val, by omega⟩ d) := by
  have h : (V m c main_arg0 : FVec Ideal S16384x1024 .f32) (ix2 ⟨512 * w.val + r.val, by omega⟩ d) = _ := congrFun (V_main_arg0 m c) _
  rw [← h]
  blk_simp [iblk]
  refine congrArg (V m c main_arg0) ?_
  blk_ext [idx t, hw]

/-- The block of the modulation's rows a point stages. -/
theorem blk1 (c : Dev nD) (t : Fin cfg0.N) (r : Fin 8) (d : Fin 1024) :
    iblk m c 1 t (ix2 r d) = pads (m ((c : Thread nD τ).loc main_arg1)) (ix2 r d) := by
  have h : (V m c main_v46 : FVec Ideal S8x1024 .f32) (ix2 r d) = pads (m ((c : Thread nD τ).loc main_arg1)) (ix2 r d) := by
    rw [entry1 m c]
  rw [← h]
  blk_simp [iblk]
  refine congrArg (V m c main_v46) ?_
  blk_ext [idx t]

/-- The block of gains a point stages. -/
theorem blk2 (c : Dev nD) (t : Fin cfg0.N) (d : Fin 1024) :
    iblk m c 2 t (ix2 0 d) = (m ((c : Thread nD τ).loc main_arg2) : FVec Ideal S4x1024 .f32) (ix2 0 d) := by
  have h : (V m c main_v47 : FVec Ideal S1x1024 .f32) (ix2 0 d) = (m ((c : Thread nD τ).loc main_arg2) : FVec Ideal S4x1024 .f32) (ix2 0 d) := by
    rw [entry2 m c]
    pointwise
  rw [← h]
  blk_simp [iblk]
  refine congrArg (V m c main_v47) ?_
  blk_ext [idx t]

/-- The block of weights a point stages. -/
theorem blk3 (c : Dev nD) (t : Fin cfg0.N) (k : Fin 1024) (e : Fin 1536) :
    iblk m c 3 t (ix2 k e) = (m ((c : Thread nD τ).loc main_arg3) : FVec Ideal S1024x1536 .f32) (ix2 k e) := by
  have h : (V m c main_v48 : FVec Ideal S1024x1536 .bf16) (ix2 k e) = (m ((c : Thread nD τ).loc main_arg3) : FVec Ideal S1024x1536 .f32) (ix2 k e) := by
    rw [entry3 m c]
    pointwise
  rw [← h]
  blk_simp [iblk]
  refine congrArg (V m c main_v48) ?_
  blk_ext [idx t]

/-- The block of the queries' gains a point stages. -/
theorem blk4 (c : Dev nD) (t : Fin cfg0.N) (d : Fin 1024) :
    iblk m c 4 t (ix2 0 d) = (m ((c : Thread nD τ).loc main_arg4) : FVec Ideal S64 .f32) (ix1 ⟨d.val % 64, by omega⟩) := by
  have h : (V m c main_v52 : FVec Ideal S1x1024 .f32) (ix2 0 d) = (m ((c : Thread nD τ).loc main_arg4) : FVec Ideal S64 .f32) (ix1 ⟨d.val % 64, by omega⟩) := by
    rw [entry4 m c]
    pointwise
  rw [← h]
  blk_simp [iblk]
  refine congrArg (V m c main_v52) ?_
  blk_ext [idx t]

/-- The block of the keys' gains a point stages. -/
theorem blk5 (c : Dev nD) (t : Fin cfg0.N) (d : Fin 256) :
    iblk m c 5 t (ix2 0 d) = (m ((c : Thread nD τ).loc main_arg5) : FVec Ideal S64 .f32) (ix1 ⟨d.val % 64, by omega⟩) := by
  have h : (V m c main_v56 : FVec Ideal S1x256 .f32) (ix2 0 d) = (m ((c : Thread nD τ).loc main_arg5) : FVec Ideal S64 .f32) (ix1 ⟨d.val % 64, by omega⟩) := by
    rw [entry5 m c]
    pointwise
  rw [← h]
  blk_simp [iblk]
  refine congrArg (V m c main_v56) ?_
  blk_ext [idx t]

/-- The block of cosines a point stages. -/
theorem blk6 (c : Dev nD) (t : Fin cfg0.N) (r : Fin 512) (l : Fin 128) (w : Fin 32) (hw : w.val = t.val) :
    iblk m c 6 t (ix2 r l) = cosr ⟨512 * w.val + r.val, by omega⟩ l := by
  have h : (V m c main_v41 : FVec Ideal S16384x128 .f32) (ix2 ⟨512 * w.val + r.val, by omega⟩ l) = cosr ⟨512 * w.val + r.val, by omega⟩ l := by
    rw [entry6 m c]
    exact cosT_at _ l
  rw [← h]
  blk_simp [iblk]
  refine congrArg (V m c main_v41) ?_
  blk_ext [idx t, hw]

/-- The block of sines a point stages. -/
theorem blk7 (c : Dev nD) (t : Fin cfg0.N) (r : Fin 512) (l : Fin 128) (w : Fin 32) (hw : w.val = t.val) :
    iblk m c 7 t (ix2 r l) = sinr ⟨512 * w.val + r.val, by omega⟩ l := by
  have h : (V m c main_v44 : FVec Ideal S16384x128 .f32) (ix2 ⟨512 * w.val + r.val, by omega⟩ l) = sinr ⟨512 * w.val + r.val, by omega⟩ l := by
    rw [entry7 m c]
    exact sinT_at _ l
  rw [← h]
  blk_simp [iblk]
  refine congrArg (V m c main_v44) ?_
  blk_ext [idx t, hw]

/-- The block of ones over the queries' heads a point stages. -/
theorem blk8 (c : Dev nD) (t : Fin cfg0.N) (k d : Fin 1024) :
    iblk m c 8 t (ix2 k d) = (if k.val / 64 = d.val / 64 then 1 else 0 : EReal) := by
  have h : (V m c main_v64 : FVec Ideal S1024x1024 .bf16) (ix2 k d) = (if k.val / 64 = d.val / 64 then 1 else 0 : EReal) := by
    rw [entry8 m c]
    exact onesq_at k d
  rw [← h]
  blk_simp [iblk]
  refine congrArg (V m c main_v64) ?_
  blk_ext [idx t]

/-- The block of ones over the keys' heads a point stages. -/
theorem blk9 (c : Dev nD) (t : Fin cfg0.N) (k d : Fin 256) :
    iblk m c 9 t (ix2 k d) = (if k.val / 64 = d.val / 64 then 1 else 0 : EReal) := by
  have h : (V m c main_v72 : FVec Ideal S256x256 .bf16) (ix2 k d) = (if k.val / 64 = d.val / 64 then 1 else 0 : EReal) := by
    rw [entry9 m c]
    exact onesk_at k d
  rw [← h]
  blk_simp [iblk]
  refine congrArg (V m c main_v72) ?_
  blk_ext [idx t]

/-- The block of the identity over the queries' lanes a point stages. -/
theorem blk10 (c : Dev nD) (t : Fin cfg0.N) (k d : Fin 1024) :
    iblk m c 10 t (ix2 k d) = (if d = k then 1 else 0 : EReal) := by
  have h : (V m c main_v78 : FVec Ideal S1024x1024 .bf16) (ix2 k d) = (if d = k then 1 else 0 : EReal) := by
    rw [entry10 m c]
    exact eyeq_at k d
  rw [← h]
  blk_simp [iblk]
  refine congrArg (V m c main_v78) ?_
  blk_ext [idx t]

/-- The block of the identity over the values' lanes a point stages. -/
theorem blk11 (c : Dev nD) (t : Fin cfg0.N) (k d : Fin 256) :
    iblk m c 11 t (ix2 k d) = (if d = k then 1 else 0 : EReal) := by
  have h : (V m c main_v84 : FVec Ideal S256x256 .bf16) (ix2 k d) = (if d = k then 1 else 0 : EReal) := by
    rw [entry11 m c]
    exact eyek_at k d
  rw [← h]
  blk_simp [iblk]
  refine congrArg (V m c main_v84) ?_
  blk_ext [idx t]

/-- A row of a point's projection is the reference's row. -/
theorem ublk_eq (c : Dev nD) (t : Fin cfg0.N) (r : Fin 512) (w : Fin 32) (hw : w.val = t.val) :
    ublk (iblk m c 0 t) (iblk m c 1 t) (iblk m c 2 t) (iblk m c 3 t) r = urow (m ((c : Thread nD τ).loc main_arg0)) (m ((c : Thread nD τ).loc main_arg1)) (m ((c : Thread nD τ).loc main_arg2)) (m ((c : Thread nD τ).loc main_arg3)) ⟨512 * w.val + r.val, by omega⟩ := by
  have e0 : (fun k => iblk m c 0 t (ix2 r k)) = fun k => (m ((c : Thread nD τ).loc main_arg0) : FVec Ideal S16384x1024 .f32) (ix2 ⟨512 * w.val + r.val, by omega⟩ k) := funext fun k => blk0 m c t r k w hw
  have e1 : (fun k => iblk m c 1 t (ix2 0 k)) = rows (m ((c : Thread nD τ).loc main_arg1)) 0 := funext fun k => (blk1 m c t 0 k).trans (pads_0 _ k)
  have e2 : (fun k => iblk m c 1 t (ix2 1 k)) = rows (m ((c : Thread nD τ).loc main_arg1)) 1 := funext fun k => (blk1 m c t 1 k).trans (pads_1 _ k)
  have e3 : (fun k => iblk m c 2 t (ix2 0 k)) = fun k => (m ((c : Thread nD τ).loc main_arg2) : FVec Ideal S4x1024 .f32) (ix2 0 k) := funext fun k => blk2 m c t k
  have e4 : (fun k e => iblk m c 3 t (ix2 k e)) = fun k e => (m ((c : Thread nD τ).loc main_arg3) : FVec Ideal S1024x1536 .f32) (ix2 k e) := funext fun k => funext fun e => blk3 m c t k e
  unfold ublk urow
  rw [e0, e1, e2, e3, e4]

/-- What the claim's precondition gives of the arguments: the entries that reach the queries and the keys are reals. -/
def Fin5 (md : FVec Ideal S6144 .f32) (g : FVec Ideal S4x1024 .f32) (w : FVec Ideal S1024x1536 .f32) : Prop :=
  (∀ i : Fin 2048, ∃ r : ℝ, md (ix1 ⟨i.val, by omega⟩) = (r : EReal)) ∧ (∀ d : Fin 1024, ∃ r : ℝ, g (ix2 0 d) = (r : EReal))
      ∧ (∀ (k : Fin 1024) (e : Fin 1280), ∃ r : ℝ, w (ix2 k ⟨e.val, by omega⟩) = (r : EReal))

/-- A row's projection is real at a query's or a key's column. -/
theorem urow_real (x : FVec Ideal S16384x1024 .f32) (md : FVec Ideal S6144 .f32) (g : FVec Ideal S4x1024 .f32) (w : FVec Ideal S1024x1536 .f32) (h : Fin5 md g w) (r : Fin 16384) (e : Fin 1280) :
    ∃ a : ℝ, urow x md g w r ⟨e.val, by omega⟩ = (a : EReal) :=
  uqkv_real _ _ _ _ _ _ h.2.1 (fun d => h.1 ⟨1024 * 0 + d.val, by omega⟩) (fun d => h.1 ⟨1024 * 1 + d.val, by omega⟩) fun k => h.2.2 k e

variable (x : FVec Ideal S16384x1024 .f32) (md : FVec Ideal S6144 .f32) (g : FVec Ideal S4x1024 .f32) (w : FVec Ideal S1024x1536 .f32) (qn kn : FVec Ideal S64 .f32)

/-- What the call leaves of the queries: scaled, lanes by rows. -/
def qT : FVec Ideal S1024x16384 .bf16 := fun i => qrow x md g w qn (i 1) (i 0) * Ideal.ofBits .f32 0x3E38AA3B#32

/-- What the call leaves of the keys: by head. -/
def kH : FVec Ideal S4x16384x64 .bf16 := fun i => krow x md g w kn (i 1) ⟨(i 0).val * 64 + (i 2).val, by have h0 : (i 0).val < 4 := (i 0).isLt; have h2 : (i 2).val < 64 := (i 2).isLt; omega⟩

/-- What the call leaves of the values: by head, lanes by rows, over a row of ones and rows of zeros. -/
def vT : FVec Ideal S4x80x16384 .bf16 := fun i => if hl : (i 1).val < 64 then vpart (urow x md g w (i 2)) ⟨(i 0).val * 64 + (i 1).val, by have h0 : (i 0).val < 4 := (i 0).isLt; omega⟩
  else if (i 1).val = 64 then Ideal.ofBits .f32 0x3F800000#32 else Ideal.ofBits .f32 0x00000000#32

/-- What a point stores of the first output. -/
theorem pointq (c : Dev nD) (hf : Fin5 (m ((c : Thread nD τ).loc main_arg1)) (m ((c : Thread nD τ).loc main_arg2)) (m ((c : Thread nD τ).loc main_arg3))) (t : Fin cfg0.N) (r : Fin 512) (d : Fin 1024) (w : Fin 32) (hw : w.val = t.val) :
    qout (iblk m c 0 t) (iblk m c 1 t) (iblk m c 2 t) (iblk m c 3 t) (iblk m c 4 t) (iblk m c 6 t) (iblk m c 7 t) (iblk m c 8 t) (iblk m c 10 t) (ix2 d r) = qT (m ((c : Thread nD τ).loc main_arg0)) (m ((c : Thread nD τ).loc main_arg1)) (m ((c : Thread nD τ).loc main_arg2)) (m ((c : Thread nD τ).loc main_arg3)) (m ((c : Thread nD τ).loc main_arg4)) (ix2 d ⟨512 * w.val + r.val, by omega⟩) := by
  have e6 : (fun k => iblk m c 6 t (ix2 r k)) = cosr ⟨512 * w.val + r.val, by omega⟩ := funext fun k => blk6 m c t r k w hw
  have e7 : (fun k => iblk m c 7 t (ix2 r k)) = sinr ⟨512 * w.val + r.val, by omega⟩ := funext fun k => blk7 m c t r k w hw
  have hu := ublk_eq m c t r w hw
  refine (qout_at (iblk m c 0 t) (iblk m c 1 t) (iblk m c 2 t) (iblk m c 3 t) (iblk m c 4 t) (iblk m c 6 t) (iblk m c 7 t) (iblk m c 8 t) (iblk m c 10 t) (fun k => (m ((c : Thread nD τ).loc main_arg4) : FVec Ideal S64 .f32) (ix1 k)) r d ?_ (blk8 m c t) (blk4 m c t) fun d k => (blk10 m c t d k).trans (by simp only [eq_comm])).trans ?_
  · rw [hu]
    exact fun k => urow_real _ _ _ _ hf _ ⟨k.val, by omega⟩
  · rw [hu, e6, e7]
    rfl

/-- The first output array after the last point. -/
theorem finalq (c : Dev nD) (hf : Fin5 (m ((c : Thread nD τ).loc main_arg1)) (m ((c : Thread nD τ).loc main_arg2)) (m ((c : Thread nD τ).loc main_arg3))) :
    (dats m 0 c).arrAt 12 cfg0.N = qT (m ((c : Thread nD τ).loc main_arg0)) (m ((c : Thread nD τ).loc main_arg1)) (m ((c : Thread nD τ).loc main_arg2)) (m ((c : Thread nD τ).loc main_arg3)) (m ((c : Thread nD τ).loc main_arg4)) :=
  (dats m 0 c).arrAt_eq_of_covers 12 _ (by decide +kernel) fun t _ y => by
    have ht := (idx t).2.2.2.2
    have hy0 : (y 0).val < 1024 := (y 0).isLt
    have hy1 : (y 1).val < 512 := (y 1).isLt
    have e : (dats m 0 c).after 12 t = qout (iblk m c 0 t) (iblk m c 1 t) (iblk m c 2 t) (iblk m c 3 t) (iblk m c 4 t) (iblk m c 6 t) (iblk m c 7 t) (iblk m c 8 t) (iblk m c 10 t) := by
      rw [after0_12]
      conv_lhs => unfold outsAt0; dsimp only
      exact out_q (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t)
    have hy : y = ix2 (⟨(y 0).val, hy0⟩ : Fin 1024) (⟨(y 1).val, hy1⟩ : Fin 512) := by
      funext i; apply Fin.ext; fin_cases i <;> rfl
    have key := pointq m c hf t ⟨(y 1).val, hy1⟩ ⟨(y 0).val, hy0⟩ ⟨t.val, ht⟩ rfl
    rw [← hy] at key
    rw [e]
    generalize qout (iblk m c 0 t) (iblk m c 1 t) (iblk m c 2 t) (iblk m c 3 t) (iblk m c 4 t) (iblk m c 6 t) (iblk m c 7 t) (iblk m c 8 t) (iblk m c 10 t) = f at key ⊢
    generalize qT (m ((c : Thread nD τ).loc main_arg0)) (m ((c : Thread nD τ).loc main_arg1)) (m ((c : Thread nD τ).loc main_arg2)) (m ((c : Thread nD τ).loc main_arg3)) (m ((c : Thread nD τ).loc main_arg4)) = G at key ⊢
    refine key.trans ?_
    blk_simp
    refine congrArg _ ?_
    blk_ext [idx t]

/-- What a point stores of the second output. -/
theorem pointk (c : Dev nD) (hf : Fin5 (m ((c : Thread nD τ).loc main_arg1)) (m ((c : Thread nD τ).loc main_arg2)) (m ((c : Thread nD τ).loc main_arg3))) (t : Fin cfg0.N) (h : Fin 4) (r : Fin 512) (j : Fin 64) (w : Fin 32) (hw : w.val = t.val) :
    kout (iblk m c 0 t) (iblk m c 1 t) (iblk m c 2 t) (iblk m c 3 t) (iblk m c 5 t) (iblk m c 6 t) (iblk m c 7 t) (iblk m c 9 t) (ix3 h r j) = kH (m ((c : Thread nD τ).loc main_arg0)) (m ((c : Thread nD τ).loc main_arg1)) (m ((c : Thread nD τ).loc main_arg2)) (m ((c : Thread nD τ).loc main_arg3)) (m ((c : Thread nD τ).loc main_arg5)) (ix3 h ⟨512 * w.val + r.val, by omega⟩ j) := by
  have e6 : (fun k => iblk m c 6 t (ix2 r k)) = cosr ⟨512 * w.val + r.val, by omega⟩ := funext fun k => blk6 m c t r k w hw
  have e7 : (fun k => iblk m c 7 t (ix2 r k)) = sinr ⟨512 * w.val + r.val, by omega⟩ := funext fun k => blk7 m c t r k w hw
  have hu := ublk_eq m c t r w hw
  refine (kout_at (iblk m c 0 t) (iblk m c 1 t) (iblk m c 2 t) (iblk m c 3 t) (iblk m c 5 t) (iblk m c 6 t) (iblk m c 7 t) (iblk m c 9 t) (fun k => (m ((c : Thread nD τ).loc main_arg5) : FVec Ideal S64 .f32) (ix1 k)) h r j ?_ (blk9 m c t) (blk5 m c t)).trans ?_
  · rw [hu]
    exact fun k => urow_real _ _ _ _ hf _ ⟨1024 + k.val, by omega⟩
  · rw [hu, e6, e7]
    rfl

/-- The second output array after the last point. -/
theorem finalk (c : Dev nD) (hf : Fin5 (m ((c : Thread nD τ).loc main_arg1)) (m ((c : Thread nD τ).loc main_arg2)) (m ((c : Thread nD τ).loc main_arg3))) :
    (dats m 0 c).arrAt 13 cfg0.N = kH (m ((c : Thread nD τ).loc main_arg0)) (m ((c : Thread nD τ).loc main_arg1)) (m ((c : Thread nD τ).loc main_arg2)) (m ((c : Thread nD τ).loc main_arg3)) (m ((c : Thread nD τ).loc main_arg5)) :=
  (dats m 0 c).arrAt_eq_of_covers 13 _ (by decide +kernel) fun t _ y => by
    have ht := (idx t).2.2.2.2
    have hy0 : (y 0).val < 4 := (y 0).isLt
    have hy1 : (y 1).val < 512 := (y 1).isLt
    have hy2 : (y 2).val < 64 := (y 2).isLt
    have e : (dats m 0 c).after 13 t = kout (iblk m c 0 t) (iblk m c 1 t) (iblk m c 2 t) (iblk m c 3 t) (iblk m c 5 t) (iblk m c 6 t) (iblk m c 7 t) (iblk m c 9 t) := by
      rw [after0_13]
      conv_lhs => unfold outsAt0; dsimp only
      exact out_k (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t)
    have hy : y = ix3 (⟨(y 0).val, hy0⟩ : Fin 4) (⟨(y 1).val, hy1⟩ : Fin 512) (⟨(y 2).val, hy2⟩ : Fin 64) := by
      funext i; apply Fin.ext; fin_cases i <;> rfl
    have key := pointk m c hf t ⟨(y 0).val, hy0⟩ ⟨(y 1).val, hy1⟩ ⟨(y 2).val, hy2⟩ ⟨t.val, ht⟩ rfl
    rw [← hy] at key
    rw [e]
    generalize kout (iblk m c 0 t) (iblk m c 1 t) (iblk m c 2 t) (iblk m c 3 t) (iblk m c 5 t) (iblk m c 6 t) (iblk m c 7 t) (iblk m c 9 t) = f at key ⊢
    generalize kH (m ((c : Thread nD τ).loc main_arg0)) (m ((c : Thread nD τ).loc main_arg1)) (m ((c : Thread nD τ).loc main_arg2)) (m ((c : Thread nD τ).loc main_arg3)) (m ((c : Thread nD τ).loc main_arg5)) = G at key ⊢
    refine key.trans ?_
    blk_simp
    refine congrArg _ ?_
    blk_ext [idx t]

/-- What a point stores of the third output. -/
theorem pointv (c : Dev nD) (t : Fin cfg0.N) (h : Fin 4) (l : Fin 80) (r : Fin 512) (w : Fin 32) (hw : w.val = t.val) :
    vout (iblk m c 0 t) (iblk m c 1 t) (iblk m c 2 t) (iblk m c 3 t) (iblk m c 11 t) (ix3 h l r) = vT (m ((c : Thread nD τ).loc main_arg0)) (m ((c : Thread nD τ).loc main_arg1)) (m ((c : Thread nD τ).loc main_arg2)) (m ((c : Thread nD τ).loc main_arg3)) (ix3 h l ⟨512 * w.val + r.val, by omega⟩) := by
  have hu := ublk_eq m c t r w hw
  refine (vout_at (iblk m c 0 t) (iblk m c 1 t) (iblk m c 2 t) (iblk m c 3 t) (iblk m c 11 t) h l r fun d k => (blk11 m c t d k).trans (by simp only [eq_comm])).trans ?_
  rw [hu]
  rfl

/-- The third output array after the last point. -/
theorem finalv (c : Dev nD) :
    (dats m 0 c).arrAt 14 cfg0.N = vT (m ((c : Thread nD τ).loc main_arg0)) (m ((c : Thread nD τ).loc main_arg1)) (m ((c : Thread nD τ).loc main_arg2)) (m ((c : Thread nD τ).loc main_arg3)) :=
  (dats m 0 c).arrAt_eq_of_covers 14 _ (by decide +kernel) fun t _ y => by
    have ht := (idx t).2.2.2.2
    have hy0 : (y 0).val < 4 := (y 0).isLt
    have hy1 : (y 1).val < 80 := (y 1).isLt
    have hy2 : (y 2).val < 512 := (y 2).isLt
    have e : (dats m 0 c).after 14 t = vout (iblk m c 0 t) (iblk m c 1 t) (iblk m c 2 t) (iblk m c 3 t) (iblk m c 11 t) := by
      rw [after0_14]
      conv_lhs => unfold outsAt0; dsimp only
      exact out_v (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t)
    have hy : y = ix3 (⟨(y 0).val, hy0⟩ : Fin 4) (⟨(y 1).val, hy1⟩ : Fin 80) (⟨(y 2).val, hy2⟩ : Fin 512) := by
      funext i; apply Fin.ext; fin_cases i <;> rfl
    have key := pointv m c t ⟨(y 0).val, hy0⟩ ⟨(y 1).val, hy1⟩ ⟨(y 2).val, hy2⟩ ⟨t.val, ht⟩ rfl
    rw [← hy] at key
    rw [e]
    generalize vout (iblk m c 0 t) (iblk m c 1 t) (iblk m c 2 t) (iblk m c 3 t) (iblk m c 11 t) = f at key ⊢
    generalize vT (m ((c : Thread nD τ).loc main_arg0)) (m ((c : Thread nD τ).loc main_arg1)) (m ((c : Thread nD τ).loc main_arg2)) (m ((c : Thread nD τ).loc main_arg3)) = G at key ⊢
    refine key.trans ?_
    blk_simp
    refine congrArg _ ?_
    blk_ext [idx t]

/-- The word of the queries' scale is a positive real. -/
theorem ofBits_scale : ∃ e : ℝ, 0 < e ∧ Ideal.ofBits .f32 0x3E38AA3B#32 = ((e : ℝ) : EReal) := by
  refine ⟨12102203 * (1 / 67108864), by norm_num, ?_⟩
  simp [Ideal.ofBits, Ideal.ieee, -EReal.coe_mul]; norm_num

/-- The scale divided out again leaves the value, infinite or not. -/
theorem unscale (a : EReal) : Ideal.div (a * Ideal.ofBits .f32 0x3E38AA3B#32) (Ideal.ofBits .f32 0x3E38AA3B#32) = a := by
  obtain ⟨e, he, h⟩ := ofBits_scale
  rw [h, Cert.Attn.div_coe _ e he, mul_assoc, ← EReal.coe_mul, mul_inv_cancel₀ he.ne', EReal.coe_one, mul_one]

/-- The queries that the host reads off the call's result are the reference's. -/
theorem resq (c : Dev nD) (hf : Fin5 (m ((c : Thread nD τ).loc main_arg1)) (m ((c : Thread nD τ).loc main_arg2)) (m ((c : Thread nD τ).loc main_arg3))) :
    Host.divf (F := Ideal) (extf (F := Ideal) .f32 (shapeCast S16384x16x64 (transpose S16384x1024 [1, 0] (Value.reg_main_v85_0 m c) transposes_S1024x16384_S16384x1024_1_0) shapeCasts_S16384x1024_S16384x16x64) bitsLt_bf16_f32)
        (broadcastInDim S16384x16x64 ![] bcast_S_S16384x16x64 (constant S_ .f32 0x3E38AA3B#32))
      = Cert.Reference5Ideal.Read.val_main_v109 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  have e : Value.reg_main_v85_0 m c = qT (m ((c : Thread nD τ).loc main_arg0)) (m ((c : Thread nD τ).loc main_arg1)) (m ((c : Thread nD τ).loc main_arg2)) (m ((c : Thread nD τ).loc main_arg3)) (m ((c : Thread nD τ).loc main_arg4)) := finalq m c hf
  rw [e]
  funext i
  rw [eq_ix3 i]
  refine Eq.trans ?_ (ref_q _ _ _ _ _ (i 0) (i 1) (i 2)).symm
  pointwise [qT]
  exact unscale _

/-- The keys that the host reads off the call's result are the reference's. -/
theorem resk (c : Dev nD) (hf : Fin5 (m ((c : Thread nD τ).loc main_arg1)) (m ((c : Thread nD τ).loc main_arg2)) (m ((c : Thread nD τ).loc main_arg3))) :
    extf (F := Ideal) .f32 (transpose S16384x4x64 [1, 0, 2] (Value.reg_main_v85_1 m c) transposes_S4x16384x64_S16384x4x64_1_0_2) bitsLt_bf16_f32
      = Cert.Reference5Ideal.Read.val_main_v157 (F := Ideal) (m ((c : Thread nD τ).loc main_arg0)) (m ((c : Thread nD τ).loc main_arg1)) (m ((c : Thread nD τ).loc main_arg2)) (m ((c : Thread nD τ).loc main_arg3)) (m ((c : Thread nD τ).loc main_arg5)) := by
  have e : Value.reg_main_v85_1 m c = kH (m ((c : Thread nD τ).loc main_arg0)) (m ((c : Thread nD τ).loc main_arg1)) (m ((c : Thread nD τ).loc main_arg2)) (m ((c : Thread nD τ).loc main_arg3)) (m ((c : Thread nD τ).loc main_arg5)) := finalk m c hf
  rw [e]
  funext i
  rw [eq_ix3 i]
  refine Eq.trans ?_ (ref_k _ _ _ _ _ (i 0) (i 1) (i 2)).symm
  pointwise [kH]

/-- The values that the host reads off the call's result are the reference's. -/
theorem resv (c : Dev nD) :
    extf (F := Ideal) .f32 (transpose S16384x4x64 [2, 0, 1] (extractStridedSlice S4x64x16384 ![0, 0, 0] (Value.reg_main_v85_2 m c) slices_S4x80x16384_S4x64x16384_0_0_0) transposes_S4x64x16384_S16384x4x64_2_0_1) bitsLt_bf16_f32
      = Cert.Reference5Ideal.Read.val_main_v159 (F := Ideal) (m ((c : Thread nD τ).loc main_arg0)) (m ((c : Thread nD τ).loc main_arg1)) (m ((c : Thread nD τ).loc main_arg2)) (m ((c : Thread nD τ).loc main_arg3)) := by
  have e : Value.reg_main_v85_2 m c = vT (m ((c : Thread nD τ).loc main_arg0)) (m ((c : Thread nD τ).loc main_arg1)) (m ((c : Thread nD τ).loc main_arg2)) (m ((c : Thread nD τ).loc main_arg3)) := finalv m c
  rw [e]
  funext i
  rw [eq_ix3 i]
  refine Eq.trans ?_ (ref_v _ _ _ _ (i 0) (i 1) (i 2)).symm
  pointwise [vT]

end Cert.Kernel5Ideal.Qkv

end
-- ==== Proof.Modul.lean ====
/- The modulation vectors: what the kernel leaves is the reference's four results. -/
module

public import proofs.«01_k».proof.Proof.Mlp
public import proofs.«01_k».proof.Proof.Gen.Kernel6Ideal.Run
public import proofs.«01_k».proof.Proof.Gen.Kernel6.Frame
public import proofs.«01_k».proof.Proof.Gen.Reference6Ideal.Read
public import Idealize.ShloMosaic.Lib.Pipeline.ValueKit
public import Idealize.ShloMosaic.Lib.Claim

@[expose] public section

set_option maxRecDepth 65536

noncomputable section

open Idealize.ShloMosaic Idealize.ShloMosaic.TcCoe Idealize.SL.Sem
open Idealize.ShloMosaic.Pipeline (Dat)

namespace Cert.Kernel6Ideal.Modul

open Cert.Kernel6Ideal Cert.Kernel6Ideal.Gen

/-- The gated condition's product with a column of the weights, and the bias. -/
def mv (a w : Fin 1024 → EReal) (b : EReal) : EReal := (∑ k, a k * Ideal.logistic (a k) * w k) + b

/-- The first stored row at a lane. -/
theorem row0_at (x0 : FVec Ideal S2x1024x128 .f32) (x1 : FVec Ideal S1x1024x1024 .f32) (x2 : FVec Ideal S1x1x1024 .f32) (a : Fin 1024 → EReal)
    (ha : ∀ (k : Fin 1024) (l : Fin 128), x0 (ix3 0 k l) = a k) (e : Fin 1024) :
    out0_3 (F := Ideal) x0 x1 x2 (ix3 0 0 e) = mv a (fun k => x1 (ix3 0 k e)) (x2 (ix3 0 0 e)) := by
  unfold out0_3
  rw [View.canon_unit_zero (S := S1x8x1024) (by decide)]
  pointwise [k0_pay1, k0_pay14, k0_pay9, k0_pay2, k0_pay3, k0_pay4, k0_pay5, k0_pay6, k0_pay7, k0_pay8]
  simp only [ha]
  unfold mv
  refine congrArg (fun z => z + x2 (ix3 0 0 e)) ?_
  split_ifs
  all_goals
    refine Finset.sum_congr rfl fun k _ => (mul_comm _ _).trans (congrArg (fun z => a k * Ideal.logistic (a k) * z) (congrArg x1 ?_))
    first
      | rfl
      | exact congrArg (ix3 0 k) (Fin.ext (by simp only []; omega))

/-- The second stored row at a lane. -/
theorem row1_at (x0 : FVec Ideal S2x1024x128 .f32) (x1 : FVec Ideal S1x1024x1024 .f32) (x2 : FVec Ideal S1x1x1024 .f32) (a : Fin 1024 → EReal)
    (ha : ∀ (k : Fin 1024) (l : Fin 128), x0 (ix3 1 k l) = a k) (e : Fin 1024) :
    out0_3 (F := Ideal) x0 x1 x2 (ix3 0 1 e) = mv a (fun k => x1 (ix3 0 k e)) (x2 (ix3 0 0 e)) := by
  unfold out0_3
  rw [View.canon_unit_zero (S := S1x8x1024) (by decide)]
  pointwise [k0_pay1, k0_pay14, k0_pay10, k0_pay11, k0_pay12, k0_pay13]
  simp only [ha]
  unfold mv
  refine congrArg (fun z => z + x2 (ix3 0 0 e)) ?_
  split_ifs
  all_goals
    refine Finset.sum_congr rfl fun k _ => (mul_comm _ _).trans (congrArg (fun z => a k * Ideal.logistic (a k) * z) (congrArg x1 ?_))
    first
      | rfl
      | exact congrArg (ix3 0 k) (Fin.ext (by simp only []; omega))

/-- The other stored rows are zeros. -/
theorem rows_at (x0 : FVec Ideal S2x1024x128 .f32) (x1 : FVec Ideal S1x1024x1024 .f32) (x2 : FVec Ideal S1x1x1024 .f32) (r : Fin 8) (h0 : r.val ≠ 0) (h1 : r.val ≠ 1) (e : Fin 1024) :
    out0_3 (F := Ideal) x0 x1 x2 (ix3 0 r e) = 0 := by
  unfold out0_3
  rw [View.canon_unit_zero (S := S1x8x1024) (by decide)]
  pointwise [k0_pay1, k0_pay14]
  rw [dif_neg (by omega), dif_neg (by omega)]

/-- Every window's block at every grid point. -/
theorem idx : ∀ t : Fin cfg0.N, win0_0.index t = ![0, 0, 0] ∧ win0_1.index t = ![t.val / 6, 0, t.val % 6] ∧ win0_2.index t = ![t.val / 6, 0, t.val % 6]
    ∧ win0_3.index t = ![t.val / 6, 0, t.val % 6] ∧ t.val < 12 :=
  (by decide +kernel : ∀ t : Fin grid0.N, _)

open Cert.Reference6Ideal.Read in
/-- The reference's first result at an index. -/
theorem ref0_at (x : FVec Ideal S1x1024 .f32) (w : FVec Ideal S2x1024x6144 .f32) (b : FVec Ideal S2x6144 .f32) (e : Fin 6144) :
    val_main_v7 (F := Ideal) x w b (ix2 0 e) = mv (fun k => x (ix2 0 k)) (fun k => w (ix3 0 k e)) (b (ix2 0 e)) := by
  pointwise [val_main_v7, val_main_v6, val_main_v5, val_main_v4, val_main_v3, val_main_v2, val_main_v1, val_main_v0, val_main_call0_v5, val_main_call0_v4, val_main_call0_v3, val_main_call0_v2, val_main_call0_v1, val_main_call0_v0, val_main_call0_cst, val_main_call0_cst_0]
  unfold mv Ideal.logistic
  simp

open Cert.Reference6Ideal.Read in
/-- The reference's second result at an index. -/
theorem ref1_at (x : FVec Ideal S1024 .f32) (w : FVec Ideal S2x1024x6144 .f32) (b : FVec Ideal S2x6144 .f32) (e : Fin 6144) :
    val_main_v14 (F := Ideal) x w b (ix1 e) = mv (fun k => x (ix1 k)) (fun k => w (ix3 0 k e)) (b (ix2 0 e)) := by
  pointwise [val_main_v14, val_main_v13, val_main_v12, val_main_v11, val_main_v10, val_main_v9, val_main_v8, val_main_call1_v5, val_main_call1_v4, val_main_call1_v3, val_main_call1_v2, val_main_call1_v1, val_main_call1_v0, val_main_call1_cst, val_main_call1_cst_0]
  unfold mv Ideal.logistic
  simp

open Cert.Reference6Ideal.Read in
/-- The reference's third result at an index. -/
theorem ref2_at (x : FVec Ideal S1x1024 .f32) (w : FVec Ideal S2x1024x6144 .f32) (b : FVec Ideal S2x6144 .f32) (e : Fin 6144) :
    val_main_v22 (F := Ideal) x w b (ix2 0 e) = mv (fun k => x (ix2 0 k)) (fun k => w (ix3 1 k e)) (b (ix2 1 e)) := by
  pointwise [val_main_v22, val_main_v21, val_main_v20, val_main_v19, val_main_v18, val_main_v17, val_main_v16, val_main_v15, val_main_call2_v5, val_main_call2_v4, val_main_call2_v3, val_main_call2_v2, val_main_call2_v1, val_main_call2_v0, val_main_call2_cst, val_main_call2_cst_0]
  unfold mv Ideal.logistic
  simp

open Cert.Reference6Ideal.Read in
/-- The reference's fourth result at an index. -/
theorem ref3_at (x : FVec Ideal S1024 .f32) (w : FVec Ideal S2x1024x6144 .f32) (b : FVec Ideal S2x6144 .f32) (e : Fin 6144) :
    val_main_v29 (F := Ideal) x w b (ix1 e) = mv (fun k => x (ix1 k)) (fun k => w (ix3 1 k e)) (b (ix2 1 e)) := by
  pointwise [val_main_v29, val_main_v28, val_main_v27, val_main_v26, val_main_v25, val_main_v24, val_main_v23, val_main_call3_v5, val_main_call3_v4, val_main_call3_v3, val_main_call3_v2, val_main_call3_v1, val_main_call3_v0, val_main_call3_cst, val_main_call3_cst_0]
  unfold mv Ideal.logistic
  simp

variable (m : (ℓ : Loc nD τ sig) → Buf (Elt Ideal) ℓ)

/-- The two conditions, over the lanes, as the host prepares them. -/
def lanes (x : FVec Ideal S1x1024 .f32) (y : FVec Ideal S1024 .f32) : FVec Ideal S2x1024x128 .f32 :=
  broadcastInDim S2x1024x128 ![0, 1, 2] bcast_S2x1024x1_S2x1024x128_0_1_2 (broadcastInDim S2x1024x1 ![0, 1] bcast_S2x1024_S2x1024x1_0_1
    (concatenate S2x1024 0 [⟨S1x1024, broadcastInDim S1x1024 ![1] bcast_S1024_S1x1024_1 (shapeCast S1024 x shapeCasts_S1x1024_S1024)⟩,
      ⟨S1x1024, broadcastInDim S1x1024 ![1] bcast_S1024_S1x1024_1 y⟩] concatenates_S1x1024_S1x1024_S2x1024_d0))

/-- The prepared conditions: the latent rows'. -/
theorem lanes_0 (x : FVec Ideal S1x1024 .f32) (y : FVec Ideal S1024 .f32) (k : Fin 1024) (l : Fin 128) : lanes x y (ix3 0 k l) = x (ix2 0 k) := by
  pointwise [lanes]

/-- The prepared conditions: the context rows'. -/
theorem lanes_1 (x : FVec Ideal S1x1024 .f32) (y : FVec Ideal S1024 .f32) (k : Fin 1024) (l : Fin 128) : lanes x y (ix3 1 k l) = y (ix1 k) := by
  pointwise [lanes]

/-- What window 0 stages: the prepared conditions. -/
theorem entry0 (c : Dev nD) : V m c main_v5 = lanes (m ((c : Thread nD τ).loc main_arg0)) (m ((c : Thread nD τ).loc main_arg1)) := by
  unfold V V0
  simp only [hostOps0, List.flatten_cons, List.flatten_nil, List.append_nil, List.cons_append, List.nil_append]
  after_results
  rfl

/-- What window 2 stages: the biases. -/
theorem entry2 (c : Dev nD) : V m c main_v6 = shapeCast S2x1x6144 (m ((c : Thread nD τ).loc main_arg3)) shapeCasts_S2x6144_S2x1x6144 := by
  unfold V V0
  simp only [hostOps0, List.flatten_cons, List.flatten_nil, List.append_nil, List.cons_append, List.nil_append]
  after_results
  rfl

/-- The block of the conditions a point stages. -/
theorem blk0 (c : Dev nD) (t : Fin cfg0.N) (r : Fin 2) (k : Fin 1024) (l : Fin 128) :
    iblk m c 0 t (ix3 r k l) = lanes (m ((c : Thread nD τ).loc main_arg0)) (m ((c : Thread nD τ).loc main_arg1)) (ix3 r k l) := by
  rw [← entry0 m c]
  blk_simp [iblk]
  refine congrArg (V m c main_v5) ?_
  blk_ext [idx t]

/-- The block of the weights a point stages. -/
theorem blk1 (c : Dev nD) (t : Fin cfg0.N) (k e : Fin 1024) (l : Fin 2) (j : Fin 6) (hl : l.val = t.val / 6) (hj : j.val = t.val % 6) :
    iblk m c 1 t (ix3 0 k e) = (m ((c : Thread nD τ).loc main_arg2) : FVec Ideal S2x1024x6144 .f32) (ix3 l k ⟨1024 * j.val + e.val, by omega⟩) := by
  have h : (V m c main_arg2 : FVec Ideal S2x1024x6144 .f32) (ix3 l k ⟨1024 * j.val + e.val, by omega⟩) = _ := congrFun (V_main_arg2 m c) _
  rw [← h]
  blk_simp [iblk]
  refine congrArg (V m c main_arg2) ?_
  blk_ext [idx t, hl, hj]

/-- The biases as the host reshapes them. -/
theorem bias_at (x : FVec Ideal S2x6144 .f32) (l : Fin 2) (e : Fin 6144) : shapeCast S2x1x6144 x shapeCasts_S2x6144_S2x1x6144 (ix3 l 0 e) = x (ix2 l e) := by
  pointwise

/-- The block of the biases a point stages. -/
theorem blk2 (c : Dev nD) (t : Fin cfg0.N) (e : Fin 1024) (l : Fin 2) (j : Fin 6) (hl : l.val = t.val / 6) (hj : j.val = t.val % 6) :
    iblk m c 2 t (ix3 0 0 e) = (m ((c : Thread nD τ).loc main_arg3) : FVec Ideal S2x6144 .f32) (ix2 l ⟨1024 * j.val + e.val, by omega⟩) := by
  have h : (V m c main_v6 : FVec Ideal S2x1x6144 .f32) (ix3 l 0 ⟨1024 * j.val + e.val, by omega⟩) = (m ((c : Thread nD τ).loc main_arg3) : FVec Ideal S2x6144 .f32) (ix2 l ⟨1024 * j.val + e.val, by omega⟩) := by
    rw [entry2 m c]
    exact bias_at _ l _
  rw [← h]
  blk_simp [iblk]
  refine congrArg (V m c main_v6) ?_
  blk_ext [idx t, hl, hj]

/-- What the call leaves: in each layer the latent rows' vector, the context rows' vector and rows of zeros. -/
def G (x : FVec Ideal S1x1024 .f32) (y : FVec Ideal S1024 .f32) (w : FVec Ideal S2x1024x6144 .f32) (b : FVec Ideal S2x6144 .f32) : FVec Ideal S2x8x6144 .f32 :=
  fun i => if (i 1).val = 0 then mv (fun k => x (ix2 0 k)) (fun k => w (ix3 (i 0) k (i 2))) (b (ix2 (i 0) (i 2)))
    else if (i 1).val = 1 then mv (fun k => y (ix1 k)) (fun k => w (ix3 (i 0) k (i 2))) (b (ix2 (i 0) (i 2))) else 0

/-- What a point stores. -/
theorem point (c : Dev nD) (t : Fin cfg0.N) (r : Fin 8) (e : Fin 1024) (l : Fin 2) (j : Fin 6) (hl : l.val = t.val / 6) (hj : j.val = t.val % 6) :
    out0_3 (F := Ideal) (iblk m c 0 t) (iblk m c 1 t) (iblk m c 2 t) (ix3 0 r e)
      = G (m ((c : Thread nD τ).loc main_arg0)) (m ((c : Thread nD τ).loc main_arg1)) (m ((c : Thread nD τ).loc main_arg2)) (m ((c : Thread nD τ).loc main_arg3)) (ix3 l r ⟨1024 * j.val + e.val, by omega⟩) := by
  have e1 : (fun k => iblk m c 1 t (ix3 0 k e)) = fun k => (m ((c : Thread nD τ).loc main_arg2) : FVec Ideal S2x1024x6144 .f32) (ix3 l k ⟨1024 * j.val + e.val, by omega⟩) := funext fun k => blk1 m c t k e l j hl hj
  by_cases h0 : r.val = 0
  · obtain rfl : r = 0 := Fin.ext h0
    refine (row0_at (iblk m c 0 t) (iblk m c 1 t) (iblk m c 2 t) (fun k => (m ((c : Thread nD τ).loc main_arg0) : FVec Ideal S1x1024 .f32) (ix2 0 k)) (fun k l => (blk0 m c t 0 k l).trans (lanes_0 _ _ k l)) e).trans ?_
    rw [e1, blk2 m c t e l j hl hj]
    rfl
  · by_cases h1 : r.val = 1
    · obtain rfl : r = 1 := Fin.ext h1
      refine (row1_at (iblk m c 0 t) (iblk m c 1 t) (iblk m c 2 t) (fun k => (m ((c : Thread nD τ).loc main_arg1) : FVec Ideal S1024 .f32) (ix1 k)) (fun k l => (blk0 m c t 1 k l).trans (lanes_1 _ _ k l)) e).trans ?_
      rw [e1, blk2 m c t e l j hl hj]
      rfl
    · refine (rows_at (iblk m c 0 t) (iblk m c 1 t) (iblk m c 2 t) r h0 h1 e).trans ?_
      exact ((if_neg h0).trans (if_neg h1)).symm

/-- The output array after the last point. -/
theorem final (c : Dev nD) :
    (dats m 0 c).arrAt 3 cfg0.N = G (m ((c : Thread nD τ).loc main_arg0)) (m ((c : Thread nD τ).loc main_arg1)) (m ((c : Thread nD τ).loc main_arg2)) (m ((c : Thread nD τ).loc main_arg3)) :=
  (dats m 0 c).arrAt_eq_of_covers 3 _ (by decide +kernel) fun t _ y => by
    have ht := (idx t).2.2.2.2
    have hy1 : (y 1).val < 8 := (y 1).isLt
    have hy2 : (y 2).val < 1024 := (y 2).isLt
    rw [after0_3]
    have hy : y = ix3 (0 : Fin 1) (⟨(y 1).val, hy1⟩ : Fin 8) (⟨(y 2).val, hy2⟩ : Fin 1024) := by
      have hy0 : (y 0).val < 1 := (y 0).isLt
      funext i; apply Fin.ext; fin_cases i
      · show (y 0).val = 0
        omega
      · rfl
      · rfl
    have key := point m c t ⟨(y 1).val, hy1⟩ ⟨(y 2).val, hy2⟩ ⟨t.val / 6, by omega⟩ ⟨t.val % 6, by omega⟩ rfl rfl
    rw [← hy] at key
    generalize out0_3 (F := Ideal) (iblk m c 0 t) (iblk m c 1 t) (iblk m c 2 t) = f at key ⊢
    generalize G (m ((c : Thread nD τ).loc main_arg0)) (m ((c : Thread nD τ).loc main_arg1)) (m ((c : Thread nD τ).loc main_arg2)) (m ((c : Thread nD τ).loc main_arg3)) = g at key ⊢
    refine key.trans ?_
    blk_simp
    refine congrArg _ ?_
    blk_ext [idx t]

/-- The first vector that the host reads off the call's result is the reference's. -/
theorem res0 (c : Dev nD) :
    shapeCast S1x6144 (extractStridedSlice S1x1x6144 ![0, 0, 0] (Value.reg_main_v7 m c) slices_S2x8x6144_S1x1x6144_0_0_0) shapeCasts_S1x1x6144_S1x6144
      = Cert.Reference6Ideal.Read.val_main_v7 (F := Ideal) (m ((c : Thread nD τ).loc main_arg0)) (m ((c : Thread nD τ).loc main_arg2)) (m ((c : Thread nD τ).loc main_arg3)) := by
  have e : Value.reg_main_v7 m c = G (m ((c : Thread nD τ).loc main_arg0)) (m ((c : Thread nD τ).loc main_arg1)) (m ((c : Thread nD τ).loc main_arg2)) (m ((c : Thread nD τ).loc main_arg3)) := final m c
  rw [e]
  funext i
  obtain ⟨e, rfl⟩ : ∃ e : Fin 6144, i = ix2 (0 : Fin 1) e := ⟨i 1, by
    have hi0 : (i 0).val < 1 := (i 0).isLt
    funext k; apply Fin.ext; fin_cases k
    · show (i 0).val = 0
      omega
    · rfl⟩
  refine Eq.trans ?_ (ref0_at _ _ _ e).symm
  pointwise [G]

/-- The second vector that the host reads off the call's result is the reference's. -/
theorem res1 (c : Dev nD) :
    shapeCast S6144 (extractStridedSlice S1x1x6144 ![0, 1, 0] (Value.reg_main_v7 m c) slices_S2x8x6144_S1x1x6144_0_1_0) shapeCasts_S1x1x6144_S6144
      = Cert.Reference6Ideal.Read.val_main_v14 (F := Ideal) (m ((c : Thread nD τ).loc main_arg1)) (m ((c : Thread nD τ).loc main_arg2)) (m ((c : Thread nD τ).loc main_arg3)) := by
  have e : Value.reg_main_v7 m c = G (m ((c : Thread nD τ).loc main_arg0)) (m ((c : Thread nD τ).loc main_arg1)) (m ((c : Thread nD τ).loc main_arg2)) (m ((c : Thread nD τ).loc main_arg3)) := final m c
  rw [e]
  funext i
  obtain ⟨e, rfl⟩ : ∃ e : Fin 6144, i = ix1 e := ⟨i 0, by
    funext k; apply Fin.ext; fin_cases k; rfl⟩
  refine Eq.trans ?_ (ref1_at _ _ _ e).symm
  pointwise [G]

/-- The third vector that the host reads off the call's result is the reference's. -/
theorem res2 (c : Dev nD) :
    shapeCast S1x6144 (extractStridedSlice S1x1x6144 ![1, 0, 0] (Value.reg_main_v7 m c) slices_S2x8x6144_S1x1x6144_1_0_0) shapeCasts_S1x1x6144_S1x6144
      = Cert.Reference6Ideal.Read.val_main_v22 (F := Ideal) (m ((c : Thread nD τ).loc main_arg0)) (m ((c : Thread nD τ).loc main_arg2)) (m ((c : Thread nD τ).loc main_arg3)) := by
  have e : Value.reg_main_v7 m c = G (m ((c : Thread nD τ).loc main_arg0)) (m ((c : Thread nD τ).loc main_arg1)) (m ((c : Thread nD τ).loc main_arg2)) (m ((c : Thread nD τ).loc main_arg3)) := final m c
  rw [e]
  funext i
  obtain ⟨e, rfl⟩ : ∃ e : Fin 6144, i = ix2 (0 : Fin 1) e := ⟨i 1, by
    have hi0 : (i 0).val < 1 := (i 0).isLt
    funext k; apply Fin.ext; fin_cases k
    · show (i 0).val = 0
      omega
    · rfl⟩
  refine Eq.trans ?_ (ref2_at _ _ _ e).symm
  pointwise [G]

/-- The fourth vector that the host reads off the call's result is the reference's. -/
theorem res3 (c : Dev nD) :
    shapeCast S6144 (extractStridedSlice S1x1x6144 ![1, 1, 0] (Value.reg_main_v7 m c) slices_S2x8x6144_S1x1x6144_1_1_0) shapeCasts_S1x1x6144_S6144
      = Cert.Reference6Ideal.Read.val_main_v29 (F := Ideal) (m ((c : Thread nD τ).loc main_arg1)) (m ((c : Thread nD τ).loc main_arg2)) (m ((c : Thread nD τ).loc main_arg3)) := by
  have e : Value.reg_main_v7 m c = G (m ((c : Thread nD τ).loc main_arg0)) (m ((c : Thread nD τ).loc main_arg1)) (m ((c : Thread nD τ).loc main_arg2)) (m ((c : Thread nD τ).loc main_arg3)) := final m c
  rw [e]
  funext i
  obtain ⟨e, rfl⟩ : ∃ e : Fin 6144, i = ix1 e := ⟨i 0, by
    funext k; apply Fin.ext; fin_cases k; rfl⟩
  refine Eq.trans ?_ (ref3_at _ _ _ e).symm
  pointwise [G]

end Cert.Kernel6Ideal.Modul

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_finite
public import proofs.«01_k».proof.Proof.Gen.Pre_finite5
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Run
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Run
public import proofs.«01_k».proof.Proof.Gen.Reference6Ideal
public import proofs.«01_k».proof.Proof.Gen.Reference6Ideal.Run
public import proofs.«01_k».proof.Proof.Gen.Reference6Ideal.Read
public import proofs.«01_k».proof.Proof.Value
public import proofs.«01_k».proof.Proof.AttnOut
public import proofs.«01_k».proof.Proof.Layer0
public import proofs.«01_k».proof.Proof.Inproj
public import proofs.«01_k».proof.Proof.Qkv
public import proofs.«01_k».proof.Proof.Modul
public import Idealize.ShloMosaic.Adequacy
public import Idealize.ShloMosaic.Init
public import Idealize.ShloMosaic.Lib.Claim
public import Idealize.ShloMosaic.Lib.Quiescent

@[expose] public section

set_option maxRecDepth 65536

noncomputable section

namespace Cert.Proof

open Idealize.ShloMosaic Idealize.SL.Sem

/-- The two programs have one body table of their kernels. -/
theorem bodies : @Cert.Kernel.defs₀ Bits _ Cert.Kernel.Gen.facts = @Cert.KernelIdeal.defs₀ Bits _ Cert.KernelIdeal.Gen.facts := by
  unfold Cert.Kernel.defs₀ Cert.KernelIdeal.defs₀
  refine congrArg _ (funext fun l => funext fun a => ?_)
  match l, a with
  | 0, (t, s) => rfl

/-- The two programs have one body table. -/
theorem tables : @Cert.Kernel.defs Bits _ Cert.Kernel.Gen.facts = @Cert.KernelIdeal.defs Bits _ Cert.KernelIdeal.Gen.facts :=
  congrArg (Pipeline.defs Cert.KernelIdeal.pcfgs) bodies

set_option maxHeartbeats 2000000 in
/-- The kernel's frame, from the ideal program's run over any float values. -/
theorem frame_kernel : Cert.quiescent_Kernel := fun m ρ _ => by
  have h := Cert.KernelIdeal.Attn.frame_any (F := Bits) m ρ
  rw [← tables] at h
  exact h

/-- The ideal program's frame. -/
theorem frame_ideal : Cert.quiescent_KernelIdeal := fun m ρ _ => Cert.KernelIdeal.Attn.frame_any m ρ

/-- The reference runs, its arguments end unchanged and every counter at zero. -/
theorem ref_frame : Cert.quiescent_ReferenceIdeal := fun m g _ =>
  (θ_run Cert.ReferenceIdeal.defs _ _).mono
    (fun r h => ⟨fun c => (h c).2, sem_eq_zero_of_no_sems (by decide) r.2⟩)
    (Cert.ReferenceIdeal.Value.run (F := Ideal) m g)

/-- The kernel's result is the reference's, at the ideal reading. -/
theorem algebraic : Cert.algebraic_KernelIdeal_ReferenceIdeal_pre_finite := by
  pair_intro
  · run_from Cert.KernelIdeal.Attn.launched m g
  · refine (θ_run Cert.ReferenceIdeal.defs _ _).mono (fun r h c => ⟨?_, (h c).2⟩) (Cert.ReferenceIdeal.Value.run (F := Ideal) m' g')
    obtain ⟨hq, hkc, hkl⟩ := Cert.Attn.finite_real _ _ _ _ _ (hpre c)
    obtain ⟨a0, a1, a2, a3, a4⟩ := hagree c
    refine (h c).1.trans ((Cert.ReferenceIdeal.Read.val_main_v23_eq (F := Ideal) _ _ _ _ _).trans ?_)
    rw [a0, a1, a2, a3, a4]
    exact (Cert.KernelIdeal.Attn.final m c hq hkc hkl).symm

/-- The reference of the attention's output projection and the MLP runs, its arguments end unchanged and every counter at zero. -/
theorem ref_frame2 : Cert.quiescent_Reference2Ideal := fun m g _ =>
  (θ_run Cert.Reference2Ideal.defs _ _).mono
    (fun r h => ⟨fun c => (h c).2, sem_eq_zero_of_no_sems (by decide) r.2⟩)
    (Cert.Reference2Ideal.Value.run (F := Ideal) m g)

/-- The result of the attention's output projection and the MLP is the reference's, at the ideal reading. -/
theorem algebraic2 : Cert.algebraic_Kernel2Ideal_Reference2Ideal := by
  pair_intro
  · run_from Cert.Kernel2Ideal.Value.run_blocks m g
  · refine (θ_run Cert.Reference2Ideal.defs _ _).mono (fun r h c => ⟨?_, (h c).2⟩) (Cert.Reference2Ideal.Value.run (F := Ideal) m' g')
    obtain ⟨a0, a1, a2, a3, a4, a5, a6⟩ := hagree c
    refine (h c).1.trans ((Cert.Reference2Ideal.Read.val_main_v68_eq (F := Ideal) _ _).trans ?_)
    rw [a0, a1, a2, a3, a4, a5, a6]
    exact (Cert.Kernel2Ideal.AttnOut.final m c).symm

/-- The reference of the MLP runs, its arguments end unchanged and every counter at zero. -/
theorem ref_frame3 : Cert.quiescent_Reference3Ideal := fun m g _ =>
  (θ_run Cert.Reference3Ideal.defs _ _).mono
    (fun r h => ⟨fun c => (h c).2, sem_eq_zero_of_no_sems (by decide) r.2⟩)
    (Cert.Reference3Ideal.Value.run (F := Ideal) m g)

/-- The result of the MLP is the reference's, at the ideal reading. -/
theorem algebraic3 : Cert.algebraic_Kernel3Ideal_Reference3Ideal := by
  pair_intro
  · run_from Cert.Kernel3Ideal.Value.run_blocks m g
  · refine (θ_run Cert.Reference3Ideal.defs _ _).mono (fun r h c => ⟨?_, (h c).2⟩) (Cert.Reference3Ideal.Value.run (F := Ideal) m' g')
    obtain ⟨a0, a1, a2, a3, a4⟩ := hagree c
    refine (h c).1.trans ((Cert.Reference3Ideal.Read.val_main_v49_eq (F := Ideal) _ _).trans ?_)
    rw [a0, a1, a2, a3, a4]
    exact (Cert.Kernel3Ideal.Mlp.final m c).symm

/-- The reference of the input projection runs, its arguments end unchanged and every counter at zero. -/
theorem ref_frame4 : Cert.quiescent_Reference4Ideal := fun m g _ =>
  (θ_run Cert.Reference4Ideal.defs _ _).mono
    (fun r h => ⟨fun c => (h c).2, sem_eq_zero_of_no_sems (by decide) r.2⟩)
    (Cert.Reference4Ideal.Value.run (F := Ideal) m g)

/-- The result of the input projection is the reference's, at the ideal reading. -/
theorem algebraic4 : Cert.algebraic_Kernel4Ideal_Reference4Ideal := by
  pair_intro
  · run_from Cert.Kernel4Ideal.Value.run_blocks m g
  · refine (θ_run Cert.Reference4Ideal.defs _ _).mono (fun r h c => ⟨?_, (h c).2⟩) (Cert.Reference4Ideal.Value.run (F := Ideal) m' g')
    obtain ⟨a0, a1, a2, a3⟩ := hagree c
    refine (h c).1.trans ((Cert.Reference4Ideal.Read.val_main_v28_eq (F := Ideal) _ _ _ _).trans ?_)
    rw [a0, a1, a2, a3]
    exact (Cert.Kernel4Ideal.Inproj.final m c).symm

/-- The reference of the projection to queries, keys and values runs, its arguments end unchanged and every counter at zero. -/
theorem ref_frame5 : Cert.quiescent_Reference5Ideal := fun m g _ =>
  (θ_run Cert.Reference5Ideal.defs _ _).mono
    (fun r h => ⟨fun c => (h c).2.2.2, sem_eq_zero_of_no_sems (by decide) r.2⟩)
    (Cert.Reference5Ideal.Value.run (F := Ideal) m g)

/-- The queries, the keys and the values are the reference's, at the ideal reading. -/
theorem algebraic5 : Cert.algebraic_Kernel5Ideal_Reference5Ideal_pre_finite5 := by
  pair_intro
  · run_from Cert.Kernel5Ideal.Value.run m g
  · refine (θ_run Cert.Reference5Ideal.defs _ _).mono (fun r h c => ⟨?_, ?_, ?_, (h c).2.2.2⟩) (Cert.Reference5Ideal.Value.run (F := Ideal) m' g')
    all_goals
      have hf := Cert.Kernel5Ideal.Qkv.finite5_real _ _ _ _ _ _ (hpre c)
      obtain ⟨a0, a1, a2, a3, a4, a5⟩ := hagree c
    · refine (h c).1.trans ((Cert.Reference5Ideal.Read.val_main_v109_eq (F := Ideal) _ _).trans ?_)
      rw [a0, a1, a2, a3, a4]
      exact (Cert.Kernel5Ideal.Qkv.resq m c hf).symm
    · refine (h c).2.1.trans ((Cert.Reference5Ideal.Read.val_main_v157_eq (F := Ideal) _ _).trans ?_)
      rw [a0, a1, a2, a3, a5]
      exact (Cert.Kernel5Ideal.Qkv.resk m c hf).symm
    · refine (h c).2.2.1.trans ((Cert.Reference5Ideal.Read.val_main_v159_eq (F := Ideal) _ _ _ _).trans ?_)
      rw [a0, a1, a2, a3]
      exact (Cert.Kernel5Ideal.Qkv.resv m c).symm

/-- The reference of the modulation vectors runs, its arguments end unchanged and every counter at zero. -/
theorem ref_frame6 : Cert.quiescent_Reference6Ideal := fun m g _ =>
  (θ_run Cert.Reference6Ideal.defs _ _).mono
    (fun r h => ⟨fun c => (h c).2.2.2.2, sem_eq_zero_of_no_sems (by decide) r.2⟩)
    (Cert.Reference6Ideal.Value.run (F := Ideal) m g)

/-- The four modulation vectors are the reference's, at the ideal reading. -/
theorem algebraic6 : Cert.algebraic_Kernel6Ideal_Reference6Ideal := by
  pair_intro
  · run_from Cert.Kernel6Ideal.Value.run m g
  · refine (θ_run Cert.Reference6Ideal.defs _ _).mono (fun r h c => ⟨?_, ?_, ?_, ?_, (h c).2.2.2.2⟩) (Cert.Reference6Ideal.Value.run (F := Ideal) m' g')
    all_goals obtain ⟨a0, a1, a2, a3⟩ := hagree c
    · refine (h c).1.trans ((Cert.Reference6Ideal.Read.val_main_v7_eq (F := Ideal) _ _ _).trans ?_)
      rw [a0, a2, a3]
      exact (Cert.Kernel6Ideal.Modul.res0 m c).symm
    · refine (h c).2.1.trans ((Cert.Reference6Ideal.Read.val_main_v14_eq (F := Ideal) _ _ _).trans ?_)
      rw [a1, a2, a3]
      exact (Cert.Kernel6Ideal.Modul.res1 m c).symm
    · refine (h c).2.2.1.trans ((Cert.Reference6Ideal.Read.val_main_v22_eq (F := Ideal) _ _ _).trans ?_)
      rw [a0, a2, a3]
      exact (Cert.Kernel6Ideal.Modul.res2 m c).symm
    · refine (h c).2.2.2.1.trans ((Cert.Reference6Ideal.Read.val_main_v29_eq (F := Ideal) _ _ _).trans ?_)
      rw [a1, a2, a3]
      exact (Cert.Kernel6Ideal.Modul.res3 m c).symm

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts, Cert.Pre_finite.Gen.facts, Cert.Pre_finite5.Gen.facts,
  frame_kernel, frame_ideal, fun m ρ _ => frame_ideal m ρ trivial, ref_frame, fun m g _ => ref_frame m g trivial,
  fun m ρ _ => Cert.Kernel2.Gen.frame m ρ, fun m ρ _ => Cert.Kernel2Ideal.Gen.frame m ρ, ref_frame2,
  fun m ρ _ => Cert.Kernel3.Gen.frame m ρ, fun m ρ _ => Cert.Kernel3Ideal.Gen.frame m ρ, ref_frame3,
  fun m ρ _ => Cert.Kernel4.Gen.frame m ρ, fun m ρ _ => Cert.Kernel4Ideal.Gen.frame m ρ, ref_frame4,
  fun m ρ _ => Cert.Kernel5.Gen.frame m ρ, fun m ρ _ => Cert.Kernel5Ideal.Gen.frame m ρ, fun m ρ _ => Cert.Kernel5Ideal.Gen.frame m ρ,
  ref_frame5, fun m g _ => ref_frame5 m g trivial,
  fun m ρ _ => Cert.Kernel6.Gen.frame m ρ, fun m ρ _ => Cert.Kernel6Ideal.Gen.frame m ρ, ref_frame6,
  trivial, algebraic, trivial, algebraic2, trivial, algebraic3, trivial, algebraic4, trivial, algebraic5, trivial, algebraic6⟩

end Cert.Proof

end
